-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_norm [hPre_finite_norm : Cert.Pre_finite_norm.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_norm.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).1 = (fun _ => 1#1)
    ∧ (Cert.Pre_finite_norm.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_norm [hPre_finite_norm : Cert.Pre_finite_norm.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_norm.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).1 = (fun _ => 1#1)
    ∧ (Cert.Pre_finite_norm.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite_norm [hKernel17Ideal : Cert.Kernel17Ideal.Facts] [hPre_finite_norm : Cert.Pre_finite_norm.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_norm m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite_norm [hReference17Ideal : Cert.Reference17Ideal.Facts] [hPre_finite_norm : Cert.Pre_finite_norm.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_norm m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def preserves_Kernel_KernelIdeal : Prop :=
  IdealRules.named_const.Statement Cert.KernelIdeal.κ "sqrt_half" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v130) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v131) = v3 c
          ∧ r.2.mem ((c.tc : Thread Cert.ReferenceIdeal.nD Cert.ReferenceIdeal.τ).loc Cert.ReferenceIdeal.main_v132) = v4 c
          ∧ r.2.mem ((c.tc : Thread Cert.ReferenceIdeal.nD Cert.ReferenceIdeal.τ).loc Cert.ReferenceIdeal.main_v133) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_v4) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v7) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v6)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v8) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v8) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)) (v2 : (c : Dev Cert.Kernel15Ideal.nD) → Buf (Elt Ideal) ((c.tc : Thread Cert.Kernel15Ideal.nD Cert.Kernel15Ideal.τ).loc Cert.Kernel15Ideal.main_v2_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_v2_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v27) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v4_0)) (v1 : (c : Dev Cert.Kernel16Ideal.nD) → Buf (Elt Ideal) ((c.tc : Thread Cert.Kernel16Ideal.nD Cert.Kernel16Ideal.τ).loc Cert.Kernel16Ideal.main_v4_1)) (v2 : (c : Dev Cert.Kernel16Ideal.nD) → Buf (Elt Ideal) ((c.tc : Thread Cert.Kernel16Ideal.nD Cert.Kernel16Ideal.τ).loc Cert.Kernel16Ideal.main_v4_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4_0) = v0 c
          ∧ r.2.mem ((c.tc : Thread Cert.Kernel16Ideal.nD Cert.Kernel16Ideal.τ).loc Cert.Kernel16Ideal.main_v4_1) = v1 c
          ∧ r.2.mem ((c.tc : Thread Cert.Kernel16Ideal.nD Cert.Kernel16Ideal.τ).loc Cert.Kernel16Ideal.main_v4_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v29) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal_pre_finite_norm [hKernel17Ideal : Cert.Kernel17Ideal.Facts] [hReference17Ideal : Cert.Reference17Ideal.Facts] [hPre_finite_norm : Cert.Pre_finite_norm.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_norm m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v63) = v0 c
          ∧ r.2.mem ((c.tc : Thread Cert.Reference17Ideal.nD Cert.Reference17Ideal.τ).loc Cert.Reference17Ideal.main_v64) = v1 c
          ∧ r.2.mem ((c.tc : Thread Cert.Reference17Ideal.nD Cert.Reference17Ideal.τ).loc Cert.Reference17Ideal.main_v65) = v2 c
          ∧ r.2.mem ((c.tc : Thread Cert.Reference17Ideal.nD Cert.Reference17Ideal.τ).loc Cert.Reference17Ideal.main_v66) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite_norm (hKernel17Ideal := hKernel17Ideal) (hPre_finite_norm := hPre_finite_norm)
    ∧ quiescent_Reference17Ideal (hReference17Ideal := hReference17Ideal)
    ∧ quiescent_Reference17Ideal_pre_finite_norm (hReference17Ideal := hReference17Ideal) (hPre_finite_norm := hPre_finite_norm)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite_norm (hKernel17Ideal := hKernel17Ideal) (hReference17Ideal := hReference17Ideal) (hPre_finite_norm := hPre_finite_norm)
-- ==== Pre_finite.lean ====
abbrev S4096x2560 : Shape := ⟨2, ![4096, 2560]⟩
abbrev S8x128x128 : Shape := ⟨3, ![8, 128, 128]⟩
abbrev S8x128 : Shape := ⟨2, ![8, 128]⟩
abbrev S1024 : Shape := ⟨1, ![1024]⟩
abbrev S4096x1536 : Shape := ⟨2, ![4096, 1536]⟩
abbrev S4096x2048 : Shape := ⟨2, ![4096, 2048]⟩
abbrev S_ : Shape := ⟨0, ![]⟩
abbrev S4096x1024 : Shape := ⟨2, ![4096, 1024]⟩

class Facts : Prop where
  slices_S4096x2560_S4096x2048_0_0 : S4096x2560.Slices ![0, 0] S4096x2048
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024 : S_.BroadcastsInDim S1024 (![] : Fin 0 → Fin S1024.rank)
  reducesTo_S1024_S_d0 : S1024.ReducesTo [0] S_
  slices_S4096x1536_S4096x1024_0_0 : S4096x1536.Slices ![0, 0] S4096x1024
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024 .f32) (main_arg5 : FVec F S4096x1536 .f32) (main_v4 : IVec S_ 1) (main_v8 : IVec S_ 1) (main_v12 : IVec S_ 1) (main_v15 : IVec S1024 1) (main_c_5 : IVec S_ 1) : IVec S_ 1 × IVec S_ 1 × IVec S_ 1 × IVec S_ 1 × IVec S_ 1 × IVec S_ 1 :=
  let main_v16 : IVec S_ 1 := (fun x v => Host.reduce IntOp.andi x v reducesTo_S1024_S_d0 h_S_) main_v15 main_c_5
  let main_v17 : FVec F S1024 .f32 := Host.absf main_arg4
  let main_cst_6 : FVec F S_ .f32 := constant S_ .f32 0x7F800000#32
  let main_v18 : FVec F S1024 .f32 := broadcastInDim S1024 ![] bcast_S_S1024 main_cst_6
  let main_v19 : IVec S1024 1 := cmpf .olt main_v17 main_v18
  let main_c_7 : IVec S_ 1 := constantI S_ 1 1#1
  let main_v20 : IVec S_ 1 := (fun x v => Host.reduce IntOp.andi x v reducesTo_S1024_S_d0 h_S_) main_v19 main_c_7
  let main_v21 : FVec F S4096x1024 .f32 := (extractStridedSlice S4096x1024 ![0, 0] · slices_S4096x1536_S4096x1024_0_0) main_arg5
  let main_v22 : FVec F S4096x1024 .f32 := Host.absf main_v21
  let main_cst_8 : FVec F S_ .f32 := constant S_ .f32 0x7F800000#32
  let main_v23 : FVec F S4096x1024 .f32 := broadcastInDim S4096x1024 ![] bcast_S_S4096x1024 main_cst_8
  let main_v24 : IVec S4096x1024 1 := cmpf .olt main_v22 main_v23
  let main_c_9 : IVec S_ 1 := constantI S_ 1 1#1
  let main_v25 : IVec S_ 1 := (fun x v => Host.reduce IntOp.andi x v reducesTo_S4096x1024_S_d0_1 h_S_) main_v24 main_c_9
  (main_v4, main_v8, main_v12, main_v16, main_v20, main_v25)

def fn {F : FTy → Type} [FloatOps F] (main_arg0 : FVec F S4096x2560 .f32) (main_arg1 : FVec F S8x128x128 .f32) (main_arg2 : FVec F S8x128 .f32) (main_arg3 : FVec F S1024 .f32) (main_arg4 : FVec F S1024 .f32) (main_arg5 : FVec F S4096x1536 .f32) : IVec S_ 1 × IVec S_ 1 × IVec S_ 1 × IVec S_ 1 × IVec S_ 1 × IVec S_ 1 :=
  let main_v0 : FVec F S4096x2048 .f32 := (extractStridedSlice S4096x2048 ![0, 0] · slices_S4096x2560_S4096x2048_0_0) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S8x128x128 .f32 := Host.absf main_arg1
  let main_cst_0 : FVec F S_ .f32 := constant S_ .f32 0x7F800000#32
  let main_v6 : FVec F S8x128x128 .f32 := broadcastInDim S8x128x128 ![] bcast_S_S8x128x128 main_cst_0
  let main_v7 : IVec S8x128x128 1 := cmpf .olt main_v5 main_v6
  let main_c_1 : IVec S_ 1 := constantI S_ 1 1#1
  let main_v8 : IVec S_ 1 := (fun x v => Host.reduce IntOp.andi x v reducesTo_S8x128x128_S_d0_1_2 h_S_) main_v7 main_c_1
  let main_v9 : FVec F S8x128 .f32 := Host.absf main_arg2
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : FVec F S1024 .f32 := Host.absf main_arg3
  let main_cst_4 : FVec F S_ .f32 := constant S_ .f32 0x7F800000#32
  let main_v14 : FVec F S1024 .f32 := broadcastInDim S1024 ![] bcast_S_S1024 main_cst_4
  let main_v15 : IVec S1024 1 := cmpf .olt main_v13 main_v14
  let main_c_5 : IVec S_ 1 := constantI S_ 1 1#1
  fn_part1 (F := F) main_arg4 main_arg5 main_v4 main_v8 main_v12 main_v15 main_c_5
-- ==== Pre_finite_norm.lean ====
abbrev S4096x2048 : Shape := ⟨2, ![4096, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x2048 .f32) (main_arg1 : FVec F S2048 .f32) (main_arg2 : FVec F S4096x2048 .f32) : IVec S_ 1 × IVec S_ 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_c : IVec S_ 1 := constantI S_ 1 1#1
  let main_v3 : IVec S_ 1 := (fun x v => Host.reduce IntOp.andi x v reducesTo_S2048_S_d0 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  (main_v3, main_v7)
-- ==== Kernel.lean ====
abbrev S4096x2560 : Shape := ⟨2, ![4096, 2560]⟩
abbrev S8x128x128 : Shape := ⟨3, ![8, 128, 128]⟩
abbrev S8x128 : Shape := ⟨2, ![8, 128]⟩
abbrev S1024 : Shape := ⟨1, ![1024]⟩
abbrev S4096x1536 : Shape := ⟨2, ![4096, 1536]⟩
abbrev S8x128x1 : Shape := ⟨3, ![8, 128, 1]⟩
abbrev S1x1024 : Shape := ⟨2, ![1, 1024]⟩
abbrev S4096x1024 : Shape := ⟨2, ![4096, 1024]⟩
abbrev S512x1024 : Shape := ⟨2, ![512, 1024]⟩
abbrev S128x128 : Shape := ⟨2, ![128, 128]⟩
abbrev S512 : Shape := ⟨1, ![512]⟩
abbrev S512x1 : Shape := ⟨2, ![512, 1]⟩
abbrev S1x128x128 : Shape := ⟨3, ![1, 128, 128]⟩
abbrev S128x1 : Shape := ⟨2, ![128, 1]⟩
abbrev S1x128x1 : Shape := ⟨3, ![1, 128, 1]⟩
abbrev S128 : Shape := ⟨1, ![128]⟩

abbrev nBuf : Space → Nat
  | .hbm => 15
  | .vmem => 20
  | .smem => 0
  | _ => 0

abbrev bufTy : (tb : Table) → Fin (tcTables nBuf tb) → BufTy
  | .hbm, ⟨0, _⟩ => ⟨S4096x2560, .f32⟩
  | .hbm, ⟨1, _⟩ => ⟨S8x128x128, .f32⟩
  | .hbm, ⟨2, _⟩ => ⟨S8x128, .f32⟩
  | .hbm, ⟨3, _⟩ => ⟨S1024, .f32⟩
  | .hbm, ⟨4, _⟩ => ⟨S1024, .f32⟩
  | .hbm, ⟨5, _⟩ => ⟨S4096x1536, .f32⟩
  | .hbm, ⟨6, _⟩ => ⟨S8x128x1, .f32⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .bf16⟩
  | .hbm, ⟨11, _⟩ => ⟨S8x128x128, .f32⟩
  | .hbm, ⟨12, _⟩ => ⟨S8x128x1, .f32⟩
  | .hbm, ⟨13, _⟩ => ⟨S1x1024, .f32⟩
  | .hbm, ⟨14, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128x128, .f32⟩
  | .local _ .vmem, ⟨5, _⟩ => ⟨S8x128x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S8x128x128, .f32⟩
  | .local _ .vmem, ⟨15, _⟩ => ⟨S8x128x1, .f32⟩
  | .local _ .vmem, ⟨16, _⟩ => ⟨S1x1024, .f32⟩
  | .local _ .vmem, ⟨17, _⟩ => ⟨S1x1024, .f32⟩
  | .local _ .vmem, ⟨18, _⟩ => ⟨S512x1024, .bf16⟩
  | .local _ .vmem, ⟨19, _⟩ => ⟨S512x1024, .f32⟩
  | _, _ => ⟨S4096x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "inv_sqrt_2pi" => some (((Real.sqrt (2 * Real.pi))⁻¹ : ℝ) : EReal)
  | "sqrt_half" => some (((Real.sqrt 2)⁻¹ : ℝ) : EReal)
  | _ => none
-- ==== ReferenceIdeal.lean ====
abbrev S4096x2560 : Shape := ⟨2, ![4096, 2560]⟩
abbrev S8x128x128 : Shape := ⟨3, ![8, 128, 128]⟩
abbrev S8x128 : Shape := ⟨2, ![8, 128]⟩
abbrev S1024 : Shape := ⟨1, ![1024]⟩
abbrev S4096x1536 : Shape := ⟨2, ![4096, 1536]⟩
abbrev S4096x2048 : Shape := ⟨2, ![4096, 2048]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩
abbrev S32x128x8x128 : Shape := ⟨4, ![32, 128, 8, 128]⟩
abbrev S128x128 : Shape := ⟨2, ![128, 128]⟩
abbrev S1x128x128 : Shape := ⟨3, ![1, 128, 128]⟩
abbrev S8x32x128x128 : Shape := ⟨4, ![8, 32, 128, 128]⟩
abbrev S128x8 : Shape := ⟨2, ![128, 8]⟩
abbrev S128x8x1 : Shape := ⟨3, ![128, 8, 1]⟩
abbrev S1x128x8x1 : Shape := ⟨4, ![1, 128, 8, 1]⟩
abbrev S8x128x1 : Shape := ⟨3, ![8, 128, 1]⟩

abbrev nBuf : Space → Nat
  | .hbm => 179
  | .vmem => 0
  | .smem => 0
  | _ => 0

abbrev hbmTy0_0 (i : Nat) : BufTy := match i % 128 with
  | 0 => ⟨S4096x2560, .f32⟩
  | 1 => ⟨S8x128x128, .f32⟩
  | 2 => ⟨S8x128, .f32⟩
  | 3 => ⟨S1024, .f32⟩
  | 4 => ⟨S1024, .f32⟩
  | 5 => ⟨S4096x1536, .f32⟩
  | 6 => ⟨S4096x2048, .f32⟩
  | 7 => ⟨S_, .f32⟩
  | 8 => ⟨S4096x2048, .f32⟩
  | 9 => ⟨S4096x2048, .f32⟩
  | 10 => ⟨S4096x2048, .f32⟩
  | 11 => ⟨S_, .f32⟩
  | 12 => ⟨S_, .f32⟩
  | 13 => ⟨S4096x2048, .f32⟩
  | 14 => ⟨S4096x2048, .f32⟩
  | 15 => ⟨S4096x2048, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S4096x2048, .f32⟩
  | 24 => ⟨S4096x2048, .f32⟩
  | 25 => ⟨S4096x2048, .f32⟩
  | 26 => ⟨S4096x2048, .f32⟩
  | 27 => ⟨S4096x2048, .f32⟩
  | 28 => ⟨S4096x2048, .f32⟩
  | 29 => ⟨S4096x1024, .f32⟩
  | 30 => ⟨S4096x1024, .f32⟩
  | 31 => ⟨S_, .f32⟩
  | 32 => ⟨S4096, .f32⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S4096x1024, .f32⟩
  | 50 => ⟨S4096x1024, .f32⟩
  | 51 => ⟨S_, .f32⟩
  | 52 => ⟨S4096x1, .f32⟩
  | 53 => ⟨S4096x1, .f32⟩
  | 54 => ⟨S4096x1, .f32⟩
  | 55 => ⟨S4096x1, .f32⟩
  | 56 => ⟨S_, .f32⟩
  | 57 => ⟨S4096x1, .f32⟩
  | 58 => ⟨S4096x1, .f32⟩
  | 59 => ⟨S4096x1024, .f32⟩
  | 60 => ⟨S4096x1024, .f32⟩
  | 61 => ⟨S1x1024, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S32x128x8x128, .f32⟩
  | 68 => ⟨S_, .f32⟩
  | 69 => ⟨S128x128, .f32⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .f32⟩
  | 77 => ⟨S128x128, .f32⟩
  | 78 => ⟨S128x128, .f32⟩
  | 79 => ⟨S1x128x128, .f32⟩
  | 80 => ⟨S8x128x128, .f32⟩
  | 81 => ⟨S8x128x128, .f32⟩
  | 82 => ⟨S8x32x128x128, .f32⟩
  | 83 => ⟨S32x128x8x128, .f32⟩
  | 84 => ⟨S128x8, .f32⟩
  | 85 => ⟨S128x8x1, .f32⟩
  | 86 => ⟨S1x128x8x1, .f32⟩
  | 87 => ⟨S32x128x8x128, .f32⟩
  | 88 => ⟨S32x128x8x128, .f32⟩
  | 89 => ⟨S4096x1024, .f32⟩
  | 90 => ⟨S4096x1024, .f32⟩
  | 91 => ⟨S4096x1024, .f32⟩
  | 92 => ⟨S4096x1024, .f32⟩
  | 93 => ⟨S4096x1024, .f32⟩
  | 94 => ⟨S32x128x8x128, .f32⟩
  | 95 => ⟨S_, .f32⟩
  | 96 => ⟨S128x8, .f32⟩
  | 97 => ⟨S1x128x8x1, .f32⟩
  | 98 => ⟨S_, .f32⟩
  | 99 => ⟨S128x8, .f32⟩
  | 100 => ⟨S128x8x1, .f32⟩
  | 101 => ⟨S_, .f32⟩
  | 102 => ⟨S128x8, .f32⟩
  | 103 => ⟨S8x128, .f32⟩
  | 104 => ⟨S8x32x128x128, .f32⟩
  | 105 => ⟨S8x128x128, .f32⟩
  | 106 => ⟨S8x32x128x128, .f32⟩
  | 107 => ⟨S32x128x8x128, .f32⟩
  | 108 => ⟨S8x128x128, .f32⟩
  | 109 => ⟨S8x128x128, .f32⟩
  | 110 => ⟨S4096x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S_, .f32⟩
  | 123 => ⟨S1024, .f32⟩
  | 124 => ⟨S4096x1024, .f32⟩
  | 125 => ⟨S_, .f32⟩
  | 126 => ⟨S4096, .f32⟩
  | 127 => ⟨S4096x1, .f32⟩
  | _ => ⟨S4096x2560, .f32⟩

abbrev hbmTy0_1 (i : Nat) : BufTy := match i % 128 with
  | 0 => ⟨S4096x1024, .f32⟩
  | 1 => ⟨S4096x1024, .f32⟩
  | 2 => ⟨S4096x1, .f32⟩
  | 3 => ⟨S4096x1024, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1, .f32⟩
  | 20 => ⟨S_, .f32⟩
  | 21 => ⟨S4096x1, .f32⟩
  | 22 => ⟨S4096x1, .f32⟩
  | 23 => ⟨S_, .f32⟩
  | 24 => ⟨S4096, .f32⟩
  | 25 => ⟨S4096x1024, .f32⟩
  | 26 => ⟨S4096x1024, .f32⟩
  | 27 => ⟨S_, .f32⟩
  | 28 => ⟨S4096x2048, .f32⟩
  | 29 => ⟨S_, .f32⟩
  | 30 => ⟨S4096x2048, .f32⟩
  | 31 => ⟨S4096x2048, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S4096x2048, .f32⟩
  | 38 => ⟨S_, .f32⟩
  | 39 => ⟨S4096x2048, .f32⟩
  | 40 => ⟨S4096x2048, .f32⟩
  | 41 => ⟨S4096x2048, .f32⟩
  | 42 => ⟨S_, .f32⟩
  | 43 => ⟨S4096x2560, .f32⟩
  | 44 => ⟨S4096x1024, .f32⟩
  | 45 => ⟨S4096x1024, .bf16⟩
  | 46 => ⟨S4096x1024, .f32⟩
  | 47 => ⟨S4096x1024, .bf16⟩
  | 48 => ⟨S8x128x1, .f32⟩
  | 49 => ⟨S1x1024, .f32⟩
  | 50 => ⟨S1x1024, .f32⟩
  | _ => ⟨S4096x2560, .f32⟩

abbrev hbmTy (i : Nat) : BufTy := match i / 128 with
  | 0 => hbmTy0_0 i
  | 1 => hbmTy0_1 i
  | _ => ⟨S4096x2560, .f32⟩

abbrev bufTy : (tb : Table) → Fin (tcTables nBuf tb) → BufTy
  | .hbm, ⟨i, _⟩ => hbmTy i
  | _, _ => ⟨S4096x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_cst : Ref sig .tc := ⟨.hbm, 76, rfl⟩
abbrev main_call0_v5 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_12 : Ref sig .tc := ⟨.hbm, 95, rfl⟩
abbrev main_v68 : Ref sig .tc := ⟨.hbm, 96, rfl⟩
abbrev main_v69 : Ref sig .tc := ⟨.hbm, 97, rfl⟩
abbrev main_cst_13 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_cst_16 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_18 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_23 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_cst_24 : Ref sig .tc := ⟨.hbm, 148, rfl⟩
abbrev main_v109 : Ref sig .tc := ⟨.hbm, 149, rfl⟩
abbrev main_v110 : Ref sig .tc := ⟨.hbm, 150, rfl⟩
abbrev main_cst_25 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_26 : Ref sig .tc := ⟨.hbm, 155, rfl⟩
abbrev main_v114 : Ref sig .tc := ⟨.hbm, 156, rfl⟩
abbrev main_cst_27 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_28 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_cst_29 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩

abbrev nD : Nat := 1
abbrev τ : Topo := Topo.v7x

variable {F : FTy → Type} [FloatOps F]
-- ==== Kernel2.lean ====
abbrev S4096x2048 : Shape := ⟨2, ![4096, 2048]⟩
abbrev S8192x2048 : Shape := ⟨2, ![8192, 2048]⟩
abbrev S4096x8192 : Shape := ⟨2, ![4096, 8192]⟩
abbrev S8192x512 : Shape := ⟨2, ![8192, 512]⟩
abbrev S1024x2048 : Shape := ⟨2, ![1024, 2048]⟩
abbrev S512x512 : Shape := ⟨2, ![512, 512]⟩
abbrev S1024x512 : Shape := ⟨2, ![1024, 512]⟩

abbrev nBuf : Space → Nat
  | .hbm => 9
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .f32⟩
  | .hbm, ⟨2, _⟩ => ⟨S4096x8192, .f32⟩
  | .hbm, ⟨3, _⟩ => ⟨S8192x2048, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference2Ideal.lean ====
abbrev S4096x2048 : Shape := ⟨2, ![4096, 2048]⟩
abbrev S8192x2048 : Shape := ⟨2, ![8192, 2048]⟩
abbrev S4096x8192 : Shape := ⟨2, ![4096, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x2048, .f32⟩
  | .hbm, ⟨16, _⟩ => ⟨S4096x2048, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel3.lean ====
abbrev S4096x8192 : Shape := ⟨2, ![4096, 8192]⟩
abbrev S4096x2048 : Shape := ⟨2, ![4096, 2048]⟩
abbrev S8192x2048 : Shape := ⟨2, ![8192, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let true_5 : BitVec 1 := 1#1
  let arg2 : BitVec 32 := BitVec.ofNat 32 (i 2).val
  let c1_i32_4 : BitVec 32 := 1#32
  let v10 : BitVec 1 := Scalar.cmpi .eq arg2 c1_i32_4
  let v11 : BitVec 1 := Scalar.andi true_5 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4096x2048 : Shape := ⟨2, ![4096, 2048]⟩
abbrev S_ : Shape := ⟨0, ![]⟩
abbrev S8192x2048 : Shape := ⟨2, ![8192, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x2048, .bf16⟩
  | .hbm, ⟨2, _⟩ => ⟨S_, .f32⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S2048x8192 : Shape := ⟨2, ![2048, 8192]⟩
abbrev S8192x2048 : Shape := ⟨2, ![8192, 2048]⟩
abbrev S8192x512 : Shape := ⟨2, ![8192, 512]⟩
abbrev S4096x8192 : Shape := ⟨2, ![4096, 8192]⟩
abbrev S1024x2048 : Shape := ⟨2, ![1024, 2048]⟩
abbrev S512x512 : Shape := ⟨2, ![512, 512]⟩
abbrev S1024x512 : Shape := ⟨2, ![1024, 512]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S8192x2048, .f32⟩
  | .hbm, ⟨3, _⟩ => ⟨S8192x2048, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S4096x8192, .f32⟩
  | .hbm, ⟨9, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference4Ideal.lean ====
abbrev S4096x2048 : Shape := ⟨2, ![4096, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S4096x8192, .f32⟩
  | .hbm, ⟨4, _⟩ => ⟨S_, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S4096x2048 : Shape := ⟨2, ![4096, 2048]⟩
abbrev S2048x9728 : Shape := ⟨2, ![2048, 9728]⟩
abbrev S9728x2048 : Shape := ⟨2, ![9728, 2048]⟩
abbrev S9728x512 : Shape := ⟨2, ![9728, 512]⟩
abbrev S4096x9728 : Shape := ⟨2, ![4096, 9728]⟩
abbrev S1024x2048 : Shape := ⟨2, ![1024, 2048]⟩
abbrev S512x512 : Shape := ⟨2, ![512, 512]⟩
abbrev S1024x512 : Shape := ⟨2, ![1024, 512]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x9728, .f32⟩
  | .hbm, ⟨2, _⟩ => ⟨S9728x2048, .f32⟩
  | .hbm, ⟨3, _⟩ => ⟨S9728x2048, .bf16⟩
  | .hbm, ⟨4, _⟩ => ⟨S9728x512, .bf16⟩
  | .hbm, ⟨5, _⟩ => ⟨S9728x512, .bf16⟩
  | .hbm, ⟨6, _⟩ => ⟨S9728x512, .bf16⟩
  | .hbm, ⟨7, _⟩ => ⟨S9728x512, .bf16⟩
  | .hbm, ⟨8, _⟩ => ⟨S4096x9728, .f32⟩
  | .local _ .vmem, ⟨0, _⟩ => ⟨S1024x2048, .bf16⟩
  | .local _ .vmem, ⟨1, _⟩ => ⟨S1024x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 19, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference5Ideal.lean ====
abbrev S4096x2048 : Shape := ⟨2, ![4096, 2048]⟩
abbrev S2048x9728 : Shape := ⟨2, ![2048, 9728]⟩
abbrev S4096x9728 : Shape := ⟨2, ![4096, 9728]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x9728, .f32⟩
  | .hbm, ⟨2, _⟩ => ⟨S4096x2048, .f32⟩
  | .hbm, ⟨3, _⟩ => ⟨S4096x9728, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel6.lean ====
abbrev S4096x9728 : Shape := ⟨2, ![4096, 9728]⟩
abbrev S4096x2048 : Shape := ⟨2, ![4096, 2048]⟩
abbrev S9728x2048 : Shape := ⟨2, ![9728, 2048]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x9728, .bf16⟩
  | .hbm, ⟨1, _⟩ => ⟨S4096x2048, .bf16⟩
  | .hbm, ⟨2, _⟩ => ⟨S9728x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![19, 1, 2], ![false, false, false]⟩

def k0_cond3 (i : grid0.Coords) : BitVec 1 :=
  let true_5 : BitVec 1 := 1#1
  let arg2 : BitVec 32 := BitVec.ofNat 32 (i 2).val
  let c1_i32_4 : BitVec 32 := 1#32
  let v10 : BitVec 1 := Scalar.cmpi .eq arg2 c1_i32_4
  let v11 : BitVec 1 := Scalar.andi true_5 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x9728 : Shape := ⟨2, ![4096, 9728]⟩
abbrev S4096x2048 : Shape := ⟨2, ![4096, 2048]⟩
abbrev S_ : Shape := ⟨0, ![]⟩
abbrev S2048x9728 : Shape := ⟨2, ![2048, 9728]⟩
abbrev S9728x2048 : Shape := ⟨2, ![9728, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S4096x2048, .bf16⟩
  | .hbm, ⟨2, _⟩ => ⟨S_, .f32⟩
  | .hbm, ⟨3, _⟩ => ⟨S2048x9728, .f32⟩
  | .hbm, ⟨4, _⟩ => ⟨S4096x2048, .f32⟩
  | .hbm, ⟨5, _⟩ => ⟨S4096x9728, .f32⟩
  | .hbm, ⟨6, _⟩ => ⟨S4096x9728, .f32⟩
  | .hbm, ⟨7, _⟩ => ⟨S9728x2048, .f32⟩
  | .hbm, ⟨8, _⟩ => ⟨S2048x9728, .f32⟩
  | .hbm, ⟨9, _⟩ => ⟨S9728x2048, .f32⟩
  | .hbm, ⟨10, _⟩ => ⟨S9728x2048, .bf16⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x2048 : Shape := ⟨2, ![4096, 2048]⟩
abbrev S2048x2560 : Shape := ⟨2, ![2048, 2560]⟩
abbrev S2560x2048 : Shape := ⟨2, ![2560, 2048]⟩
abbrev S2560x512 : Shape := ⟨2, ![2560, 512]⟩
abbrev S4096x2560 : Shape := ⟨2, ![4096, 2560]⟩
abbrev S1024x2048 : Shape := ⟨2, ![1024, 2048]⟩
abbrev S512x512 : Shape := ⟨2, ![512, 512]⟩
abbrev S1024x512 : Shape := ⟨2, ![1024, 512]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .f32⟩
  | .hbm, ⟨2, _⟩ => ⟨S2560x2048, .f32⟩
  | .hbm, ⟨3, _⟩ => ⟨S2560x2048, .bf16⟩
  | .hbm, ⟨4, _⟩ => ⟨S2560x512, .bf16⟩
  | .hbm, ⟨5, _⟩ => ⟨S2560x512, .bf16⟩
  | .hbm, ⟨6, _⟩ => ⟨S2560x512, .bf16⟩
  | .hbm, ⟨7, _⟩ => ⟨S2560x512, .bf16⟩
  | .hbm, ⟨8, _⟩ => ⟨S4096x2560, .f32⟩
  | .local _ .vmem, ⟨0, _⟩ => ⟨S1024x2048, .bf16⟩
  | .local _ .vmem, ⟨1, _⟩ => ⟨S1024x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference7Ideal.lean ====
abbrev S4096x2048 : Shape := ⟨2, ![4096, 2048]⟩
abbrev S2048x2560 : Shape := ⟨2, ![2048, 2560]⟩
abbrev S4096x2560 : Shape := ⟨2, ![4096, 2560]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2560, .f32⟩
  | .hbm, ⟨2, _⟩ => ⟨S4096x2048, .f32⟩
  | .hbm, ⟨3, _⟩ => ⟨S4096x2560, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S4096x2560 : Shape := ⟨2, ![4096, 2560]⟩
abbrev S4096x2048 : Shape := ⟨2, ![4096, 2048]⟩
abbrev S2560x2048 : Shape := ⟨2, ![2560, 2048]⟩
abbrev S2048x640 : Shape := ⟨2, ![2048, 640]⟩
abbrev S2048x2048 : Shape := ⟨2, ![2048, 2048]⟩
abbrev S640x2048 : Shape := ⟨2, ![640, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2560, .bf16⟩
  | .hbm, ⟨1, _⟩ => ⟨S4096x2048, .bf16⟩
  | .hbm, ⟨2, _⟩ => ⟨S2560x2048, .bf16⟩
  | .local _ .vmem, ⟨0, _⟩ => ⟨S2048x640, .bf16⟩
  | .local _ .vmem, ⟨1, _⟩ => ⟨S2048x640, .bf16⟩
  | .local _ .vmem, ⟨2, _⟩ => ⟨S2048x2048, .bf16⟩
  | .local _ .vmem, ⟨3, _⟩ => ⟨S2048x2048, .bf16⟩
  | .local _ .vmem, ⟨4, _⟩ => ⟨S640x2048, .bf16⟩
  | .local _ .vmem, ⟨5, _⟩ => ⟨S640x2048, .bf16⟩
  | .local _ .vmem, ⟨6, _⟩ => ⟨S640x2048, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let true_5 : BitVec 1 := 1#1
  let arg2 : BitVec 32 := BitVec.ofNat 32 (i 2).val
  let c1_i32_4 : BitVec 32 := 1#32
  let v10 : BitVec 1 := Scalar.cmpi .eq arg2 c1_i32_4
  let v11 : BitVec 1 := Scalar.andi true_5 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2560 : Shape := ⟨2, ![4096, 2560]⟩
abbrev S4096x2048 : Shape := ⟨2, ![4096, 2048]⟩
abbrev S_ : Shape := ⟨0, ![]⟩
abbrev S2048x2560 : Shape := ⟨2, ![2048, 2560]⟩
abbrev S2560x2048 : Shape := ⟨2, ![2560, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S4096x2048, .bf16⟩
  | .hbm, ⟨2, _⟩ => ⟨S_, .f32⟩
  | .hbm, ⟨3, _⟩ => ⟨S2048x2560, .f32⟩
  | .hbm, ⟨4, _⟩ => ⟨S4096x2048, .f32⟩
  | .hbm, ⟨5, _⟩ => ⟨S4096x2560, .f32⟩
  | .hbm, ⟨6, _⟩ => ⟨S4096x2560, .f32⟩
  | .hbm, ⟨7, _⟩ => ⟨S2560x2048, .f32⟩
  | .hbm, ⟨8, _⟩ => ⟨S2048x2560, .f32⟩
  | .hbm, ⟨9, _⟩ => ⟨S2560x2048, .f32⟩
  | .hbm, ⟨10, _⟩ => ⟨S2560x2048, .bf16⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S4096x2560 : Shape := ⟨2, ![4096, 2560]⟩
abbrev S2048x2560 : Shape := ⟨2, ![2048, 2560]⟩
abbrev S4096x2048 : Shape := ⟨2, ![4096, 2048]⟩
abbrev S2560x2048 : Shape := ⟨2, ![2560, 2048]⟩
abbrev S2560x512 : Shape := ⟨2, ![2560, 512]⟩
abbrev S1024x2560 : Shape := ⟨2, ![1024, 2560]⟩
abbrev S1024x512 : Shape := ⟨2, ![1024, 512]⟩

abbrev nBuf : Space → Nat
  | .hbm => 10
  | .vmem => 15
  | .smem => 0
  | _ => 0

abbrev bufTy : (tb : Table) → Fin (tcTables nBuf tb) → BufTy
  | .hbm, ⟨0, _⟩ => ⟨S4096x2560, .bf16⟩
  | .hbm, ⟨1, _⟩ => ⟨S2048x2560, .f32⟩
  | .hbm, ⟨2, _⟩ => ⟨S4096x2048, .f32⟩
  | .hbm, ⟨3, _⟩ => ⟨S2560x2048, .f32⟩
  | .hbm, ⟨4, _⟩ => ⟨S2560x2048, .bf16⟩
  | .hbm, ⟨5, _⟩ => ⟨S2560x512, .bf16⟩
  | .hbm, ⟨6, _⟩ => ⟨S2560x512, .bf16⟩
  | .hbm, ⟨7, _⟩ => ⟨S2560x512, .bf16⟩
  | .hbm, ⟨8, _⟩ => ⟨S2560x512, .bf16⟩
  | .hbm, ⟨9, _⟩ => ⟨S4096x2048, .f32⟩
  | .local _ .vmem, ⟨0, _⟩ => ⟨S1024x2560, .bf16⟩
  | .local _ .vmem, ⟨1, _⟩ => ⟨S1024x2560, .bf16⟩
  | .local _ .vmem, ⟨2, _⟩ => ⟨S2560x512, .bf16⟩
  | .local _ .vmem, ⟨3, _⟩ => ⟨S2560x512, .bf16⟩
  | .local _ .vmem, ⟨4, _⟩ => ⟨S2560x512, .bf16⟩
  | .local _ .vmem, ⟨5, _⟩ => ⟨S2560x512, .bf16⟩
  | .local _ .vmem, ⟨6, _⟩ => ⟨S2560x512, .bf16⟩
  | .local _ .vmem, ⟨7, _⟩ => ⟨S2560x512, .bf16⟩
  | .local _ .vmem, ⟨8, _⟩ => ⟨S2560x512, .bf16⟩
  | .local _ .vmem, ⟨9, _⟩ => ⟨S2560x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S4096x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def k0_cond2 (i : grid0.Coords) : BitVec 1 :=
  let arg1 : BitVec 32 := BitVec.ofNat 32 (i 1).val
  let c0_i32_8 : BitVec 32 := 0#32
  let v21 : BitVec 1 := Scalar.cmpi .sgt arg1 c0_i32_8
  let v22 : BitVec 32 := Scalar.extui v21
  let c0_i32_9 : BitVec 32 := 0#32
  let v23 : BitVec 1 := Scalar.cmpi .slt arg1 c0_i32_9
  let v24 : BitVec 32 := Scalar.extui v23
  let v25 : BitVec 32 := Scalar.subi v22 v24
  let c1_i32_7 : BitVec 32 := 1#32
  let c0_i32_10 : BitVec 32 := 0#32
  let v26 : BitVec 1 := Scalar.cmpi .sgt c1_i32_7 c0_i32_10
  let v27 : BitVec 32 := Scalar.extui v26
  let c0_i32_11 : BitVec 32 := 0#32
  let v28 : BitVec 1 := Scalar.cmpi .slt c1_i32_7 c0_i32_11
  let v29 : BitVec 32 := Scalar.extui v28
  let v30 : BitVec 32 := Scalar.subi v27 v29
  let v31 : BitVec 1 := Scalar.cmpi .ne v25 v30
  let v32 : BitVec 32 := Scalar.remsi arg1 c1_i32_7
  let c0_i32_12 : BitVec 32 := 0#32
  let v33 : BitVec 1 := Scalar.cmpi .ne v32 c0_i32_12
  let v34 : BitVec 1 := Scalar.andi v31 v33
  let v20 : BitVec 32 := Scalar.divsi arg1 c1_i32_7
  let c1_i32_13 : BitVec 32 := 1#32
  let v35 : BitVec 32 := Scalar.subi v20 c1_i32_13
  let v36 : BitVec 32 := Scalar.select v34 v35 v20
  let c1_i32_14 : BitVec 32 := 1#32
  let v37 : BitVec 1 := Scalar.cmpi .eq v36 c1_i32_14
  let v38 : BitVec 32 := Scalar.extui v37
  let c0_i32_15 : BitVec 32 := 0#32
  let v39 : BitVec 1 := Scalar.cmpi .ne v38 c0_i32_15
  v39

def k0_cond3 (i : grid0.Coords) : BitVec 1 :=
  let arg1 : BitVec 32 := BitVec.ofNat 32 (i 1).val
  let c0_i32_17 : BitVec 32 := 0#32
  let v41 : BitVec 1 := Scalar.cmpi .sgt arg1 c0_i32_17
  let v42 : BitVec 32 := Scalar.extui v41
  let c0_i32_18 : BitVec 32 := 0#32
  let v43 : BitVec 1 := Scalar.cmpi .slt arg1 c0_i32_18
  let v44 : BitVec 32 := Scalar.extui v43
  let v45 : BitVec 32 := Scalar.subi v42 v44
  let c1_i32_16 : BitVec 32 := 1#32
  let c0_i32_19 : BitVec 32 := 0#32
  let v46 : BitVec 1 := Scalar.cmpi .sgt c1_i32_16 c0_i32_19
  let v47 : BitVec 32 := Scalar.extui v46
  let c0_i32_20 : BitVec 32 := 0#32
  let v48 : BitVec 1 := Scalar.cmpi .slt c1_i32_16 c0_i32_20
  let v49 : BitVec 32 := Scalar.extui v48
  let v50 : BitVec 32 := Scalar.subi v47 v49
  let v51 : BitVec 1 := Scalar.cmpi .ne v45 v50
  let v52 : BitVec 32 := Scalar.remsi arg1 c1_i32_16
  let c0_i32_21 : BitVec 32 := 0#32
  let v53 : BitVec 1 := Scalar.cmpi .ne v52 c0_i32_21
  let v54 : BitVec 1 := Scalar.andi v51 v53
  let v40 : BitVec 32 := Scalar.divsi arg1 c1_i32_16
  let c1_i32_22 : BitVec 32 := 1#32
  let v55 : BitVec 32 := Scalar.subi v40 c1_i32_22
  let v56 : BitVec 32 := Scalar.select v54 v55 v40
  let c2_i32 : BitVec 32 := 2#32
  let v57 : BitVec 1 := Scalar.cmpi .eq v56 c2_i32
  let v58 : BitVec 32 := Scalar.extui v57
  let c0_i32_23 : BitVec 32 := 0#32
  let v59 : BitVec 1 := Scalar.cmpi .ne v58 c0_i32_23
  v59

def k0_cond4 (i : grid0.Coords) : BitVec 1 :=
  let arg1 : BitVec 32 := BitVec.ofNat 32 (i 1).val
  let c0_i32_25 : BitVec 32 := 0#32
  let v61 : BitVec 1 := Scalar.cmpi .sgt arg1 c0_i32_25
  let v62 : BitVec 32 := Scalar.extui v61
  let c0_i32_26 : BitVec 32 := 0#32
  let v63 : BitVec 1 := Scalar.cmpi .slt arg1 c0_i32_26
  let v64 : BitVec 32 := Scalar.extui v63
  let v65 : BitVec 32 := Scalar.subi v62 v64
  let c1_i32_24 : BitVec 32 := 1#32
  let c0_i32_27 : BitVec 32 := 0#32
  let v66 : BitVec 1 := Scalar.cmpi .sgt c1_i32_24 c0_i32_27
  let v67 : BitVec 32 := Scalar.extui v66
  let c0_i32_28 : BitVec 32 := 0#32
  let v68 : BitVec 1 := Scalar.cmpi .slt c1_i32_24 c0_i32_28
  let v69 : BitVec 32 := Scalar.extui v68
  let v70 : BitVec 32 := Scalar.subi v67 v69
  let v71 : BitVec 1 := Scalar.cmpi .ne v65 v70
  let v72 : BitVec 32 := Scalar.remsi arg1 c1_i32_24
  let c0_i32_29 : BitVec 32 := 0#32
  let v73 : BitVec 1 := Scalar.cmpi .ne v72 c0_i32_29
  let v74 : BitVec 1 := Scalar.andi v71 v73
  let v60 : BitVec 32 := Scalar.divsi arg1 c1_i32_24
  let c1_i32_30 : BitVec 32 := 1#32
  let v75 : BitVec 32 := Scalar.subi v60 c1_i32_30
  let v76 : BitVec 32 := Scalar.select v74 v75 v60
  let c3_i32 : BitVec 32 := 3#32
  let v77 : BitVec 1 := Scalar.cmpi .eq v76 c3_i32
  let v78 : BitVec 32 := Scalar.extui v77
  let c0_i32_31 : BitVec 32 := 0#32
  let v79 : BitVec 1 := Scalar.cmpi .ne v78 c0_i32_31
  v79

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c0_i32_15 : BitVec 32 := 0#32
  let v37 : BitVec 32 := Scalar.subi arg1 c0_i32_15
  let c0_i32_16 : BitVec 32 := 0#32
  let v38 : BitVec 32 := Scalar.select v36 v37 c0_i32_16
  let c0_i32_17 : BitVec 32 := 0#32
  ![v18.toNat, v38.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c1_i32_14 : BitVec 32 := 1#32
  let v36 : BitVec 1 := Scalar.cmpi .eq v35 c1_i32_14
  let c1_i32_15 : BitVec 32 := 1#32
  let v37 : BitVec 32 := Scalar.subi arg1 c1_i32_15
  let c0_i32_16 : BitVec 32 := 0#32
  let v38 : BitVec 32 := Scalar.select v36 v37 c0_i32_16
  let c0_i32_17 : BitVec 32 := 0#32
  ![v18.toNat, v38.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32_13 : BitVec 32 := 2#32
  let v36 : BitVec 1 := Scalar.cmpi .eq v35 c2_i32_13
  let c2_i32_14 : BitVec 32 := 2#32
  let v37 : BitVec 32 := Scalar.subi arg1 c2_i32_14
  let c0_i32_15 : BitVec 32 := 0#32
  let v38 : BitVec 32 := Scalar.select v36 v37 c0_i32_15
  let c0_i32_16 : BitVec 32 := 0#32
  ![v18.toNat, v38.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c3_i32_13 : BitVec 32 := 3#32
  let v36 : BitVec 1 := Scalar.cmpi .eq v35 c3_i32_13
  let c3_i32_14 : BitVec 32 := 3#32
  let v37 : BitVec 32 := Scalar.subi arg1 c3_i32_14
  let c0_i32_15 : BitVec 32 := 0#32
  let v38 : BitVec 32 := Scalar.select v36 v37 c0_i32_15
  let c0_i32_16 : BitVec 32 := 0#32
  ![v18.toNat, v38.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2560x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2560x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2560x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference9Ideal.lean ====
abbrev S4096x2560 : Shape := ⟨2, ![4096, 2560]⟩
abbrev S2048x2560 : Shape := ⟨2, ![2048, 2560]⟩
abbrev S4096x2048 : Shape := ⟨2, ![4096, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x2560, .bf16⟩
  | .hbm, ⟨1, _⟩ => ⟨S2048x2560, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2560, .f32⟩
  | .hbm, ⟨9, _⟩ => ⟨S4096x2560, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel10.lean ====
abbrev S4096x2048 : Shape := ⟨2, ![4096, 2048]⟩
abbrev S1536x2048 : Shape := ⟨2, ![1536, 2048]⟩
abbrev S2048x1536 : Shape := ⟨2, ![2048, 1536]⟩
abbrev S4096x1536 : Shape := ⟨2, ![4096, 1536]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .f32⟩
  | .hbm, ⟨2, _⟩ => ⟨S2048x1536, .f32⟩
  | .hbm, ⟨3, _⟩ => ⟨S2048x1536, .bf16⟩
  | .hbm, ⟨4, _⟩ => ⟨S4096x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S1536x2048 : Shape := ⟨2, ![1536, 2048]⟩
abbrev S_ : Shape := ⟨0, ![]⟩
abbrev S4096x1536 : Shape := ⟨2, ![4096, 1536]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .f32⟩
  | .hbm, ⟨2, _⟩ => ⟨S_, .f32⟩
  | .hbm, ⟨3, _⟩ => ⟨S4096x1536, .f32⟩
  | .hbm, ⟨4, _⟩ => ⟨S4096x2048, .f32⟩
  | .hbm, ⟨5, _⟩ => ⟨S4096x2048, .f32⟩
  | .hbm, ⟨6, _⟩ => ⟨S4096x1536, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S4096x2048 : Shape := ⟨2, ![4096, 2048]⟩
abbrev S4096x1536 : Shape := ⟨2, ![4096, 1536]⟩
abbrev S2048x1536 : Shape := ⟨2, ![2048, 1536]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x1536, .bf16⟩
  | .hbm, ⟨2, _⟩ => ⟨S2048x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let true_5 : BitVec 1 := 1#1
  let arg2 : BitVec 32 := BitVec.ofNat 32 (i 2).val
  let c1_i32_4 : BitVec 32 := 1#32
  let v10 : BitVec 1 := Scalar.cmpi .eq arg2 c1_i32_4
  let v11 : BitVec 1 := Scalar.andi true_5 v10
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S4096x1536 : Shape := ⟨2, ![4096, 1536]⟩
abbrev S_ : Shape := ⟨0, ![]⟩
abbrev S1536x2048 : Shape := ⟨2, ![1536, 2048]⟩
abbrev S2048x1536 : Shape := ⟨2, ![2048, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1536, .bf16⟩
  | .hbm, ⟨2, _⟩ => ⟨S_, .f32⟩
  | .hbm, ⟨3, _⟩ => ⟨S1536x2048, .f32⟩
  | .hbm, ⟨4, _⟩ => ⟨S4096x1536, .f32⟩
  | .hbm, ⟨5, _⟩ => ⟨S4096x2048, .f32⟩
  | .hbm, ⟨6, _⟩ => ⟨S4096x2048, .f32⟩
  | .hbm, ⟨7, _⟩ => ⟨S2048x1536, .f32⟩
  | .hbm, ⟨8, _⟩ => ⟨S1536x2048, .f32⟩
  | .hbm, ⟨9, _⟩ => ⟨S2048x1536, .f32⟩
  | .hbm, ⟨10, _⟩ => ⟨S2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel12.lean ====
abbrev S4096x8192 : Shape := ⟨2, ![4096, 8192]⟩
abbrev S2048x8192 : Shape := ⟨2, ![2048, 8192]⟩
abbrev S4096x2048 : Shape := ⟨2, ![4096, 2048]⟩
abbrev S8192x2048 : Shape := ⟨2, ![8192, 2048]⟩
abbrev S8192x512 : Shape := ⟨2, ![8192, 512]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 10
  | .vmem => 15
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S4096x2048, .f32⟩
  | .hbm, ⟨3, _⟩ => ⟨S8192x2048, .f32⟩
  | .hbm, ⟨4, _⟩ => ⟨S8192x2048, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let arg2 : BitVec 32 := BitVec.ofNat 32 (i 2).val
  let c3_i32_10 : BitVec 32 := 3#32
  let v28 : BitVec 1 := Scalar.cmpi .eq arg2 c3_i32_10
  let v29 : BitVec 1 := Scalar.andi v17 v28
  let v30 : BitVec 32 := Scalar.extui v29
  let c0_i32_11 : BitVec 32 := 0#32
  let v31 : BitVec 1 := Scalar.cmpi .ne v30 c0_i32_11
  v31

def k0_cond6 (i : grid0.Coords) : BitVec 1 :=
  let arg1 : BitVec 32 := BitVec.ofNat 32 (i 1).val
  let c0_i32_13 : BitVec 32 := 0#32
  let v33 : BitVec 1 := Scalar.cmpi .sgt arg1 c0_i32_13
  let v34 : BitVec 32 := Scalar.extui v33
  let c0_i32_14 : BitVec 32 := 0#32
  let v35 : BitVec 1 := Scalar.cmpi .slt arg1 c0_i32_14
  let v36 : BitVec 32 := Scalar.extui v35
  let v37 : BitVec 32 := Scalar.subi v34 v36
  let c1_i32_12 : BitVec 32 := 1#32
  let c0_i32_15 : BitVec 32 := 0#32
  let v38 : BitVec 1 := Scalar.cmpi .sgt c1_i32_12 c0_i32_15
  let v39 : BitVec 32 := Scalar.extui v38
  let c0_i32_16 : BitVec 32 := 0#32
  let v40 : BitVec 1 := Scalar.cmpi .slt c1_i32_12 c0_i32_16
  let v41 : BitVec 32 := Scalar.extui v40
  let v42 : BitVec 32 := Scalar.subi v39 v41
  let v43 : BitVec 1 := Scalar.cmpi .ne v37 v42
  let v44 : BitVec 32 := Scalar.remsi arg1 c1_i32_12
  let c0_i32_17 : BitVec 32 := 0#32
  let v45 : BitVec 1 := Scalar.cmpi .ne v44 c0_i32_17
  let v46 : BitVec 1 := Scalar.andi v43 v45
  let v32 : BitVec 32 := Scalar.divsi arg1 c1_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 1 := Scalar.cmpi .eq v48 c1_i32_19
  let arg2 : BitVec 32 := BitVec.ofNat 32 (i 2).val
  let c3_i32_25 : BitVec 32 := 3#32
  let v60 : BitVec 1 := Scalar.cmpi .eq arg2 c3_i32_25
  let v61 : BitVec 1 := Scalar.andi v49 v60
  let v62 : BitVec 32 := Scalar.extui v61
  let c0_i32_26 : BitVec 32 := 0#32
  let v63 : BitVec 1 := Scalar.cmpi .ne v62 c0_i32_26
  v63

def k0_cond9 (i : grid0.Coords) : BitVec 1 :=
  let arg1 : BitVec 32 := BitVec.ofNat 32 (i 1).val
  let c0_i32_28 : BitVec 32 := 0#32
  let v65 : BitVec 1 := Scalar.cmpi .sgt arg1 c0_i32_28
  let v66 : BitVec 32 := Scalar.extui v65
  let c0_i32_29 : BitVec 32 := 0#32
  let v67 : BitVec 1 := Scalar.cmpi .slt arg1 c0_i32_29
  let v68 : BitVec 32 := Scalar.extui v67
  let v69 : BitVec 32 := Scalar.subi v66 v68
  let c1_i32_27 : BitVec 32 := 1#32
  let c0_i32_30 : BitVec 32 := 0#32
  let v70 : BitVec 1 := Scalar.cmpi .sgt c1_i32_27 c0_i32_30
  let v71 : BitVec 32 := Scalar.extui v70
  let c0_i32_31 : BitVec 32 := 0#32
  let v72 : BitVec 1 := Scalar.cmpi .slt c1_i32_27 c0_i32_31
  let v73 : BitVec 32 := Scalar.extui v72
  let v74 : BitVec 32 := Scalar.subi v71 v73
  let v75 : BitVec 1 := Scalar.cmpi .ne v69 v74
  let v76 : BitVec 32 := Scalar.remsi arg1 c1_i32_27
  let c0_i32_32 : BitVec 32 := 0#32
  let v77 : BitVec 1 := Scalar.cmpi .ne v76 c0_i32_32
  let v78 : BitVec 1 := Scalar.andi v75 v77
  let v64 : BitVec 32 := Scalar.divsi arg1 c1_i32_27
  let c1_i32_33 : BitVec 32 := 1#32
  let v79 : BitVec 32 := Scalar.subi v64 c1_i32_33
  let v80 : BitVec 32 := Scalar.select v78 v79 v64
  let c2_i32 : BitVec 32 := 2#32
  let v81 : BitVec 1 := Scalar.cmpi .eq v80 c2_i32
  let arg2 : BitVec 32 := BitVec.ofNat 32 (i 2).val
  let c3_i32_39 : BitVec 32 := 3#32
  let v92 : BitVec 1 := Scalar.cmpi .eq arg2 c3_i32_39
  let v93 : BitVec 1 := Scalar.andi v81 v92
  let v94 : BitVec 32 := Scalar.extui v93
  let c0_i32_40 : BitVec 32 := 0#32
  let v95 : BitVec 1 := Scalar.cmpi .ne v94 c0_i32_40
  v95

def k0_cond12 (i : grid0.Coords) : BitVec 1 :=
  let arg1 : BitVec 32 := BitVec.ofNat 32 (i 1).val
  let c0_i32_42 : BitVec 32 := 0#32
  let v97 : BitVec 1 := Scalar.cmpi .sgt arg1 c0_i32_42
  let v98 : BitVec 32 := Scalar.extui v97
  let c0_i32_43 : BitVec 32 := 0#32
  let v99 : BitVec 1 := Scalar.cmpi .slt arg1 c0_i32_43
  let v100 : BitVec 32 := Scalar.extui v99
  let v101 : BitVec 32 := Scalar.subi v98 v100
  let c1_i32_41 : BitVec 32 := 1#32
  let c0_i32_44 : BitVec 32 := 0#32
  let v102 : BitVec 1 := Scalar.cmpi .sgt c1_i32_41 c0_i32_44
  let v103 : BitVec 32 := Scalar.extui v102
  let c0_i32_45 : BitVec 32 := 0#32
  let v104 : BitVec 1 := Scalar.cmpi .slt c1_i32_41 c0_i32_45
  let v105 : BitVec 32 := Scalar.extui v104
  let v106 : BitVec 32 := Scalar.subi v103 v105
  let v107 : BitVec 1 := Scalar.cmpi .ne v101 v106
  let v108 : BitVec 32 := Scalar.remsi arg1 c1_i32_41
  let c0_i32_46 : BitVec 32 := 0#32
  let v109 : BitVec 1 := Scalar.cmpi .ne v108 c0_i32_46
  let v110 : BitVec 1 := Scalar.andi v107 v109
  let v96 : BitVec 32 := Scalar.divsi arg1 c1_i32_41
  let c1_i32_47 : BitVec 32 := 1#32
  let v111 : BitVec 32 := Scalar.subi v96 c1_i32_47
  let v112 : BitVec 32 := Scalar.select v110 v111 v96
  let c3_i32_48 : BitVec 32 := 3#32
  let v113 : BitVec 1 := Scalar.cmpi .eq v112 c3_i32_48
  let arg2 : BitVec 32 := BitVec.ofNat 32 (i 2).val
  let c3_i32_54 : BitVec 32 := 3#32
  let v124 : BitVec 1 := Scalar.cmpi .eq arg2 c3_i32_54
  let v125 : BitVec 1 := Scalar.andi v113 v124
  let v126 : BitVec 32 := Scalar.extui v125
  let c0_i32_55 : BitVec 32 := 0#32
  let v127 : BitVec 1 := Scalar.cmpi .ne v126 c0_i32_55
  v127

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c0_i32_15 : BitVec 32 := 0#32
  let v37 : BitVec 32 := Scalar.subi arg1 c0_i32_15
  let c0_i32_16 : BitVec 32 := 0#32
  let v38 : BitVec 32 := Scalar.select v36 v37 c0_i32_16
  let c0_i32_17 : BitVec 32 := 0#32
  ![v18.toNat, v38.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c1_i32_14 : BitVec 32 := 1#32
  let v36 : BitVec 1 := Scalar.cmpi .eq v35 c1_i32_14
  let c1_i32_15 : BitVec 32 := 1#32
  let v37 : BitVec 32 := Scalar.subi arg1 c1_i32_15
  let c0_i32_16 : BitVec 32 := 0#32
  let v38 : BitVec 32 := Scalar.select v36 v37 c0_i32_16
  let c0_i32_17 : BitVec 32 := 0#32
  ![v18.toNat, v38.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32_13 : BitVec 32 := 2#32
  let v36 : BitVec 1 := Scalar.cmpi .eq v35 c2_i32_13
  let c2_i32_14 : BitVec 32 := 2#32
  let v37 : BitVec 32 := Scalar.subi arg1 c2_i32_14
  let c0_i32_15 : BitVec 32 := 0#32
  let v38 : BitVec 32 := Scalar.select v36 v37 c0_i32_15
  let c0_i32_16 : BitVec 32 := 0#32
  ![v18.toNat, v38.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c3_i32_13 : BitVec 32 := 3#32
  let v36 : BitVec 1 := Scalar.cmpi .eq v35 c3_i32_13
  let c3_i32_14 : BitVec 32 := 3#32
  let v37 : BitVec 32 := Scalar.subi arg1 c3_i32_14
  let c0_i32_15 : BitVec 32 := 0#32
  let v38 : BitVec 32 := Scalar.select v36 v37 c0_i32_15
  let c0_i32_16 : BitVec 32 := 0#32
  ![v18.toNat, v38.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference12Ideal.lean ====
abbrev S4096x8192 : Shape := ⟨2, ![4096, 8192]⟩
abbrev S2048x8192 : Shape := ⟨2, ![2048, 8192]⟩
abbrev S4096x2048 : Shape := ⟨2, ![4096, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x8192, .f32⟩
  | .hbm, ⟨9, _⟩ => ⟨S4096x8192, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel13.lean ====
abbrev S4096x9728 : Shape := ⟨2, ![4096, 9728]⟩
abbrev S2048x9728 : Shape := ⟨2, ![2048, 9728]⟩
abbrev S4096x2048 : Shape := ⟨2, ![4096, 2048]⟩
abbrev S9728x2048 : Shape := ⟨2, ![9728, 2048]⟩
abbrev S9728x512 : Shape := ⟨2, ![9728, 512]⟩
abbrev S1024x2432 : Shape := ⟨2, ![1024, 2432]⟩
abbrev S2432x512 : Shape := ⟨2, ![2432, 512]⟩
abbrev S1024x512 : Shape := ⟨2, ![1024, 512]⟩

abbrev nBuf : Space → Nat
  | .hbm => 10
  | .vmem => 15
  | .smem => 0
  | _ => 0

abbrev bufTy : (tb : Table) → Fin (tcTables nBuf tb) → BufTy
  | .hbm, ⟨0, _⟩ => ⟨S4096x9728, .bf16⟩
  | .hbm, ⟨1, _⟩ => ⟨S2048x9728, .f32⟩
  | .hbm, ⟨2, _⟩ => ⟨S4096x2048, .f32⟩
  | .hbm, ⟨3, _⟩ => ⟨S9728x2048, .f32⟩
  | .hbm, ⟨4, _⟩ => ⟨S9728x2048, .bf16⟩
  | .hbm, ⟨5, _⟩ => ⟨S9728x512, .bf16⟩
  | .hbm, ⟨6, _⟩ => ⟨S9728x512, .bf16⟩
  | .hbm, ⟨7, _⟩ => ⟨S9728x512, .bf16⟩
  | .hbm, ⟨8, _⟩ => ⟨S9728x512, .bf16⟩
  | .hbm, ⟨9, _⟩ => ⟨S4096x2048, .f32⟩
  | .local _ .vmem, ⟨0, _⟩ => ⟨S1024x2432, .bf16⟩
  | .local _ .vmem, ⟨1, _⟩ => ⟨S1024x2432, .bf16⟩
  | .local _ .vmem, ⟨2, _⟩ => ⟨S2432x512, .bf16⟩
  | .local _ .vmem, ⟨3, _⟩ => ⟨S2432x512, .bf16⟩
  | .local _ .vmem, ⟨4, _⟩ => ⟨S2432x512, .bf16⟩
  | .local _ .vmem, ⟨5, _⟩ => ⟨S2432x512, .bf16⟩
  | .local _ .vmem, ⟨6, _⟩ => ⟨S2432x512, .bf16⟩
  | .local _ .vmem, ⟨7, _⟩ => ⟨S2432x512, .bf16⟩
  | .local _ .vmem, ⟨8, _⟩ => ⟨S2432x512, .bf16⟩
  | .local _ .vmem, ⟨9, _⟩ => ⟨S2432x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | _, _ => ⟨S4096x9728, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let arg2 : BitVec 32 := BitVec.ofNat 32 (i 2).val
  let c3_i32_10 : BitVec 32 := 3#32
  let v28 : BitVec 1 := Scalar.cmpi .eq arg2 c3_i32_10
  let v29 : BitVec 1 := Scalar.andi v17 v28
  let v30 : BitVec 32 := Scalar.extui v29
  let c0_i32_11 : BitVec 32 := 0#32
  let v31 : BitVec 1 := Scalar.cmpi .ne v30 c0_i32_11
  v31

def k0_cond6 (i : grid0.Coords) : BitVec 1 :=
  let arg1 : BitVec 32 := BitVec.ofNat 32 (i 1).val
  let c0_i32_13 : BitVec 32 := 0#32
  let v33 : BitVec 1 := Scalar.cmpi .sgt arg1 c0_i32_13
  let v34 : BitVec 32 := Scalar.extui v33
  let c0_i32_14 : BitVec 32 := 0#32
  let v35 : BitVec 1 := Scalar.cmpi .slt arg1 c0_i32_14
  let v36 : BitVec 32 := Scalar.extui v35
  let v37 : BitVec 32 := Scalar.subi v34 v36
  let c1_i32_12 : BitVec 32 := 1#32
  let c0_i32_15 : BitVec 32 := 0#32
  let v38 : BitVec 1 := Scalar.cmpi .sgt c1_i32_12 c0_i32_15
  let v39 : BitVec 32 := Scalar.extui v38
  let c0_i32_16 : BitVec 32 := 0#32
  let v40 : BitVec 1 := Scalar.cmpi .slt c1_i32_12 c0_i32_16
  let v41 : BitVec 32 := Scalar.extui v40
  let v42 : BitVec 32 := Scalar.subi v39 v41
  let v43 : BitVec 1 := Scalar.cmpi .ne v37 v42
  let v44 : BitVec 32 := Scalar.remsi arg1 c1_i32_12
  let c0_i32_17 : BitVec 32 := 0#32
  let v45 : BitVec 1 := Scalar.cmpi .ne v44 c0_i32_17
  let v46 : BitVec 1 := Scalar.andi v43 v45
  let v32 : BitVec 32 := Scalar.divsi arg1 c1_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 1 := Scalar.cmpi .eq v48 c1_i32_19
  let arg2 : BitVec 32 := BitVec.ofNat 32 (i 2).val
  let c3_i32_25 : BitVec 32 := 3#32
  let v60 : BitVec 1 := Scalar.cmpi .eq arg2 c3_i32_25
  let v61 : BitVec 1 := Scalar.andi v49 v60
  let v62 : BitVec 32 := Scalar.extui v61
  let c0_i32_26 : BitVec 32 := 0#32
  let v63 : BitVec 1 := Scalar.cmpi .ne v62 c0_i32_26
  v63

def k0_cond9 (i : grid0.Coords) : BitVec 1 :=
  let arg1 : BitVec 32 := BitVec.ofNat 32 (i 1).val
  let c0_i32_28 : BitVec 32 := 0#32
  let v65 : BitVec 1 := Scalar.cmpi .sgt arg1 c0_i32_28
  let v66 : BitVec 32 := Scalar.extui v65
  let c0_i32_29 : BitVec 32 := 0#32
  let v67 : BitVec 1 := Scalar.cmpi .slt arg1 c0_i32_29
  let v68 : BitVec 32 := Scalar.extui v67
  let v69 : BitVec 32 := Scalar.subi v66 v68
  let c1_i32_27 : BitVec 32 := 1#32
  let c0_i32_30 : BitVec 32 := 0#32
  let v70 : BitVec 1 := Scalar.cmpi .sgt c1_i32_27 c0_i32_30
  let v71 : BitVec 32 := Scalar.extui v70
  let c0_i32_31 : BitVec 32 := 0#32
  let v72 : BitVec 1 := Scalar.cmpi .slt c1_i32_27 c0_i32_31
  let v73 : BitVec 32 := Scalar.extui v72
  let v74 : BitVec 32 := Scalar.subi v71 v73
  let v75 : BitVec 1 := Scalar.cmpi .ne v69 v74
  let v76 : BitVec 32 := Scalar.remsi arg1 c1_i32_27
  let c0_i32_32 : BitVec 32 := 0#32
  let v77 : BitVec 1 := Scalar.cmpi .ne v76 c0_i32_32
  let v78 : BitVec 1 := Scalar.andi v75 v77
  let v64 : BitVec 32 := Scalar.divsi arg1 c1_i32_27
  let c1_i32_33 : BitVec 32 := 1#32
  let v79 : BitVec 32 := Scalar.subi v64 c1_i32_33
  let v80 : BitVec 32 := Scalar.select v78 v79 v64
  let c2_i32 : BitVec 32 := 2#32
  let v81 : BitVec 1 := Scalar.cmpi .eq v80 c2_i32
  let arg2 : BitVec 32 := BitVec.ofNat 32 (i 2).val
  let c3_i32_39 : BitVec 32 := 3#32
  let v92 : BitVec 1 := Scalar.cmpi .eq arg2 c3_i32_39
  let v93 : BitVec 1 := Scalar.andi v81 v92
  let v94 : BitVec 32 := Scalar.extui v93
  let c0_i32_40 : BitVec 32 := 0#32
  let v95 : BitVec 1 := Scalar.cmpi .ne v94 c0_i32_40
  v95

def k0_cond12 (i : grid0.Coords) : BitVec 1 :=
  let arg1 : BitVec 32 := BitVec.ofNat 32 (i 1).val
  let c0_i32_42 : BitVec 32 := 0#32
  let v97 : BitVec 1 := Scalar.cmpi .sgt arg1 c0_i32_42
  let v98 : BitVec 32 := Scalar.extui v97
  let c0_i32_43 : BitVec 32 := 0#32
  let v99 : BitVec 1 := Scalar.cmpi .slt arg1 c0_i32_43
  let v100 : BitVec 32 := Scalar.extui v99
  let v101 : BitVec 32 := Scalar.subi v98 v100
  let c1_i32_41 : BitVec 32 := 1#32
  let c0_i32_44 : BitVec 32 := 0#32
  let v102 : BitVec 1 := Scalar.cmpi .sgt c1_i32_41 c0_i32_44
  let v103 : BitVec 32 := Scalar.extui v102
  let c0_i32_45 : BitVec 32 := 0#32
  let v104 : BitVec 1 := Scalar.cmpi .slt c1_i32_41 c0_i32_45
  let v105 : BitVec 32 := Scalar.extui v104
  let v106 : BitVec 32 := Scalar.subi v103 v105
  let v107 : BitVec 1 := Scalar.cmpi .ne v101 v106
  let v108 : BitVec 32 := Scalar.remsi arg1 c1_i32_41
  let c0_i32_46 : BitVec 32 := 0#32
  let v109 : BitVec 1 := Scalar.cmpi .ne v108 c0_i32_46
  let v110 : BitVec 1 := Scalar.andi v107 v109
  let v96 : BitVec 32 := Scalar.divsi arg1 c1_i32_41
  let c1_i32_47 : BitVec 32 := 1#32
  let v111 : BitVec 32 := Scalar.subi v96 c1_i32_47
  let v112 : BitVec 32 := Scalar.select v110 v111 v96
  let c3_i32_48 : BitVec 32 := 3#32
  let v113 : BitVec 1 := Scalar.cmpi .eq v112 c3_i32_48
  let arg2 : BitVec 32 := BitVec.ofNat 32 (i 2).val
  let c3_i32_54 : BitVec 32 := 3#32
  let v124 : BitVec 1 := Scalar.cmpi .eq arg2 c3_i32_54
  let v125 : BitVec 1 := Scalar.andi v113 v124
  let v126 : BitVec 32 := Scalar.extui v125
  let c0_i32_55 : BitVec 32 := 0#32
  let v127 : BitVec 1 := Scalar.cmpi .ne v126 c0_i32_55
  v127

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c0_i32_15 : BitVec 32 := 0#32
  let v37 : BitVec 32 := Scalar.subi arg1 c0_i32_15
  let c0_i32_16 : BitVec 32 := 0#32
  let v38 : BitVec 32 := Scalar.select v36 v37 c0_i32_16
  let c0_i32_17 : BitVec 32 := 0#32
  ![v18.toNat, v38.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c1_i32_14 : BitVec 32 := 1#32
  let v36 : BitVec 1 := Scalar.cmpi .eq v35 c1_i32_14
  let c1_i32_15 : BitVec 32 := 1#32
  let v37 : BitVec 32 := Scalar.subi arg1 c1_i32_15
  let c0_i32_16 : BitVec 32 := 0#32
  let v38 : BitVec 32 := Scalar.select v36 v37 c0_i32_16
  let c0_i32_17 : BitVec 32 := 0#32
  ![v18.toNat, v38.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32_13 : BitVec 32 := 2#32
  let v36 : BitVec 1 := Scalar.cmpi .eq v35 c2_i32_13
  let c2_i32_14 : BitVec 32 := 2#32
  let v37 : BitVec 32 := Scalar.subi arg1 c2_i32_14
  let c0_i32_15 : BitVec 32 := 0#32
  let v38 : BitVec 32 := Scalar.select v36 v37 c0_i32_15
  let c0_i32_16 : BitVec 32 := 0#32
  ![v18.toNat, v38.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c3_i32_13 : BitVec 32 := 3#32
  let v36 : BitVec 1 := Scalar.cmpi .eq v35 c3_i32_13
  let c3_i32_14 : BitVec 32 := 3#32
  let v37 : BitVec 32 := Scalar.subi arg1 c3_i32_14
  let c0_i32_15 : BitVec 32 := 0#32
  let v38 : BitVec 32 := Scalar.select v36 v37 c0_i32_15
  let c0_i32_16 : BitVec 32 := 0#32
  ![v18.toNat, v38.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2432x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2432x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2432x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2432x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference13Ideal.lean ====
abbrev S4096x9728 : Shape := ⟨2, ![4096, 9728]⟩
abbrev S2048x9728 : Shape := ⟨2, ![2048, 9728]⟩
abbrev S4096x2048 : Shape := ⟨2, ![4096, 2048]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x9728, .bf16⟩
  | .hbm, ⟨1, _⟩ => ⟨S2048x9728, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x9728, .f32⟩
  | .hbm, ⟨9, _⟩ => ⟨S4096x9728, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x9728, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel14.lean ====
abbrev S4096x8192 : Shape := ⟨2, ![4096, 8192]⟩
abbrev S8192x2048 : Shape := ⟨2, ![8192, 2048]⟩
abbrev S8192x512 : Shape := ⟨2, ![8192, 512]⟩
abbrev S4096x2048 : Shape := ⟨2, ![4096, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 8
  | .vmem => 13
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S8192x2048, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let v0 : BitVec 32 := Scalar.divsi arg1 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let arg2 : BitVec 32 := BitVec.ofNat 32 (i 2).val
  let c3_i32_10 : BitVec 32 := 3#32
  let v28 : BitVec 1 := Scalar.cmpi .eq arg2 c3_i32_10
  let v29 : BitVec 1 := Scalar.andi v17 v28
  let v30 : BitVec 32 := Scalar.extui v29
  let c0_i32_11 : BitVec 32 := 0#32
  let v31 : BitVec 1 := Scalar.cmpi .ne v30 c0_i32_11
  v31

def k0_cond6 (i : grid0.Coords) : BitVec 1 :=
  let arg1 : BitVec 32 := BitVec.ofNat 32 (i 1).val
  let c0_i32_13 : BitVec 32 := 0#32
  let v33 : BitVec 1 := Scalar.cmpi .sgt arg1 c0_i32_13
  let v34 : BitVec 32 := Scalar.extui v33
  let c0_i32_14 : BitVec 32 := 0#32
  let v35 : BitVec 1 := Scalar.cmpi .slt arg1 c0_i32_14
  let v36 : BitVec 32 := Scalar.extui v35
  let v37 : BitVec 32 := Scalar.subi v34 v36
  let c1_i32_12 : BitVec 32 := 1#32
  let c0_i32_15 : BitVec 32 := 0#32
  let v38 : BitVec 1 := Scalar.cmpi .sgt c1_i32_12 c0_i32_15
  let v39 : BitVec 32 := Scalar.extui v38
  let c0_i32_16 : BitVec 32 := 0#32
  let v40 : BitVec 1 := Scalar.cmpi .slt c1_i32_12 c0_i32_16
  let v41 : BitVec 32 := Scalar.extui v40
  let v42 : BitVec 32 := Scalar.subi v39 v41
  let v43 : BitVec 1 := Scalar.cmpi .ne v37 v42
  let v44 : BitVec 32 := Scalar.remsi arg1 c1_i32_12
  let c0_i32_17 : BitVec 32 := 0#32
  let v45 : BitVec 1 := Scalar.cmpi .ne v44 c0_i32_17
  let v46 : BitVec 1 := Scalar.andi v43 v45
  let v32 : BitVec 32 := Scalar.divsi arg1 c1_i32_12
  let c1_i32_18 : BitVec 32 := 1#32
  let v47 : BitVec 32 := Scalar.subi v32 c1_i32_18
  let v48 : BitVec 32 := Scalar.select v46 v47 v32
  let c1_i32_19 : BitVec 32 := 1#32
  let v49 : BitVec 1 := Scalar.cmpi .eq v48 c1_i32_19
  let arg2 : BitVec 32 := BitVec.ofNat 32 (i 2).val
  let c3_i32_25 : BitVec 32 := 3#32
  let v60 : BitVec 1 := Scalar.cmpi .eq arg2 c3_i32_25
  let v61 : BitVec 1 := Scalar.andi v49 v60
  let v62 : BitVec 32 := Scalar.extui v61
  let c0_i32_26 : BitVec 32 := 0#32
  let v63 : BitVec 1 := Scalar.cmpi .ne v62 c0_i32_26
  v63

def k0_cond9 (i : grid0.Coords) : BitVec 1 :=
  let arg1 : BitVec 32 := BitVec.ofNat 32 (i 1).val
  let c0_i32_28 : BitVec 32 := 0#32
  let v65 : BitVec 1 := Scalar.cmpi .sgt arg1 c0_i32_28
  let v66 : BitVec 32 := Scalar.extui v65
  let c0_i32_29 : BitVec 32 := 0#32
  let v67 : BitVec 1 := Scalar.cmpi .slt arg1 c0_i32_29
  let v68 : BitVec 32 := Scalar.extui v67
  let v69 : BitVec 32 := Scalar.subi v66 v68
  let c1_i32_27 : BitVec 32 := 1#32
  let c0_i32_30 : BitVec 32 := 0#32
  let v70 : BitVec 1 := Scalar.cmpi .sgt c1_i32_27 c0_i32_30
  let v71 : BitVec 32 := Scalar.extui v70
  let c0_i32_31 : BitVec 32 := 0#32
  let v72 : BitVec 1 := Scalar.cmpi .slt c1_i32_27 c0_i32_31
  let v73 : BitVec 32 := Scalar.extui v72
  let v74 : BitVec 32 := Scalar.subi v71 v73
  let v75 : BitVec 1 := Scalar.cmpi .ne v69 v74
  let v76 : BitVec 32 := Scalar.remsi arg1 c1_i32_27
  let c0_i32_32 : BitVec 32 := 0#32
  let v77 : BitVec 1 := Scalar.cmpi .ne v76 c0_i32_32
  let v78 : BitVec 1 := Scalar.andi v75 v77
  let v64 : BitVec 32 := Scalar.divsi arg1 c1_i32_27
  let c1_i32_33 : BitVec 32 := 1#32
  let v79 : BitVec 32 := Scalar.subi v64 c1_i32_33
  let v80 : BitVec 32 := Scalar.select v78 v79 v64
  let c2_i32 : BitVec 32 := 2#32
  let v81 : BitVec 1 := Scalar.cmpi .eq v80 c2_i32
  let arg2 : BitVec 32 := BitVec.ofNat 32 (i 2).val
  let c3_i32_39 : BitVec 32 := 3#32
  let v92 : BitVec 1 := Scalar.cmpi .eq arg2 c3_i32_39
  let v93 : BitVec 1 := Scalar.andi v81 v92
  let v94 : BitVec 32 := Scalar.extui v93
  let c0_i32_40 : BitVec 32 := 0#32
  let v95 : BitVec 1 := Scalar.cmpi .ne v94 c0_i32_40
  v95

def k0_cond12 (i : grid0.Coords) : BitVec 1 :=
  let arg1 : BitVec 32 := BitVec.ofNat 32 (i 1).val
  let c0_i32_42 : BitVec 32 := 0#32
  let v97 : BitVec 1 := Scalar.cmpi .sgt arg1 c0_i32_42
  let v98 : BitVec 32 := Scalar.extui v97
  let c0_i32_43 : BitVec 32 := 0#32
  let v99 : BitVec 1 := Scalar.cmpi .slt arg1 c0_i32_43
  let v100 : BitVec 32 := Scalar.extui v99
  let v101 : BitVec 32 := Scalar.subi v98 v100
  let c1_i32_41 : BitVec 32 := 1#32
  let c0_i32_44 : BitVec 32 := 0#32
  let v102 : BitVec 1 := Scalar.cmpi .sgt c1_i32_41 c0_i32_44
  let v103 : BitVec 32 := Scalar.extui v102
  let c0_i32_45 : BitVec 32 := 0#32
  let v104 : BitVec 1 := Scalar.cmpi .slt c1_i32_41 c0_i32_45
  let v105 : BitVec 32 := Scalar.extui v104
  let v106 : BitVec 32 := Scalar.subi v103 v105
  let v107 : BitVec 1 := Scalar.cmpi .ne v101 v106
  let v108 : BitVec 32 := Scalar.remsi arg1 c1_i32_41
  let c0_i32_46 : BitVec 32 := 0#32
  let v109 : BitVec 1 := Scalar.cmpi .ne v108 c0_i32_46
  let v110 : BitVec 1 := Scalar.andi v107 v109
  let v96 : BitVec 32 := Scalar.divsi arg1 c1_i32_41
  let c1_i32_47 : BitVec 32 := 1#32
  let v111 : BitVec 32 := Scalar.subi v96 c1_i32_47
  let v112 : BitVec 32 := Scalar.select v110 v111 v96
  let c3_i32_48 : BitVec 32 := 3#32
  let v113 : BitVec 1 := Scalar.cmpi .eq v112 c3_i32_48
  let arg2 : BitVec 32 := BitVec.ofNat 32 (i 2).val
  let c3_i32_54 : BitVec 32 := 3#32
  let v124 : BitVec 1 := Scalar.cmpi .eq arg2 c3_i32_54
  let v125 : BitVec 1 := Scalar.andi v113 v124
  let v126 : BitVec 32 := Scalar.extui v125
  let c0_i32_55 : BitVec 32 := 0#32
  let v127 : BitVec 1 := Scalar.cmpi .ne v126 c0_i32_55
  v127

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c0_i32_15 : BitVec 32 := 0#32
  let v37 : BitVec 32 := Scalar.subi arg1 c0_i32_15
  let c0_i32_16 : BitVec 32 := 0#32
  let v38 : BitVec 32 := Scalar.select v36 v37 c0_i32_16
  let c0_i32_17 : BitVec 32 := 0#32
  ![v18.toNat, v38.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg2 c0_i32_6
  let c1_i32_7 : BitVec 32 := 1#32
  let v19 : BitVec 32 := Scalar.divsi arg1 c1_i32_7
  let c0_i32_8 : BitVec 32 := 0#32
  let v20 : BitVec 1 := Scalar.cmpi .sgt arg1 c0_i32_8
  let v21 : BitVec 32 := Scalar.extui v20
  let c0_i32_9 : BitVec 32 := 0#32
  let v22 : BitVec 1 := Scalar.cmpi .slt arg1 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg1 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c1_i32_14 : BitVec 32 := 1#32
  let v36 : BitVec 1 := Scalar.cmpi .eq v35 c1_i32_14
  let c1_i32_15 : BitVec 32 := 1#32
  let v37 : BitVec 32 := Scalar.subi arg1 c1_i32_15
  let c0_i32_16 : BitVec 32 := 0#32
  let v38 : BitVec 32 := Scalar.select v36 v37 c0_i32_16
  let c0_i32_17 : BitVec 32 := 0#32
  ![v18.toNat, v38.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32_13 : BitVec 32 := 2#32
  let v36 : BitVec 1 := Scalar.cmpi .eq v35 c2_i32_13
  let c2_i32_14 : BitVec 32 := 2#32
  let v37 : BitVec 32 := Scalar.subi arg1 c2_i32_14
  let c0_i32_15 : BitVec 32 := 0#32
  let v38 : BitVec 32 := Scalar.select v36 v37 c0_i32_15
  let c0_i32_16 : BitVec 32 := 0#32
  ![v18.toNat, v38.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg2 c0_i32_5
  let c1_i32_6 : BitVec 32 := 1#32
  let v19 : BitVec 32 := Scalar.divsi arg1 c1_i32_6
  let c0_i32_7 : BitVec 32 := 0#32
  let v20 : BitVec 1 := Scalar.cmpi .sgt arg1 c0_i32_7
  let v21 : BitVec 32 := Scalar.extui v20
  let c0_i32_8 : BitVec 32 := 0#32
  let v22 : BitVec 1 := Scalar.cmpi .slt arg1 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg1 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c3_i32_13 : BitVec 32 := 3#32
  let v36 : BitVec 1 := Scalar.cmpi .eq v35 c3_i32_13
  let c3_i32_14 : BitVec 32 := 3#32
  let v37 : BitVec 32 := Scalar.subi arg1 c3_i32_14
  let c0_i32_15 : BitVec 32 := 0#32
  let v38 : BitVec 32 := Scalar.select v36 v37 c0_i32_15
  let c0_i32_16 : BitVec 32 := 0#32
  ![v18.toNat, v38.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference14Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .f32⟩
  | .hbm, ⟨2, _⟩ => ⟨S4096x8192, .f32⟩
  | .hbm, ⟨3, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel15.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel16.lean ====
abbrev S4096x1536 : Shape := ⟨2, ![4096, 1536]⟩
abbrev S1536x2048 : Shape := ⟨2, ![1536, 2048]⟩
abbrev S4096x2048 : Shape := ⟨2, ![4096, 2048]⟩
abbrev S2048 : Shape := ⟨1, ![2048]⟩
abbrev S2048x1536 : Shape := ⟨2, ![2048, 1536]⟩
abbrev S1x2048 : Shape := ⟨2, ![1, 2048]⟩
abbrev S256x1536 : Shape := ⟨2, ![256, 1536]⟩
abbrev S256x2048 : Shape := ⟨2, ![256, 2048]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1536, .bf16⟩
  | .hbm, ⟨1, _⟩ => ⟨S1536x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S2048x1536, .f32⟩
  | .hbm, ⟨6, _⟩ => ⟨S2048x1536, .bf16⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .bf16⟩
  | .local _ .vmem, ⟨0, _⟩ => ⟨S256x1536, .bf16⟩
  | .local _ .vmem, ⟨1, _⟩ => ⟨S256x1536, .bf16⟩
  | .local _ .vmem, ⟨2, _⟩ => ⟨S2048x1536, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference16Ideal.lean ====
abbrev S4096x1536 : Shape := ⟨2, ![4096, 1536]⟩
abbrev S1536x2048 : Shape := ⟨2, ![1536, 2048]⟩
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x2048, .f32⟩
  | .hbm, ⟨2, _⟩ => ⟨S4096x2048, .f32⟩
  | .hbm, ⟨3, _⟩ => ⟨S2048, .f32⟩
  | .hbm, ⟨4, _⟩ => ⟨S2048, .f32⟩
  | .hbm, ⟨5, _⟩ => ⟨S4096x1536, .f32⟩
  | .hbm, ⟨6, _⟩ => ⟨S4096x2048, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x2048, .f32⟩
  | .hbm, ⟨33, _⟩ => ⟨S4096x2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel17.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference17Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 89
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S1x2048, .f32⟩
  | .hbm, ⟨36, _⟩ => ⟨S4096x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S_, .f32⟩
  | .hbm, ⟨46, _⟩ => ⟨S2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S4096x2048, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S4096x2048, .f32⟩
  | .hbm, ⟨78, _⟩ => ⟨S4096x1, .f32⟩
  | .hbm, ⟨79, _⟩ => ⟨S_, .f32⟩
  | .hbm, ⟨80, _⟩ => ⟨S4096x1, .f32⟩
  | .hbm, ⟨81, _⟩ => ⟨S4096x1, .f32⟩
  | .hbm, ⟨82, _⟩ => ⟨S_, .f32⟩
  | .hbm, ⟨83, _⟩ => ⟨S4096, .f32⟩
  | .hbm, ⟨84, _⟩ => ⟨S4096x2048, .f32⟩
  | .hbm, ⟨85, _⟩ => ⟨S4096x2048, .f32⟩
  | .hbm, ⟨86, _⟩ => ⟨S4096x2048, .bf16⟩
  | .hbm, ⟨87, _⟩ => ⟨S1x2048, .f32⟩
  | .hbm, ⟨88, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_10 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_12 : Ref sig .tc := ⟨.hbm, 63, rfl⟩
abbrev main_v47 : Ref sig .tc := ⟨.hbm, 64, rfl⟩
abbrev main_v48 : Ref sig .tc := ⟨.hbm, 65, rfl⟩
abbrev main_cst_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_15 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_16 : Ref sig .tc := ⟨.hbm, 79, rfl⟩
abbrev main_v59 : Ref sig .tc := ⟨.hbm, 80, rfl⟩
abbrev main_v60 : Ref sig .tc := ⟨.hbm, 81, rfl⟩
abbrev main_cst_17 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Proof.Norm.Row.lean ====
/- The layer norm of one row over the real numbers, and its backward pass: the two ways the programs compute the row's
   cotangent agree. -/
module

public import Idealize.ShloMosaic.Lib.Pipeline.ValueKit
public import Idealize.ShloMosaic.Lib.Pointwise

@[expose] public section

noncomputable section

namespace Cert.Gate

/-- The variance's addend: the number the literal 9.99999974E-6 is. -/
def eps : ℝ := 10995116 / 2 ^ 40

theorem eps_pos : 0 < eps := by norm_num [eps]

end Cert.Gate

namespace Cert.Norm

open Cert.Gate

variable {N : ℕ} (n : ℝ) (X E : Fin N → ℝ)

/-- Of a row of `n` numbers: the mean, the centred value, the variance, the reciprocal deviation and the normed value. -/
def mean : ℝ := (∑ w, X w) / n
def cen (w : Fin N) : ℝ := X w - mean n X
def var : ℝ := (∑ w, cen n X w * cen n X w) / n
def rstd : ℝ := (Real.sqrt (var n X + eps))⁻¹
def xhat (w : Fin N) : ℝ := cen n X w * rstd n X

/-- The row's cotangent from the normed row's, `E`. -/
def back (w : Fin N) : ℝ := rstd n X * (E w - (∑ v, E v) / n - xhat n X w * ((∑ v, E v * xhat n X v) / n))

variable {n}

theorem var_nonneg (h : 0 ≤ n) : 0 ≤ var n X := div_nonneg (Finset.sum_nonneg fun _ _ => mul_self_nonneg _) h

theorem var_eps_pos (h : 0 ≤ n) : 0 < var n X + eps := add_pos_of_nonneg_of_pos (var_nonneg X h) eps_pos

theorem rstd_sq (h : 0 ≤ n) : rstd n X * rstd n X = (var n X + eps)⁻¹ := by
  rw [rstd, ← mul_inv, Real.mul_self_sqrt (var_eps_pos X h).le]

/-- The centred values of a row sum to nothing. -/
theorem sum_cen (hN : (N : ℝ) = n) (h : 0 < n) : ∑ w, cen n X w = 0 := by
  simp only [cen, Finset.sum_sub_distrib, Finset.sum_const, Finset.card_univ, Fintype.card_fin, nsmul_eq_mul, mean, hN]
  rw [mul_div_cancel₀ _ h.ne', sub_self]

/-- The cotangent through the cotangents of the variance and of the mean. -/
theorem back_eq (hN : (N : ℝ) = n) (h : 0 < n) (w : Fin N) :
    E w * rstd n X + (∑ v, cen n X v * E v) * (-(1 / 2) * (rstd n X / (var n X + eps))) / n * (2 * cen n X w)
      + ((∑ v, -(E v * rstd n X))
        + ∑ u, -((∑ v, cen n X v * E v) * (-(1 / 2) * (rstd n X / (var n X + eps))) / n * (2 * cen n X u))) / n
      = back n X E w := by
  have hc : (∑ u, -((∑ v, cen n X v * E v) * (-(1 / 2) * (rstd n X / (var n X + eps))) / n * (2 * cen n X u))) = 0 := by
    rw [Finset.sum_neg_distrib, ← Finset.mul_sum, ← Finset.mul_sum, sum_cen X hN h]; ring
  have h1 : (∑ v, -(E v * rstd n X)) = -(rstd n X * ∑ v, E v) := by
    rw [Finset.sum_neg_distrib, ← Finset.sum_mul]; ring
  have h2 : (∑ v, E v * xhat n X v) = rstd n X * ∑ v, cen n X v * E v := by
    rw [Finset.mul_sum]; exact Finset.sum_congr rfl fun v _ => by rw [xhat]; ring
  rw [hc, h1, back, h2, xhat, div_eq_mul_inv (rstd n X) (var n X + eps), ← rstd_sq X h.le]
  ring

end Cert.Norm
-- ==== Proof.Gate.Reals.lean ====
/- The gradient of the spatial gate over the real numbers: what every result of the call is, as a sum of products of
   the call's arguments, and the identities of real analysis by which the two programs' ways of computing it agree. -/
module

public import proofs.«01_k».proof.Proof.Norm.Row

@[expose] public section

set_option maxRecDepth 16384

noncomputable section

namespace Cert.Gate

open Idealize.ShloMosaic

/-! ## Real numbers inside the extended reals -/

/-- The sum of finitely many reals, taken among the extended reals. -/
theorem coe_sum {ι : Type*} [Fintype ι] (f : ι → ℝ) : (∑ i, (f i : EReal)) = ((∑ i, f i : ℝ) : EReal) := by
  classical
  refine Finset.induction_on (Finset.univ : Finset ι) (by simp) fun a s ha ih => ?_
  rw [Finset.sum_insert ha, Finset.sum_insert ha, ih, EReal.coe_add]

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_four : Ideal.ofBits .f32 0x40800000#32 = ((4 : ℝ) : EReal) := by
  simp [Ideal.ofBits, Ideal.ieee, -EReal.coe_mul]; norm_num
theorem lit_neg_two : Ideal.ofBits .f32 0xC0000000#32 = ((-2 : ℝ) : EReal) := by
  simp [Ideal.ofBits, Ideal.ieee, -EReal.coe_mul]; norm_num
theorem lit_2048 : Ideal.ofBits .f32 0x45000000#32 = ((2048 : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num

theorem lit_eps : Ideal.ofBits .f32 0x3727C5AC#32 = ((eps : ℝ) : EReal) := by
  simp [Ideal.ofBits, Ideal.ieee, eps, -EReal.coe_mul]; norm_num

/-- Division by a real that is not zero. -/
theorem div_real (x y : ℝ) (h : y ≠ 0) : Ideal.div (x : EReal) (y : EReal) = ((x / y : ℝ) : EReal) := by
  rw [Ideal.div_coe h, ← EReal.coe_mul, mul_one_div]

/-- The reciprocal root of a positive real. -/
theorem rsqrt_real (x : ℝ) (h : 0 < x) : Ideal.rsqrt (x : EReal) = (((Real.sqrt x)⁻¹ : ℝ) : EReal) := by
  rw [Ideal.rsqrt_coe, if_neg (not_lt.2 h.le), if_neg h.ne']

/-! ## The activation and its slope -/

/-- The error function. -/
def erfR (x : ℝ) : ℝ := 2 / Real.sqrt Real.pi * ∫ t in (0 : ℝ)..x, Real.exp (-(t ^ 2))

theorem erf_real (x : ℝ) : Ideal.erf (x : EReal) = (erfR x : EReal) := Ideal.erf_coe x

/-- The activation: `x/2 · (1 + erf (x/√2))`. -/
def act (x : ℝ) : ℝ := 1 / 2 * x * (1 + erfR (x * (Real.sqrt 2)⁻¹))

/-- Its slope: `(1 + erf (x/√2))/2 + x · exp(−x²/2)/√(2π)`. -/
def slope (x : ℝ) : ℝ :=
  1 / 2 * (1 + erfR (x * (Real.sqrt 2)⁻¹)) + x * ((Real.sqrt (2 * Real.pi))⁻¹ * Real.exp (-(1 / 2) * x * x))

/-- The complementary error function at `−x/√2` is `1 + erf (x/√2)`. -/
theorem erfc_real (x : ℝ) : Ideal.erfc ((-x / Real.sqrt 2 : ℝ) : EReal) = ((1 + erfR (x * (Real.sqrt 2)⁻¹) : ℝ) : EReal) := by
  rw [show ((-x / Real.sqrt 2 : ℝ) : EReal) = -((x * (Real.sqrt 2)⁻¹ : ℝ) : EReal) by rw [← EReal.coe_neg, div_eq_mul_inv, neg_mul],
    Ideal.erfc_neg, erf_real, EReal.coe_add, EReal.coe_one]

/-- Four times the angle of slope one is the circle's constant. -/
theorem four_arctan : (4 : ℝ) * Real.arctan 1 = Real.pi := by rw [Real.arctan_one]; ring

theorem sqrt_two_ne : Real.sqrt 2 ≠ 0 := (Real.sqrt_pos.2 (by norm_num)).ne'
theorem sqrt_pi_ne : Real.sqrt Real.pi ≠ 0 := (Real.sqrt_pos.2 Real.pi_pos).ne'

/-- The slope as the derivative of the complementary error function's form of the activation. -/
theorem slope_erfc (x d : ℝ) :
    -(-2 / Real.sqrt Real.pi * Real.exp (-(-x / Real.sqrt 2 * (-x / Real.sqrt 2))) * (1 / 2 * x * d) / Real.sqrt 2)
      + 1 / 2 * (d * (1 + erfR (x * (Real.sqrt 2)⁻¹))) = d * slope x := by
  have h2 : (Real.sqrt 2)⁻¹ * (Real.sqrt 2)⁻¹ = 1 / 2 := by
    rw [← mul_inv, Real.mul_self_sqrt (by norm_num)]; norm_num
  have he : -(-x / Real.sqrt 2 * (-x / Real.sqrt 2)) = -(1 / 2) * x * x := by
    rw [show -(-x / Real.sqrt 2 * (-x / Real.sqrt 2)) = -(x * x * ((Real.sqrt 2)⁻¹ * (Real.sqrt 2)⁻¹)) by ring, h2]; ring
  rw [he, slope, Real.sqrt_mul (by norm_num : (0:ℝ) ≤ 2), mul_inv]
  ring

/-! ## The arguments, as real arrays -/

/-- The call's arguments: the two halves of the projection side by side, the gate's cotangent, the spatial weights and
    biases, the norm's gain and shift. -/
structure Args where
  Z : Fin 4096 → Fin 2048 → ℝ
  D : Fin 4096 → Fin 1024 → ℝ
  W : Fin 8 → Fin 128 → Fin 128 → ℝ
  B : Fin 8 → Fin 128 → ℝ
  G : Fin 1024 → ℝ
  T : Fin 1024 → ℝ

/-- Row `s` of chunk `c`. -/
abbrev row (c : Fin 32) (s : Fin 128) : Fin 4096 := ⟨c.val * 128 + s.val, by omega⟩
/-- Lane `d` of group `g`. -/
abbrev col (g : Fin 8) (d : Fin 128) : Fin 1024 := ⟨g.val * 128 + d.val, by omega⟩
/-- The chunk of a row, and its place there. -/
abbrev chunk (r : Fin 4096) : Fin 32 := ⟨r.val / 128, by omega⟩
abbrev place (r : Fin 4096) : Fin 128 := ⟨r.val % 128, by omega⟩
/-- The group of a column. -/
abbrev group (w : Fin 1024) : Fin 8 := ⟨w.val / 128, by omega⟩

namespace Args

variable (A : Args)

def U (r : Fin 4096) (w : Fin 1024) : ℝ := A.Z r ⟨w.val, by omega⟩
def V (r : Fin 4096) (w : Fin 1024) : ℝ := A.Z r ⟨1024 + w.val, by omega⟩

/-- The layer norm of a row of activations: mean, centred value, variance, reciprocal deviation, normed value, and
    the value with gain and shift. -/
def zv (r : Fin 4096) (w : Fin 1024) : ℝ := act (A.V r w)
def mean (r : Fin 4096) : ℝ := (∑ w, A.zv r w) / 1024
def cen (r : Fin 4096) (w : Fin 1024) : ℝ := A.zv r w - A.mean r
def var (r : Fin 4096) : ℝ := (∑ w, A.cen r w * A.cen r w) / 1024
def rstd (r : Fin 4096) : ℝ := (Real.sqrt (A.var r + eps))⁻¹
def xhat (r : Fin 4096) (w : Fin 1024) : ℝ := A.cen r w * A.rstd r
def vn (r : Fin 4096) (w : Fin 1024) : ℝ := A.xhat r w * A.G w + A.T w

/-- The causal spatial weights. -/
def wm (g : Fin 8) (t s : Fin 128) : ℝ := if s ≤ t then A.W g t s else 0

/-- The gate's value. -/
def sg (r : Fin 4096) (w : Fin 1024) : ℝ :=
  (∑ s, A.wm (group w) (place r) s * A.vn (row (chunk r) s) w) + A.B (group w) (place r)

/-- The cotangent of the first half. -/
def dpu (r : Fin 4096) (w : Fin 1024) : ℝ := A.D r w * A.sg r w * slope (A.U r w)

/-- The cotangent of the gate's value. -/
def dsg (r : Fin 4096) (w : Fin 1024) : ℝ := A.D r w * act (A.U r w)

/-- The cotangent of the normed half. -/
def dvn (r : Fin 4096) (w : Fin 1024) : ℝ :=
  ∑ t, A.wm (group w) t (place r) * A.dsg (row (chunk r) t) w

/-- One chunk's part of the spatial weights' cotangent, and of the biases'. -/
def dwsAt (c : Fin 32) (g : Fin 8) (t s : Fin 128) : ℝ := ∑ d, A.dsg (row c t) (col g d) * A.vn (row c s) (col g d)
def dbsAt (c : Fin 32) (g : Fin 8) (t : Fin 128) : ℝ := ∑ d, A.dsg (row c t) (col g d)

def dws (g : Fin 8) (t s : Fin 128) : ℝ := if s ≤ t then ∑ c, A.dwsAt c g t s else 0
def dbs (g : Fin 8) (t : Fin 128) : ℝ := ∑ c, A.dbsAt c g t
def dvg (w : Fin 1024) : ℝ := ∑ r, A.dvn r w * A.xhat r w
def dvb (w : Fin 1024) : ℝ := ∑ r, A.dvn r w

/-- The norm's backward pass. -/
def dxh (r : Fin 4096) (w : Fin 1024) : ℝ := A.dvn r w * A.G w
def m1 (r : Fin 4096) : ℝ := (∑ w, A.dxh r w) / 1024
def m2 (r : Fin 4096) : ℝ := (∑ w, A.dxh r w * A.xhat r w) / 1024
def dzv (r : Fin 4096) (w : Fin 1024) : ℝ := A.rstd r * (A.dxh r w - A.m1 r - A.xhat r w * A.m2 r)

/-- The cotangent of the second half. -/
def dpv (r : Fin 4096) (w : Fin 1024) : ℝ := A.dzv r w * slope (A.V r w)

theorem var_eps_pos (r : Fin 4096) : 0 < A.var r + eps := Norm.var_eps_pos (A.zv r) (by norm_num)

/-- The norm's backward pass through the cotangents of its variance and of its mean. -/
theorem dzv_eq (r : Fin 4096) (w : Fin 1024) :
    A.dxh r w * A.rstd r + (∑ v, A.cen r v * A.dxh r v) * (-(1 / 2) * (A.rstd r / (A.var r + eps))) / 1024 * (2 * A.cen r w)
      + ((∑ v, -(A.dxh r v * A.rstd r))
        + ∑ u, -((∑ v, A.cen r v * A.dxh r v) * (-(1 / 2) * (A.rstd r / (A.var r + eps))) / 1024 * (2 * A.cen r u))) / 1024
      = A.dzv r w :=
  Norm.back_eq (A.zv r) (A.dxh r) (by norm_num) (by norm_num) w

/-! ## Sums over the rows by point, chunk and place -/

/-- Chunk `c` of point `p`, and row `i` of point `p`. -/
abbrev chunkAt (p : Fin 8) (c : Fin 4) : Fin 32 := ⟨p.val * 4 + c.val, by omega⟩
abbrev rowAt (p : Fin 8) (i : Fin 512) : Fin 4096 := ⟨p.val * 512 + i.val, by omega⟩

theorem sum_chunks {M : Type*} [AddCommMonoid M] (f : Fin 32 → M) : ∑ c, f c = ∑ p : Fin 8, ∑ c : Fin 4, f (chunkAt p c) :=
  Fin.sum_univ_tiles 8 4 rfl f

theorem sum_rows {M : Type*} [AddCommMonoid M] (f : Fin 4096 → M) : ∑ r, f r = ∑ p : Fin 8, ∑ i : Fin 512, f (rowAt p i) :=
  Fin.sum_univ_tiles 8 512 rfl f

/-- One point's part of each accumulated result. -/
def dwsPt (p : Fin 8) (g : Fin 8) (t s : Fin 128) : ℝ := if s ≤ t then ∑ c : Fin 4, A.dwsAt (chunkAt p c) g t s else 0
def dbsPt (p : Fin 8) (g : Fin 8) (t : Fin 128) : ℝ := ∑ c : Fin 4, A.dbsAt (chunkAt p c) g t
def dvgPt (p : Fin 8) (w : Fin 1024) : ℝ := ∑ i : Fin 512, A.dvn (rowAt p i) w * A.xhat (rowAt p i) w
def dvbPt (p : Fin 8) (w : Fin 1024) : ℝ := ∑ i : Fin 512, A.dvn (rowAt p i) w

theorem sum_dwsPt (g : Fin 8) (t s : Fin 128) : ∑ p, A.dwsPt p g t s = A.dws g t s := by
  by_cases h : s ≤ t
  · simp only [dwsPt, dws, if_pos h, sum_chunks (fun c => A.dwsAt c g t s)]
  · simp only [dwsPt, dws, if_neg h, Finset.sum_const_zero]
theorem sum_dbsPt (g : Fin 8) (t : Fin 128) : ∑ p, A.dbsPt p g t = A.dbs g t := by
  simp only [dbsPt, dbs, sum_chunks (fun c => A.dbsAt c g t)]
theorem sum_dvgPt (w : Fin 1024) : ∑ p, A.dvgPt p w = A.dvg w := by
  simp only [dvgPt, dvg, sum_rows (fun r => A.dvn r w * A.xhat r w)]
theorem sum_dvbPt (w : Fin 1024) : ∑ p, A.dvbPt p w = A.dvb w := by
  simp only [dvbPt, dvb, sum_rows (fun r => A.dvn r w)]

end Args

/-- The six arrays hold the arguments' numbers in every place the call reads. -/
structure Lifts (A : Args) (x0 : (⟨2, ![4096, 2560]⟩ : Shape).Idx → EReal) (x1 : (⟨3, ![8, 128, 128]⟩ : Shape).Idx → EReal)
    (x2 : (⟨2, ![8, 128]⟩ : Shape).Idx → EReal) (x3 x4 : (⟨1, ![1024]⟩ : Shape).Idx → EReal)
    (x5 : (⟨2, ![4096, 1536]⟩ : Shape).Idx → EReal) : Prop where
  hZ : ∀ (i : (⟨2, ![4096, 2560]⟩ : Shape).Idx) (h : (i 1).val < 2048), x0 i = (A.Z (i 0) ⟨(i 1).val, h⟩ : EReal)
  hW : ∀ i : (⟨3, ![8, 128, 128]⟩ : Shape).Idx, x1 i = (A.W (i 0) (i 1) (i 2) : EReal)
  hB : ∀ i : (⟨2, ![8, 128]⟩ : Shape).Idx, x2 i = (A.B (i 0) (i 1) : EReal)
  hG : ∀ i : (⟨1, ![1024]⟩ : Shape).Idx, x3 i = (A.G (i 0) : EReal)
  hT : ∀ i : (⟨1, ![1024]⟩ : Shape).Idx, x4 i = (A.T (i 0) : EReal)
  hD : ∀ (i : (⟨2, ![4096, 1536]⟩ : Shape).Idx) (h : (i 1).val < 1024), x5 i = (A.D (i 0) ⟨(i 1).val, h⟩ : EReal)

end Cert.Gate

end
-- ==== Proof.Gate.Tile.lean ====
/- What one grid point of the kernel computes, read in real numbers: every tile of 128 rows and 128 lanes, and the
   norm over the 512 rows of the point. -/
module

public import proofs.«01_k».proof.Proof.Gate.Reals
public import proofs.«01_k».proof.Proof.Gen.KernelIdeal.Skeleton

@[expose] public section

set_option maxRecDepth 16384

noncomputable section

namespace Cert.Gate.Tile

open Idealize.ShloMosaic Idealize.ShloMosaic.TcCoe
open Cert.KernelIdeal Cert.KernelIdeal.Gen Cert.Gate.Args

/-! ## The named numbers and the operations at real operands -/

theorem root_half : Named.named (F := Ideal) κ "sqrt_half" (φ := .f32) 0x3F3504F3#32 = (((Real.sqrt 2)⁻¹ : ℝ) : EReal) := rfl
theorem root_2pi : Named.named (F := Ideal) κ "inv_sqrt_2pi" (φ := .f32) 0x3ECC422A#32 = (((Real.sqrt (2 * Real.pi))⁻¹ : ℝ) : EReal) := rfl
theorem erf_r (x : ℝ) : FloatOps.erf (F := Ideal) (φ := .f32) (x : EReal) = ((erfR x : ℝ) : EReal) := erf_real x
theorem exp_r' (x : ℝ) : Ideal.exp (x : EReal) = ((Real.exp x : ℝ) : EReal) := rfl
theorem one_add_r (x : ℝ) : (1 : EReal) + (x : EReal) = ((1 + x : ℝ) : EReal) := by rw [EReal.coe_add, EReal.coe_one]

/-- The causal comparison of two places, as a bit. -/
theorem causal : ∀ t s : Fin 128, IntOp.cmpi .sle (BitVec.ofNat 32 s.val) (BitVec.ofNat 32 t.val) = if s ≤ t then 1#1 else 0#1 := by
  decide +kernel

theorem select_causal (t s : Fin 128) (x : EReal) :
    Scalar.select (IntOp.cmpi .sle (BitVec.ofNat 32 s.val) (BitVec.ofNat 32 t.val)) x (0 : EReal) = if s ≤ t then x else 0 := by
  rw [causal]
  by_cases h : s ≤ t
  · rw [if_pos h, if_pos h]; rfl
  · rw [if_neg h, if_neg h]; rfl

theorem coe_ite (t s : Fin 128) (x : ℝ) : (if s ≤ t then (x : EReal) else 0) = ((if s ≤ t then x else 0 : ℝ) : EReal) := by
  split
  · rfl
  · exact EReal.coe_zero.symm

/-! ## One tile -/

variable (A : Args) (g : Fin 8) (c : Fin 32)
  {ws : Vec Ideal S1x128x128 .f32} {wm : FVec Ideal S128x128 .bf16} {vn : Vec Ideal S128x128 .bf16} {pu d : Vec Ideal S128x128 .f32}
  {bs : Vec Ideal S1x128x1 .f32} {acc : FVec Ideal S128x128 .f32} {accb : FVec Ideal S128x1 .f32}

/-- The masked weights. -/
theorem mask_tile (hw : ∀ t s, ws (ix3 0 t s) = (A.W g t s : EReal)) (t s : Fin 128) :
    k0_pay10 k0_pay6 ws (ix2 t s) = (A.wm g t s : EReal) := by
  pointwise [k0_pay10, k0_pay6]
  rw [select_causal, hw, coe_ite]; rfl

/-- The first half's cotangent. -/
theorem dpu_tile (hw : ∀ t s, k0_pay10 k0_pay6 ws (ix2 t s) = (A.wm g t s : EReal)) (hv : ∀ s l, vn (ix2 s l) = (A.vn (row c s) (col g l) : EReal))
    (hu : ∀ s l, pu (ix2 s l) = (A.U (row c s) (col g l) : EReal)) (hd : ∀ s l, d (ix2 s l) = (A.D (row c s) (col g l) : EReal))
    (hb : ∀ t, bs (ix3 0 t 0) = (A.B g t : EReal)) (t l : Fin 128) :
    k0_pay13 k0_pay6 ws vn pu d bs (ix2 t l) = (A.dpu (row c t) (col g l) : EReal) := by
  have e0 : group (col g l) = g := Fin.ext (by show (g.val * 128 + l.val) / 128 = g.val; omega)
  have e1 : place (row c t) = t := Fin.ext (by show (c.val * 128 + t.val) % 128 = t.val; omega)
  have e2 : chunk (row c t) = c := Fin.ext (by show (c.val * 128 + t.val) / 128 = c.val; omega)
  pointwise [k0_pay13]
  simp only [hw, hv, hu, hd, hb, root_half, root_2pi, lit_half, lit_neg_half, ← EReal.coe_mul, coe_sum, erf_r, one_add_r, exp_r', ← EReal.coe_add]
  rw [Args.dpu, Args.sg, e0, e1, e2]; rfl

/-- The cotangent of the gate's value. -/
theorem dsg_tile (hu : ∀ s l, pu (ix2 s l) = (A.U (row c s) (col g l) : EReal)) (hd : ∀ s l, d (ix2 s l) = (A.D (row c s) (col g l) : EReal))
    (t l : Fin 128) : k0_pay14 pu d (ix2 t l) = (A.dsg (row c t) (col g l) : EReal) := by
  pointwise [k0_pay14]
  simp only [hu, hd, root_half, lit_half, ← EReal.coe_mul, erf_r, one_add_r]
  rfl

/-- The normed half's cotangent. -/
theorem dvn_tile (hw : ∀ t s, wm (ix2 t s) = (A.wm g t s : EReal))
    (hu : ∀ s l, pu (ix2 s l) = (A.U (row c s) (col g l) : EReal)) (hd : ∀ s l, d (ix2 s l) = (A.D (row c s) (col g l) : EReal)) (t l : Fin 128) :
    k0_pay18 wm pu d (ix2 t l) = (A.dvn (row c t) (col g l) : EReal) := by
  have e0 : group (col g l) = g := Fin.ext (by show (g.val * 128 + l.val) / 128 = g.val; omega)
  have e1 : place (row c t) = t := Fin.ext (by show (c.val * 128 + t.val) % 128 = t.val; omega)
  have e2 : chunk (row c t) = c := Fin.ext (by show (c.val * 128 + t.val) / 128 = c.val; omega)
  pointwise [k0_pay18, k0_pay15]
  simp only [hw, dsg_tile A g c hu hd, ← EReal.coe_mul, coe_sum]
  rw [Args.dvn, e0, e1, e2]

/-- One chunk's part of the spatial weights' cotangent, added to `acc`. -/
theorem dws_tile (r : Fin 128 → Fin 128 → ℝ) (ha : ∀ t s, acc (ix2 t s) = (r t s : EReal)) (hv : ∀ s l, vn (ix2 s l) = (A.vn (row c s) (col g l) : EReal))
    (hu : ∀ s l, pu (ix2 s l) = (A.U (row c s) (col g l) : EReal)) (hd : ∀ s l, d (ix2 s l) = (A.D (row c s) (col g l) : EReal)) (t s : Fin 128) :
    k0_pay16 acc vn pu d (ix2 t s) = ((r t s + A.dwsAt c g t s : ℝ) : EReal) := by
  pointwise [k0_pay16, k0_pay15]
  simp only [ha, hv, dsg_tile A g c hu hd, ← EReal.coe_mul, coe_sum, ← EReal.coe_add]
  rfl

/-- One chunk's part of the spatial biases' cotangent, added to `accb`. -/
theorem dbs_tile (r : Fin 128 → ℝ) (ha : ∀ t, accb (ix2 t 0) = (r t : EReal))
    (hu : ∀ s l, pu (ix2 s l) = (A.U (row c s) (col g l) : EReal)) (hd : ∀ s l, d (ix2 s l) = (A.D (row c s) (col g l) : EReal)) (t : Fin 128) :
    k0_pay17 accb pu d (ix2 t 0) = ((r t + A.dbsAt c g t : ℝ) : EReal) := by
  pointwise [k0_pay17]
  simp only [ha, dsg_tile A g c hu hd, coe_sum, ← EReal.coe_add]
  rfl

/-! ## The four chunks of one group -/

variable {A} {g} {p : Fin 8} {vn0 vn1 vn2 vn3 : Vec Ideal S128x128 .bf16} {pu0 pu1 pu2 pu3 d0 d1 d2 d3 : Vec Ideal S128x128 .f32}

/-- The tiles of chunk `c` at group `g`: the first half, and the gate's cotangent. -/
structure Gates (A : Args) (g : Fin 8) (c : Fin 32) (pu d : Vec Ideal S128x128 .f32) : Prop where
  hu : ∀ s l, pu (ix2 s l) = (A.U (row c s) (col g l) : EReal)
  hd : ∀ s l, d (ix2 s l) = (A.D (row c s) (col g l) : EReal)

/-- What one point adds to the spatial weights' cotangent of a group. -/
theorem dws_point (h0 : Gates A g (chunkAt p 0) pu0 d0) (h1 : Gates A g (chunkAt p 1) pu1 d1) (h2 : Gates A g (chunkAt p 2) pu2 d2)
    (h3 : Gates A g (chunkAt p 3) pu3 d3)
    (v0 : ∀ s l, vn0 (ix2 s l) = (A.vn (row (chunkAt p 0) s) (col g l) : EReal)) (v1 : ∀ s l, vn1 (ix2 s l) = (A.vn (row (chunkAt p 1) s) (col g l) : EReal))
    (v2 : ∀ s l, vn2 (ix2 s l) = (A.vn (row (chunkAt p 2) s) (col g l) : EReal)) (v3 : ∀ s l, vn3 (ix2 s l) = (A.vn (row (chunkAt p 3) s) (col g l) : EReal))
    (prev : Vec Ideal S1x128x128 .f32) (t s : Fin 128) :
    k0_pay283 k0_pay6 (k0_pay16 (k0_pay16 (k0_pay16 (k0_pay16 k0_pay11 vn0 pu0 d0) vn1 pu1 d1) vn2 pu2 d2) vn3 pu3 d3) prev (ix3 0 t s)
      = prev (ix3 0 t s) + (A.dwsPt p g t s : EReal) := by
  have e := dws_tile A g _ _ (dws_tile A g _ _ (dws_tile A g _ _ (dws_tile A g _ (fun _ _ => 0)
    (fun t s => show k0_pay11 (F := Ideal) (ix2 t s) = _ by pointwise [k0_pay11]; exact EReal.coe_zero.symm) v0 h0.hu h0.hd) v1 h1.hu h1.hd) v2 h2.hu h2.hd) v3 h3.hu h3.hd t s
  pointwise [k0_pay283, k0_pay6]
  rw [select_causal, e, coe_ite, Args.dwsPt, Fin.sum_univ_four, zero_add]

/-- What one point adds to the spatial biases' cotangent of a group. -/
theorem dbs_point (h0 : Gates A g (chunkAt p 0) pu0 d0) (h1 : Gates A g (chunkAt p 1) pu1 d1) (h2 : Gates A g (chunkAt p 2) pu2 d2)
    (h3 : Gates A g (chunkAt p 3) pu3 d3) (prev : Vec Ideal S1x128x1 .f32) (t : Fin 128) :
    k0_pay251 (k0_pay250 (k0_pay17 (k0_pay17 (k0_pay17 k0_pay12 pu0 d0) pu1 d1) pu2 d2) pu3 d3 prev) (ix3 0 t 0)
      = prev (ix3 0 t 0) + (A.dbsPt p g t : EReal) := by
  have e := dbs_tile A g _ _ (dbs_tile A g _ _ (dbs_tile A g _ (fun _ => 0)
    (fun t => show k0_pay12 (F := Ideal) (ix2 t 0) = _ by pointwise [k0_pay12]; exact EReal.coe_zero.symm) h0.hu h0.hd) h1.hu h1.hd) h2.hu h2.hd t
  have e3 : ∀ t l, k0_pay246 pu3 d3 (ix2 t l) = (A.dsg (row (chunkAt p 3) t) (col g l) : EReal) := dsg_tile A g _ h3.hu h3.hd
  pointwise [k0_pay251, k0_pay250]
  simp only [e, e3, coe_sum, ← EReal.coe_add]
  rw [Args.dbsPt, Fin.sum_univ_four, zero_add]; rfl

/-! ## The norm over one point's rows -/

variable {X1 dv : Vec Ideal S512x1024 .f32} {gain shift prev : Vec Ideal S1x1024 .f32}
  (hX : ∀ i w, X1 (ix2 i w) = (A.V (rowAt p i) w : EReal)) (hG : ∀ w, gain (ix2 0 w) = (A.G w : EReal)) (hT : ∀ w, shift (ix2 0 w) = (A.T w : EReal))
  (hD : ∀ i w, dv (ix2 i w) = (A.dvn (rowAt p i) w : EReal))

include hX in
theorem act_point (i : Fin 512) (w : Fin 1024) : k0_pay7 X1 (ix2 i w) = (A.zv (rowAt p i) w : EReal) := by
  pointwise [k0_pay7]
  simp only [hX, root_half, lit_half, ← EReal.coe_mul, erf_r, one_add_r]
  rfl

theorem ne1024 : (1024 : ℝ) ≠ 0 := by norm_num

include hX in
theorem cen_point (i : Fin 512) (w : Fin 1024) : k0_pay286 (k0_pay7 X1) (ix2 i w) = (A.cen (rowAt p i) w : EReal) := by
  pointwise [k0_pay286]
  simp only [act_point hX, lit_1024, coe_sum, div_real _ _ ne1024, ← EReal.coe_sub]
  rfl
include hX in
theorem var_point (i : Fin 512) : k0_pay287 (k0_pay7 X1) (ix2 i 0) = (A.var (rowAt p i) : EReal) := by
  pointwise [k0_pay287]
  simp only [cen_point hX, lit_1024, ← EReal.coe_mul, coe_sum, div_real _ _ ne1024]
  rfl
include hX in
theorem rstd_point (i : Fin 512) : k0_pay288 (k0_pay287 (k0_pay7 X1)) (ix2 i 0) = (A.rstd (rowAt p i) : EReal) := by
  pointwise [k0_pay288]
  simp only [var_point hX, lit_eps, ← EReal.coe_add, rsqrt_real _ (A.var_eps_pos _)]
  rfl
include hX in
theorem xhat_point (i : Fin 512) (w : Fin 1024) : k0_pay289 (k0_pay286 (k0_pay7 X1)) (k0_pay287 (k0_pay7 X1)) (ix2 i w) = (A.xhat (rowAt p i) w : EReal) := by
  pointwise [k0_pay289]
  simp only [cen_point hX, rstd_point hX, ← EReal.coe_mul]
  rfl
include hX hG hT in
theorem vn_point (i : Fin 512) (w : Fin 1024) : k0_pay9 (k0_pay8 X1 gain shift) (ix2 i w) = (A.vn (rowAt p i) w : EReal) := by
  pointwise [k0_pay8, k0_pay9]
  simp only [act_point hX, hG, hT, lit_1024, lit_eps, coe_sum, div_real _ _ ne1024, ← EReal.coe_sub, ← EReal.coe_mul, ← EReal.coe_add]
  change _ * Ideal.rsqrt ((A.var (rowAt p i) + eps : ℝ) : EReal) * _ + _ = _
  rw [rsqrt_real _ (A.var_eps_pos (rowAt p i))]
  simp only [← EReal.coe_mul, ← EReal.coe_add]
  rfl
include hX hG hD in
theorem dzv_point (i : Fin 512) (w : Fin 1024) :
    k0_pay290 dv (k0_pay285 gain) (k0_pay286 (k0_pay7 X1)) (k0_pay287 (k0_pay7 X1)) (ix2 i w) = (A.dzv (rowAt p i) w : EReal) := by
  pointwise [k0_pay290, k0_pay285]
  simp only [xhat_point hX, rstd_point hX, hG, hD, lit_1024, coe_sum, div_real _ _ ne1024, ← EReal.coe_sub, ← EReal.coe_mul]
  rfl
include hX hG hD in
/-- The second half's cotangent. -/
theorem dpv_point (i : Fin 512) (w : Fin 1024) :
    k0_pay1 (k0_pay290 dv (k0_pay285 gain) (k0_pay286 (k0_pay7 X1)) (k0_pay287 (k0_pay7 X1))) (k0_pay294 X1 (k0_pay293 X1)) (ix2 i w)
      = (A.dpv (rowAt p i) w : EReal) := by
  pointwise [k0_pay1, k0_pay294, k0_pay293]
  simp only [dzv_point hX hG hD, hX, root_half, root_2pi, lit_half, lit_neg_half, ← EReal.coe_mul, erf_r, one_add_r, exp_r', ← EReal.coe_add]
  rfl
include hX hD in
theorem dvg_point (w : Fin 1024) : k0_pay291 dv (k0_pay286 (k0_pay7 X1)) (k0_pay287 (k0_pay7 X1)) prev (ix2 0 w) = prev (ix2 0 w) + (A.dvgPt p w : EReal) := by
  pointwise [k0_pay291]
  simp only [xhat_point hX, hD, ← EReal.coe_mul, coe_sum]
  rfl
include hD in
theorem dvb_point (w : Fin 1024) : k0_pay292 dv prev (ix2 0 w) = prev (ix2 0 w) + (A.dvbPt p w : EReal) := by
  pointwise [k0_pay292]
  simp only [hD, coe_sum]
  rfl

end Cert.Gate.Tile
-- ==== Proof.Gate.Point.lean ====
/- The stores of one grid point: the tiles it writes of each output and of the scratch holding the normed half's
   cotangent, and what the whole buffers hold afterwards, in real numbers. -/
module

public import proofs.«01_k».proof.Proof.Gate.Tile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Gate.Tile

open Idealize.ShloMosaic Idealize.ShloMosaic.TcCoe Idealize.SL.Sem
open Cert.KernelIdeal Cert.KernelIdeal.Gen Cert.Gate.Args

/-- What one grid point reads: the rows of both halves and of the cotangent, and the parameters whole. -/
structure Pt where
  u : Vec Ideal S512x1024 .f32
  v : Vec Ideal S512x1024 .f32
  d : Vec Ideal S512x1024 .f32
  ws : Vec Ideal S8x128x128 .f32
  bs : Vec Ideal S8x128x1 .f32
  gain : Vec Ideal S1x1024 .f32
  shift : Vec Ideal S1x1024 .f32

/-- The point `p`'s reads are the arguments' rows. -/
structure Pt.Of (P : Pt) (A : Args) (p : Fin 8) : Prop where
  hU : ∀ i w, P.u (ix2 i w) = (A.U (rowAt p i) w : EReal)
  hV : ∀ i w, P.v (ix2 i w) = (A.V (rowAt p i) w : EReal)
  hd : ∀ i w, P.d (ix2 i w) = (A.D (rowAt p i) w : EReal)
  hw : ∀ g t s, P.ws (ix3 g t s) = (A.W g t s : EReal)
  hb : ∀ g t, P.bs (ix3 g t 0) = (A.B g t : EReal)
  hG : ∀ w, P.gain (ix2 0 w) = (A.G w : EReal)
  hT : ∀ w, P.shift (ix2 0 w) = (A.T w : EReal)

namespace Pt

variable (P : Pt)

theorem in_tile (g : Fin 8) (c : Fin 4) : ∀ a, (![c.val * 128, g.val * 128] : Fin 2 → ℕ) a + (![128, 128] : Fin 2 → ℕ) a ≤ S512x1024.size a := by
  revert g c; decide +kernel
theorem in_ws (g : Fin 8) : ∀ a, (![g.val, 0, 0] : Fin 3 → ℕ) a + (![1, 128, 128] : Fin 3 → ℕ) a ≤ S8x128x128.size a := by
  revert g; decide +kernel
theorem in_bs (g : Fin 8) : ∀ a, (![g.val, 0, 0] : Fin 3 → ℕ) a + (![1, 128, 1] : Fin 3 → ℕ) a ≤ S8x128x1.size a := by
  revert g; decide +kernel
theorem in_all : ∀ a, (![0, 0] : Fin 2 → ℕ) a + (![512, 1024] : Fin 2 → ℕ) a ≤ S512x1024.size a := by decide +kernel

/-- The tile of chunk `c` of the point and group `g`, and the slabs of the parameters at `g`. -/
abbrev tile (g : Fin 8) (c : Fin 4) : Rect S512x1024 := Rect.unit ![c.val * 128, g.val * 128] ![128, 128] (in_tile g c)
abbrev rows : Rect S512x1024 := Rect.unit ![0, 0] ![512, 1024] in_all
abbrev wsSlab (g : Fin 8) : Rect S8x128x128 := Rect.unit ![g.val, 0, 0] ![1, 128, 128] (in_ws g)
abbrev bsSlab (g : Fin 8) : Rect S8x128x1 := Rect.unit ![g.val, 0, 0] ![1, 128, 1] (in_bs g)

abbrev uT (g : Fin 8) (c : Fin 4) : Vec Ideal S128x128 .f32 := View.ld P.u (tile g c)
abbrev dT (g : Fin 8) (c : Fin 4) : Vec Ideal S128x128 .f32 := View.ld P.d (tile g c)
abbrev wT (g : Fin 8) : Vec Ideal S1x128x128 .f32 := View.ld P.ws (wsSlab g)
abbrev bT (g : Fin 8) : Vec Ideal S1x128x1 .f32 := View.ld P.bs (bsSlab g)
/-- The tile of the normed half, read back from the scratch it was stored in whole. -/
abbrev vT (g : Fin 8) (c : Fin 4) : Vec Ideal S128x128 .bf16 :=
  (View.whole cc0_scratch0).readCov [⟨Rect.unit ![0, 0] ![512, 1024] in_all, k0_pay9 (k0_pay8 P.v P.gain P.shift)⟩] (tile g c).toLoadRect

abbrev dpuPiece (g : Fin 8) (c : Fin 4) : View.Piece (Elt Ideal) S512x1024 .bf16 :=
  ⟨tile g c, k0_pay13 k0_pay6 (P.wT g) (P.vT g c) (P.uT g c) (P.dT g c) (P.bT g)⟩
abbrev dvnPiece (g : Fin 8) (c : Fin 4) : View.Piece (Elt Ideal) S512x1024 .f32 :=
  ⟨tile g c, k0_pay18 (k0_pay10 k0_pay6 (P.wT g)) (P.uT g c) (P.dT g c)⟩
abbrev dwsPiece (prev : Vec Ideal S8x128x128 .f32) (g : Fin 8) : View.Piece (Elt Ideal) S8x128x128 .f32 :=
  ⟨wsSlab g, k0_pay283 k0_pay6 (k0_pay16 (k0_pay16 (k0_pay16 (k0_pay16 k0_pay11 (P.vT g 0) (P.uT g 0) (P.dT g 0)) (P.vT g 1) (P.uT g 1) (P.dT g 1))
    (P.vT g 2) (P.uT g 2) (P.dT g 2)) (P.vT g 3) (P.uT g 3) (P.dT g 3)) (View.ld prev (wsSlab g))⟩
abbrev dbsPiece (prev : Vec Ideal S8x128x1 .f32) (g : Fin 8) : View.Piece (Elt Ideal) S8x128x1 .f32 :=
  ⟨bsSlab g, k0_pay251 (k0_pay250 (k0_pay17 (k0_pay17 (k0_pay17 k0_pay12 (P.uT g 0) (P.dT g 0)) (P.uT g 1) (P.dT g 1)) (P.uT g 2) (P.dT g 2))
    (P.uT g 3) (P.dT g 3) (View.ld prev (bsSlab g)))⟩

/-- The scratch of the normed half's cotangent, read whole. -/
abbrev dvnAll : Vec Ideal S512x1024 .f32 :=
  (View.whole cc0_scratch1).readCov
    [P.dvnPiece 7 3, P.dvnPiece 7 2, P.dvnPiece 7 1, P.dvnPiece 7 0,
      P.dvnPiece 6 3, P.dvnPiece 6 2, P.dvnPiece 6 1, P.dvnPiece 6 0,
      P.dvnPiece 5 3, P.dvnPiece 5 2, P.dvnPiece 5 1, P.dvnPiece 5 0,
      P.dvnPiece 4 3, P.dvnPiece 4 2, P.dvnPiece 4 1, P.dvnPiece 4 0,
      P.dvnPiece 3 3, P.dvnPiece 3 2, P.dvnPiece 3 1, P.dvnPiece 3 0,
      P.dvnPiece 2 3, P.dvnPiece 2 2, P.dvnPiece 2 1, P.dvnPiece 2 0,
      P.dvnPiece 1 3, P.dvnPiece 1 2, P.dvnPiece 1 1, P.dvnPiece 1 0,
      P.dvnPiece 0 3, P.dvnPiece 0 2, P.dvnPiece 0 1, P.dvnPiece 0 0] rows.toLoadRect

variable {P} {A : Args} {p : Fin 8} (H : P.Of A p)

theorem row_eq (c : Fin 4) (s : Fin 128) (h : c.val * 128 + s.val < 512) : rowAt p ⟨c.val * 128 + s.val, h⟩ = row (chunkAt p c) s :=
  Fin.ext (by show p.val * 512 + (c.val * 128 + s.val) = (p.val * 4 + c.val) * 128 + s.val; omega)

theorem at_emb {s : Shape} {off size : Fin s.rank → ℕ} (inb : ∀ a, off a + size a ≤ s.size a) (x : (Rect.unit off size inb).shape.Idx) (a : Fin s.rank) :
    ((Rect.unit off size inb).emb x a).val = off a + (x a).val := by
  show off a + 1 * (x a).val = _; omega

include H

theorem u_tile (g : Fin 8) (c : Fin 4) (s l : Fin 128) : P.uT g c (ix2 s l) = (A.U (row (chunkAt p c) s) (col g l) : EReal) := by
  pointwise [uT]
  rw [H.hU, row_eq]
theorem d_tile (g : Fin 8) (c : Fin 4) (s l : Fin 128) : P.dT g c (ix2 s l) = (A.D (row (chunkAt p c) s) (col g l) : EReal) := by
  pointwise [dT]
  rw [H.hd, row_eq]
theorem v_tile (g : Fin 8) (c : Fin 4) (s l : Fin 128) : P.vT g c (ix2 s l) = (A.vn (row (chunkAt p c) s) (col g l) : EReal) := by
  have e : P.vT g c = View.ld (k0_pay9 (k0_pay8 P.v P.gain P.shift)) (tile g c) :=
    View.readCov_fill (View.whole cc0_scratch0) in_all _ [] (tile g c) (by decide)
  rw [e]
  pointwise []
  rw [vn_point H.hV H.hG H.hT, row_eq]
theorem w_tile (g : Fin 8) (t s : Fin 128) : P.wT g (ix3 0 t s) = (A.W g t s : EReal) := by
  pointwise [wT]
  exact H.hw g t s
theorem b_tile (g : Fin 8) (t : Fin 128) : P.bT g (ix3 0 t 0) = (A.B g t : EReal) := by
  pointwise [bT]
  exact H.hb g t

theorem gates (g : Fin 8) (c : Fin 4) : Gates A g (chunkAt p c) (P.uT g c) (P.dT g c) := ⟨u_tile H g c, d_tile H g c⟩

theorem dpu_piece (g : Fin 8) (c : Fin 4) (x : S128x128.Idx) (y : S512x1024.Idx) (h0 : (y 0).val = c.val * 128 + (x 0).val)
    (h1 : (y 1).val = g.val * 128 + (x 1).val) : (P.dpuPiece g c).2 x = (A.dpu (rowAt p (y 0)) (y 1) : EReal) := by
  have e0 : rowAt p (y 0) = row (chunkAt p c) (x 0) := Fin.ext (by show p.val * 512 + (y 0).val = (p.val * 4 + c.val) * 128 + (x 0).val; omega)
  have e1 : (y 1 : Fin 1024) = col g (x 1) := Fin.ext (by show (y 1).val = g.val * 128 + (x 1).val; omega)
  refine (congrArg (P.dpuPiece g c).2 (eq_ix2 x)).trans ((dpu_tile A g (chunkAt p c) (mask_tile A g (w_tile H g)) (v_tile H g c) (u_tile H g c) (d_tile H g c) (b_tile H g) (x 0) (x 1)).trans ?_)
  rw [e0]; exact congrArg (fun w : Fin 1024 => ((A.dpu _ w : ℝ) : EReal)) e1.symm

theorem dvn_piece (g : Fin 8) (c : Fin 4) (x : S128x128.Idx) (y : S512x1024.Idx) (h0 : (y 0).val = c.val * 128 + (x 0).val)
    (h1 : (y 1).val = g.val * 128 + (x 1).val) : (P.dvnPiece g c).2 x = (A.dvn (rowAt p (y 0)) (y 1) : EReal) := by
  have e0 : rowAt p (y 0) = row (chunkAt p c) (x 0) := Fin.ext (by show p.val * 512 + (y 0).val = (p.val * 4 + c.val) * 128 + (x 0).val; omega)
  have e1 : (y 1 : Fin 1024) = col g (x 1) := Fin.ext (by show (y 1).val = g.val * 128 + (x 1).val; omega)
  refine (congrArg (P.dvnPiece g c).2 (eq_ix2 x)).trans ((dvn_tile A g (chunkAt p c) (mask_tile A g (w_tile H g)) (u_tile H g c) (d_tile H g c) (x 0) (x 1)).trans ?_)
  rw [e0]; exact congrArg (fun w : Fin 1024 => ((A.dvn _ w : ℝ) : EReal)) e1.symm

theorem dws_piece (prev : Vec Ideal S8x128x128 .f32) (g : Fin 8) (x : S1x128x128.Idx) (y : S8x128x128.Idx) (h0 : (y 0).val = g.val + (x 0).val)
    (h1 : (y 1).val = 0 + (x 1).val) (h2 : (y 2).val = 0 + (x 2).val) :
    (P.dwsPiece prev g).2 x = prev y + (A.dwsPt p (y 0) (y 1) (y 2) : EReal) := by
  have z : (x 0).val = 0 := Nat.lt_one_iff.mp (x 0).isLt
  have ex : x = (ix3 (0 : Fin 1) (x 1) (x 2) : S1x128x128.Idx) :=
    (eq_ix3 x).trans (congrArg (fun z : Fin 1 => (ix3 z (x 1) (x 2) : S1x128x128.Idx)) (Subsingleton.elim (α := Fin 1) (x 0) 0))
  have e0 : (y 0 : Fin 8) = g := Fin.ext (by show (y 0).val = g.val; omega)
  have e1 : (y 1 : Fin 128) = x 1 := Fin.ext (by show (y 1).val = (x 1).val; omega)
  have e2 : (y 2 : Fin 128) = x 2 := Fin.ext (by show (y 2).val = (x 2).val; omega)
  have ey : y = (ix3 g (x 1) (x 2) : S8x128x128.Idx) :=
    (eq_ix3 y).trans (congr (congr (congrArg (fun (a : Fin 8) (b c : Fin 128) => (ix3 a b c : S8x128x128.Idx)) e0) e1) e2)
  refine (congrArg (P.dwsPiece prev g).2 ex).trans ((dws_point (p := p) (gates H g 0) (gates H g 1) (gates H g 2) (gates H g 3)
    (v_tile H g 0) (v_tile H g 1) (v_tile H g 2) (v_tile H g 3) (View.ld prev (wsSlab g)) (x 1) (x 2)).trans ?_)
  rw [ey]
  refine congrArg (fun z : EReal => z + _) ?_
  pointwise []

theorem dbs_piece (prev : Vec Ideal S8x128x1 .f32) (g : Fin 8) (x : S1x128x1.Idx) (y : S8x128x1.Idx) (h0 : (y 0).val = g.val + (x 0).val)
    (h1 : (y 1).val = 0 + (x 1).val) (_ : (y 2).val = 0 + (x 2).val) :
    (P.dbsPiece prev g).2 x = prev y + (A.dbsPt p (y 0) (y 1) : EReal) := by
  have z : (x 0).val = 0 := Nat.lt_one_iff.mp (x 0).isLt
  have ex : x = (ix3 (0 : Fin 1) (x 1) (0 : Fin 1) : S1x128x1.Idx) :=
    (eq_ix3 x).trans (congr (congrArg (fun z u : Fin 1 => (ix3 z (x 1) u : S1x128x1.Idx)) (Subsingleton.elim (α := Fin 1) (x 0) 0)) (Subsingleton.elim (α := Fin 1) (x 2) 0))
  have e0 : (y 0 : Fin 8) = g := Fin.ext (by show (y 0).val = g.val; omega)
  have e1 : (y 1 : Fin 128) = x 1 := Fin.ext (by show (y 1).val = (x 1).val; omega)
  have ey : y = (ix3 g (x 1) (0 : Fin 1) : S8x128x1.Idx) :=
    (eq_ix3 y).trans (congr (congr (congrArg (fun (a : Fin 8) (b : Fin 128) (c : Fin 1) => (ix3 a b c : S8x128x1.Idx)) e0) e1) (Subsingleton.elim (α := Fin 1) (y 2) 0))
  refine (congrArg (P.dbsPiece prev g).2 ex).trans ((dbs_point (p := p) (gates H g 0) (gates H g 1) (gates H g 2) (gates H g 3)
    (View.ld prev (bsSlab g)) (x 1)).trans ?_)
  rw [ey]
  refine congrArg (fun z : EReal => z + _) ?_
  pointwise []

/-- The first half's cotangent over the point's rows. -/
theorem dpu_all (y : S512x1024.Idx) : View.canon
    [P.dpuPiece 7 3, P.dpuPiece 7 2, P.dpuPiece 7 1, P.dpuPiece 7 0,
      P.dpuPiece 6 3, P.dpuPiece 6 2, P.dpuPiece 6 1, P.dpuPiece 6 0,
      P.dpuPiece 5 3, P.dpuPiece 5 2, P.dpuPiece 5 1, P.dpuPiece 5 0,
      P.dpuPiece 4 3, P.dpuPiece 4 2, P.dpuPiece 4 1, P.dpuPiece 4 0,
      P.dpuPiece 3 3, P.dpuPiece 3 2, P.dpuPiece 3 1, P.dpuPiece 3 0,
      P.dpuPiece 2 3, P.dpuPiece 2 2, P.dpuPiece 2 1, P.dpuPiece 2 0,
      P.dpuPiece 1 3, P.dpuPiece 1 2, P.dpuPiece 1 1, P.dpuPiece 1 0,
      P.dpuPiece 0 3, P.dpuPiece 0 2, P.dpuPiece 0 1, P.dpuPiece 0 0] y = (A.dpu (rowAt p (y 0)) (y 1) : EReal) := by
  canon_tiles x h
  · exact dpu_piece H 7 3 x y h0 h1
  · exact dpu_piece H 7 2 x y h0 h1
  · exact dpu_piece H 7 1 x y h0 h1
  · exact dpu_piece H 7 0 x y (h0.trans (Nat.zero_add _).symm) h1
  · exact dpu_piece H 6 3 x y h0 h1
  · exact dpu_piece H 6 2 x y h0 h1
  · exact dpu_piece H 6 1 x y h0 h1
  · exact dpu_piece H 6 0 x y (h0.trans (Nat.zero_add _).symm) h1
  · exact dpu_piece H 5 3 x y h0 h1
  · exact dpu_piece H 5 2 x y h0 h1
  · exact dpu_piece H 5 1 x y h0 h1
  · exact dpu_piece H 5 0 x y (h0.trans (Nat.zero_add _).symm) h1
  · exact dpu_piece H 4 3 x y h0 h1
  · exact dpu_piece H 4 2 x y h0 h1
  · exact dpu_piece H 4 1 x y h0 h1
  · exact dpu_piece H 4 0 x y (h0.trans (Nat.zero_add _).symm) h1
  · exact dpu_piece H 3 3 x y h0 h1
  · exact dpu_piece H 3 2 x y h0 h1
  · exact dpu_piece H 3 1 x y h0 h1
  · exact dpu_piece H 3 0 x y (h0.trans (Nat.zero_add _).symm) h1
  · exact dpu_piece H 2 3 x y h0 h1
  · exact dpu_piece H 2 2 x y h0 h1
  · exact dpu_piece H 2 1 x y h0 h1
  · exact dpu_piece H 2 0 x y (h0.trans (Nat.zero_add _).symm) h1
  · exact dpu_piece H 1 3 x y h0 h1
  · exact dpu_piece H 1 2 x y h0 h1
  · exact dpu_piece H 1 1 x y h0 h1
  · exact dpu_piece H 1 0 x y (h0.trans (Nat.zero_add _).symm) h1
  · exact dpu_piece H 0 3 x y h0 (h1.trans (Nat.zero_add _).symm)
  · exact dpu_piece H 0 2 x y h0 (h1.trans (Nat.zero_add _).symm)
  · exact dpu_piece H 0 1 x y h0 (h1.trans (Nat.zero_add _).symm)
  · exact dpu_piece H 0 0 x y (h0.trans (Nat.zero_add _).symm) (h1.trans (Nat.zero_add _).symm)

/-- The normed half's cotangent over the point's rows, as the scratch holds it. -/
theorem dvn_all (y : S512x1024.Idx) : View.canon
    [P.dvnPiece 7 3, P.dvnPiece 7 2, P.dvnPiece 7 1, P.dvnPiece 7 0,
      P.dvnPiece 6 3, P.dvnPiece 6 2, P.dvnPiece 6 1, P.dvnPiece 6 0,
      P.dvnPiece 5 3, P.dvnPiece 5 2, P.dvnPiece 5 1, P.dvnPiece 5 0,
      P.dvnPiece 4 3, P.dvnPiece 4 2, P.dvnPiece 4 1, P.dvnPiece 4 0,
      P.dvnPiece 3 3, P.dvnPiece 3 2, P.dvnPiece 3 1, P.dvnPiece 3 0,
      P.dvnPiece 2 3, P.dvnPiece 2 2, P.dvnPiece 2 1, P.dvnPiece 2 0,
      P.dvnPiece 1 3, P.dvnPiece 1 2, P.dvnPiece 1 1, P.dvnPiece 1 0,
      P.dvnPiece 0 3, P.dvnPiece 0 2, P.dvnPiece 0 1, P.dvnPiece 0 0] y = (A.dvn (rowAt p (y 0)) (y 1) : EReal) := by
  canon_tiles x h
  · exact dvn_piece H 7 3 x y h0 h1
  · exact dvn_piece H 7 2 x y h0 h1
  · exact dvn_piece H 7 1 x y h0 h1
  · exact dvn_piece H 7 0 x y (h0.trans (Nat.zero_add _).symm) h1
  · exact dvn_piece H 6 3 x y h0 h1
  · exact dvn_piece H 6 2 x y h0 h1
  · exact dvn_piece H 6 1 x y h0 h1
  · exact dvn_piece H 6 0 x y (h0.trans (Nat.zero_add _).symm) h1
  · exact dvn_piece H 5 3 x y h0 h1
  · exact dvn_piece H 5 2 x y h0 h1
  · exact dvn_piece H 5 1 x y h0 h1
  · exact dvn_piece H 5 0 x y (h0.trans (Nat.zero_add _).symm) h1
  · exact dvn_piece H 4 3 x y h0 h1
  · exact dvn_piece H 4 2 x y h0 h1
  · exact dvn_piece H 4 1 x y h0 h1
  · exact dvn_piece H 4 0 x y (h0.trans (Nat.zero_add _).symm) h1
  · exact dvn_piece H 3 3 x y h0 h1
  · exact dvn_piece H 3 2 x y h0 h1
  · exact dvn_piece H 3 1 x y h0 h1
  · exact dvn_piece H 3 0 x y (h0.trans (Nat.zero_add _).symm) h1
  · exact dvn_piece H 2 3 x y h0 h1
  · exact dvn_piece H 2 2 x y h0 h1
  · exact dvn_piece H 2 1 x y h0 h1
  · exact dvn_piece H 2 0 x y (h0.trans (Nat.zero_add _).symm) h1
  · exact dvn_piece H 1 3 x y h0 h1
  · exact dvn_piece H 1 2 x y h0 h1
  · exact dvn_piece H 1 1 x y h0 h1
  · exact dvn_piece H 1 0 x y (h0.trans (Nat.zero_add _).symm) h1
  · exact dvn_piece H 0 3 x y h0 (h1.trans (Nat.zero_add _).symm)
  · exact dvn_piece H 0 2 x y h0 (h1.trans (Nat.zero_add _).symm)
  · exact dvn_piece H 0 1 x y h0 (h1.trans (Nat.zero_add _).symm)
  · exact dvn_piece H 0 0 x y (h0.trans (Nat.zero_add _).symm) (h1.trans (Nat.zero_add _).symm)

theorem dws_all (prev : Vec Ideal S8x128x128 .f32) (y : S8x128x128.Idx) :
    View.canon [P.dwsPiece prev 7, P.dwsPiece prev 6, P.dwsPiece prev 5, P.dwsPiece prev 4, P.dwsPiece prev 3, P.dwsPiece prev 2, P.dwsPiece prev 1, P.dwsPiece prev 0] y = prev y + (A.dwsPt p (y 0) (y 1) (y 2) : EReal) := by
  canon_tiles x h
  · exact dws_piece H prev 7 x y h0 (h1.trans (Nat.zero_add _).symm) (h2.trans (Nat.zero_add _).symm)
  · exact dws_piece H prev 6 x y h0 (h1.trans (Nat.zero_add _).symm) (h2.trans (Nat.zero_add _).symm)
  · exact dws_piece H prev 5 x y h0 (h1.trans (Nat.zero_add _).symm) (h2.trans (Nat.zero_add _).symm)
  · exact dws_piece H prev 4 x y h0 (h1.trans (Nat.zero_add _).symm) (h2.trans (Nat.zero_add _).symm)
  · exact dws_piece H prev 3 x y h0 (h1.trans (Nat.zero_add _).symm) (h2.trans (Nat.zero_add _).symm)
  · exact dws_piece H prev 2 x y h0 (h1.trans (Nat.zero_add _).symm) (h2.trans (Nat.zero_add _).symm)
  · exact dws_piece H prev 1 x y h0 (h1.trans (Nat.zero_add _).symm) (h2.trans (Nat.zero_add _).symm)
  · exact dws_piece H prev 0 x y (h0.trans (Nat.zero_add _).symm) (h1.trans (Nat.zero_add _).symm) (h2.trans (Nat.zero_add _).symm)

theorem dbs_all (prev : Vec Ideal S8x128x1 .f32) (y : S8x128x1.Idx) :
    View.canon [P.dbsPiece prev 7, P.dbsPiece prev 6, P.dbsPiece prev 5, P.dbsPiece prev 4, P.dbsPiece prev 3, P.dbsPiece prev 2, P.dbsPiece prev 1, P.dbsPiece prev 0] y = prev y + (A.dbsPt p (y 0) (y 1) : EReal) := by
  canon_tiles x h
  · exact dbs_piece H prev 7 x y h0 (h1.trans (Nat.zero_add _).symm) (h2.trans (Nat.zero_add _).symm)
  · exact dbs_piece H prev 6 x y h0 (h1.trans (Nat.zero_add _).symm) (h2.trans (Nat.zero_add _).symm)
  · exact dbs_piece H prev 5 x y h0 (h1.trans (Nat.zero_add _).symm) (h2.trans (Nat.zero_add _).symm)
  · exact dbs_piece H prev 4 x y h0 (h1.trans (Nat.zero_add _).symm) (h2.trans (Nat.zero_add _).symm)
  · exact dbs_piece H prev 3 x y h0 (h1.trans (Nat.zero_add _).symm) (h2.trans (Nat.zero_add _).symm)
  · exact dbs_piece H prev 2 x y h0 (h1.trans (Nat.zero_add _).symm) (h2.trans (Nat.zero_add _).symm)
  · exact dbs_piece H prev 1 x y h0 (h1.trans (Nat.zero_add _).symm) (h2.trans (Nat.zero_add _).symm)
  · exact dbs_piece H prev 0 x y (h0.trans (Nat.zero_add _).symm) (h1.trans (Nat.zero_add _).symm) (h2.trans (Nat.zero_add _).symm)

theorem dws_at (prev : Vec Ideal S8x128x128 .f32) (g : Fin 8) (x : (wsSlab g).shape.Idx) : (P.dwsPiece prev g).2 x
      = (fun y : S8x128x128.Idx => prev y + (A.dwsPt p (y 0) (y 1) (y 2) : EReal)) ((wsSlab g).emb x) :=
  dws_piece H prev g x _ (at_emb (in_ws g) x 0) (at_emb (in_ws g) x 1) (at_emb (in_ws g) x 2)
theorem dbs_at (prev : Vec Ideal S8x128x1 .f32) (g : Fin 8) (x : (bsSlab g).shape.Idx) : (P.dbsPiece prev g).2 x
      = (fun y : S8x128x1.Idx => prev y + (A.dbsPt p (y 0) (y 1) : EReal)) ((bsSlab g).emb x) :=
  dbs_piece H prev g x _ (at_emb (in_bs g) x 0) (at_emb (in_bs g) x 1) (at_emb (in_bs g) x 2)

/-- The same stores over an earlier one. -/
theorem dws_all_over (prev : Vec Ideal S8x128x128 .f32) (Q : View.Piece (Elt Ideal) S8x128x128 .f32) (y : S8x128x128.Idx) :
    View.canon [P.dwsPiece prev 7, P.dwsPiece prev 6, P.dwsPiece prev 5, P.dwsPiece prev 4, P.dwsPiece prev 3, P.dwsPiece prev 2, P.dwsPiece prev 1, P.dwsPiece prev 0, Q] y = prev y + (A.dwsPt p (y 0) (y 1) (y 2) : EReal) :=
  View.canon_append_of_piecesOf (fun y => prev y + (A.dwsPt p (y 0) (y 1) (y 2) : EReal)) [Q] [P.dwsPiece prev 7, P.dwsPiece prev 6, P.dwsPiece prev 5, P.dwsPiece prev 4, P.dwsPiece prev 3, P.dwsPiece prev 2, P.dwsPiece prev 1, P.dwsPiece prev 0]
    ⟨dws_at H prev 7, dws_at H prev 6, dws_at H prev 5, dws_at H prev 4, dws_at H prev 3, dws_at H prev 2, dws_at H prev 1, dws_at H prev 0, trivial⟩ y
    (View.cover_of_tiled_head _ _ _ (by rfl) y)

theorem dbs_all_over (prev : Vec Ideal S8x128x1 .f32) (Q : View.Piece (Elt Ideal) S8x128x1 .f32) (y : S8x128x1.Idx) :
    View.canon [P.dbsPiece prev 7, P.dbsPiece prev 6, P.dbsPiece prev 5, P.dbsPiece prev 4, P.dbsPiece prev 3, P.dbsPiece prev 2, P.dbsPiece prev 1, P.dbsPiece prev 0, Q] y = prev y + (A.dbsPt p (y 0) (y 1) : EReal) :=
  View.canon_append_of_piecesOf (fun y => prev y + (A.dbsPt p (y 0) (y 1) : EReal)) [Q] [P.dbsPiece prev 7, P.dbsPiece prev 6, P.dbsPiece prev 5, P.dbsPiece prev 4, P.dbsPiece prev 3, P.dbsPiece prev 2, P.dbsPiece prev 1, P.dbsPiece prev 0]
    ⟨dbs_at H prev 7, dbs_at H prev 6, dbs_at H prev 5, dbs_at H prev 4, dbs_at H prev 3, dbs_at H prev 2, dbs_at H prev 1, dbs_at H prev 0, trivial⟩ y
    (View.cover_of_tiled_head _ _ _ (by rfl) y)

/-- The scratch read back whole is that cotangent. -/
theorem dvn_read (i : Fin 512) (w : Fin 1024) : P.dvnAll (ix2 i w) = (A.dvn (rowAt p i) w : EReal) := by
  have e : P.dvnAll = View.canon
    [P.dvnPiece 7 3, P.dvnPiece 7 2, P.dvnPiece 7 1, P.dvnPiece 7 0,
      P.dvnPiece 6 3, P.dvnPiece 6 2, P.dvnPiece 6 1, P.dvnPiece 6 0,
      P.dvnPiece 5 3, P.dvnPiece 5 2, P.dvnPiece 5 1, P.dvnPiece 5 0,
      P.dvnPiece 4 3, P.dvnPiece 4 2, P.dvnPiece 4 1, P.dvnPiece 4 0,
      P.dvnPiece 3 3, P.dvnPiece 3 2, P.dvnPiece 3 1, P.dvnPiece 3 0,
      P.dvnPiece 2 3, P.dvnPiece 2 2, P.dvnPiece 2 1, P.dvnPiece 2 0,
      P.dvnPiece 1 3, P.dvnPiece 1 2, P.dvnPiece 1 1, P.dvnPiece 1 0,
      P.dvnPiece 0 3, P.dvnPiece 0 2, P.dvnPiece 0 1, P.dvnPiece 0 0] := by
    refine (View.readCov_eq_canon' (View.whole cc0_scratch1) _ _).trans (funext fun j => congrArg _ ?_)
    exact funext fun a => Fin.ext (by fin_cases a <;> (show 0 + 1 * (j _).val = (j _).val; omega))
  rw [e]
  exact dvn_all H (ix2 i w)

end Pt

end Cert.Gate.Tile
-- ==== Proof.Gate.Reads.lean ====
/- What each grid point of the kernel reads of the arguments, in real numbers. -/
module

public import proofs.«01_k».proof.Proof.Gate.Point
public import proofs.«01_k».proof.Proof.Gen.KernelIdeal.Value

@[expose] public section

set_option maxRecDepth 16384

noncomputable section

namespace Cert.KernelIdeal.Gen

open Idealize.ShloMosaic Idealize.ShloMosaic.TcCoe Idealize.SL.Sem
open Idealize.ShloMosaic.Pipeline (Dat)
open Cert.KernelIdeal Cert.Gate Cert.Gate.Args Cert.Gate.Tile

variable (m : (ℓ : Loc nD τ sig) → Buf (Elt Ideal) ℓ)

/-- Where the blocks of the streamed windows lie at a point. -/
theorem idx : ∀ t : Fin cfg0.N, win0_0.index t = ![t.val, 0] ∧ win0_1.index t = ![t.val, 1] ∧ win0_2.index t = ![0, 0, 0] ∧ win0_3.index t = ![0, 0, 0]
    ∧ win0_4.index t = ![0, 0] ∧ win0_5.index t = ![0, 0] ∧ win0_6.index t = ![t.val, 0] ∧ win0_7.index t = ![t.val, 0] ∧ win0_8.index t = ![t.val, 0]
    ∧ win0_9.index t = ![0, 0, 0] ∧ win0_10.index t = ![0, 0, 0] ∧ win0_11.index t = ![0, 0] ∧ win0_12.index t = ![0, 0] :=
  (by decide +kernel : ∀ t : Fin grid0.N, _)

/-- The arguments, in real numbers, on core `c`. -/
abbrev Reads (A : Args) (c : Dev nD) : Prop :=
  Lifts A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The number of a grid point. -/
abbrev pt (t : Fin cfg0.N) : Fin 8 := ⟨t.val, lt_of_lt_of_eq t.isLt N_0⟩

/-- What point `t` reads. -/
abbrev reads (c : Dev nD) (t : Fin cfg0.N) : Pt where
  u := X0_0 m c t
  v := X0_1 m c t
  d := X0_6 m c t
  ws := iblk m c 2 t
  bs := iblk m c 3 t
  gain := iblk m c 4 t
  shift := iblk m c 5 t

variable {m} {A : Args} {c : Dev nD} (H : Reads m A c)
include H

theorem reads_of (t : Fin cfg0.N) : (reads m c t).Of A (pt t) where
  hU i w := by
    refine Eq.trans ?_ (H.hZ (ix2 (rowAt (pt t) i) (⟨w.val, by omega⟩ : Fin 2560)) (show w.val < 2048 by omega))
    show X0_0 m c t (ix2 i w) = _
    unfold X0_0 Pipeline.Window.fill
    rw [dif_pos (moved0_0 t _)]
    blk_point [iblk, V, idx t]
  hV i w := by
    refine Eq.trans ?_ (H.hZ (ix2 (rowAt (pt t) i) (⟨1024 + w.val, by omega⟩ : Fin 2560)) (show 1024 + w.val < 2048 by omega))
    show X0_1 m c t (ix2 i w) = _
    unfold X0_1 Pipeline.Window.fill
    rw [dif_pos (moved0_1 t _)]
    blk_point [iblk, V, idx t]
  hd i w := by
    refine Eq.trans ?_ (H.hD (ix2 (rowAt (pt t) i) (⟨w.val, by omega⟩ : Fin 1536)) (show w.val < 1024 by omega))
    show X0_6 m c t (ix2 i w) = _
    unfold X0_6 Pipeline.Window.fill
    rw [dif_pos (moved0_6 t _)]
    blk_point [iblk, V, idx t]
  hw g t' s := by
    refine Eq.trans ?_ (H.hW (ix3 g t' s))
    show iblk m c 2 t (ix3 g t' s) = _
    blk_point [iblk, V, idx t]
  hb g t' := by
    refine Eq.trans ?_ (H.hB (ix2 g t'))
    show iblk m c 3 t (ix3 g t' 0) = _
    blk_point [iblk, V, idx t]
  hG w := by
    refine Eq.trans ?_ (H.hG (ix1 w))
    show iblk m c 4 t (ix2 0 w) = _
    blk_point [iblk, V, idx t]
  hT w := by
    refine Eq.trans ?_ (H.hT (ix1 w))
    show iblk m c 5 t (ix2 0 w) = _
    blk_point [iblk, V, idx t]

end Cert.KernelIdeal.Gen
-- ==== Proof.Gate.StepFirst.lean ====
/- What each grid point leaves in the buffers of the first half's cotangent, in real numbers at every entry. -/
module

public import proofs.«01_k».proof.Proof.Gate.Reads

@[expose] public section

set_option maxRecDepth 16384
set_option maxHeartbeats 4000000

noncomputable section

namespace Cert.KernelIdeal.Gen

open Idealize.ShloMosaic Idealize.ShloMosaic.TcCoe Idealize.SL.Sem
open Idealize.ShloMosaic.Pipeline (Dat)
open Cert.KernelIdeal Cert.Gate Cert.Gate.Args Cert.Gate.Tile

variable {m : (ℓ : Loc nD τ sig) → Buf (Elt Ideal) ℓ} {A : Args} {c : Dev nD} (H : Reads m A c)
include H

theorem step7 (t : Fin cfg0.N) (y : S512x1024.Idx) : (outsAt0 m c t.val t.isLt).1 y = (A.dpu (rowAt (pt t) (y 0)) (y 1) : EReal) := by
  by_cases h : t.val % 8 = 0
  · rw [outsAt0_A m c t h]; frame_out
    exact Pt.dpu_all (reads_of H t) y
  · rw [outsAt0_B m c t h]; frame_out
    exact Pt.dpu_all (reads_of H t) y

end Cert.KernelIdeal.Gen
-- ==== Proof.Gate.StepSecond.lean ====
/- What each grid point leaves in the buffers of the second half's cotangent, in real numbers at every entry. -/
module

public import proofs.«01_k».proof.Proof.Gate.Reads

@[expose] public section

set_option maxRecDepth 16384
set_option maxHeartbeats 4000000

noncomputable section

namespace Cert.KernelIdeal.Gen

open Idealize.ShloMosaic Idealize.ShloMosaic.TcCoe Idealize.SL.Sem
open Idealize.ShloMosaic.Pipeline (Dat)
open Cert.KernelIdeal Cert.Gate Cert.Gate.Args Cert.Gate.Tile

variable {m : (ℓ : Loc nD τ sig) → Buf (Elt Ideal) ℓ} {A : Args} {c : Dev nD} (H : Reads m A c)
include H

theorem step8 (t : Fin cfg0.N) (i : Fin 512) (w : Fin 1024) : (outsAt0 m c t.val t.isLt).2.1 (ix2 i w) = (A.dpv (rowAt (pt t) i) w : EReal) := by
  have R := reads_of H t
  by_cases h : t.val % 8 = 0
  · rw [outsAt0_A m c t h]; frame_out
    exact dpv_point (dv := (reads m c t).dvnAll) R.hV R.hG (Pt.dvn_read R) i w
  · rw [outsAt0_B m c t h]; frame_out
    exact dpv_point (dv := (reads m c t).dvnAll) R.hV R.hG (Pt.dvn_read R) i w

end Cert.KernelIdeal.Gen
-- ==== Proof.Gate.StepWeights.lean ====
/- What each grid point leaves in the buffers of the spatial weights' and biases' cotangents, in real numbers at every entry. -/
module

public import proofs.«01_k».proof.Proof.Gate.Reads

@[expose] public section

set_option maxRecDepth 16384
set_option maxHeartbeats 4000000

noncomputable section

namespace Cert.KernelIdeal.Gen

open Idealize.ShloMosaic Idealize.ShloMosaic.TcCoe Idealize.SL.Sem
open Idealize.ShloMosaic.Pipeline (Dat)
open Cert.KernelIdeal Cert.Gate Cert.Gate.Args Cert.Gate.Tile

/-- The tile of the normed half as the load of what the scratch was filled with. -/
abbrev _root_.Cert.Gate.Tile.Pt.vL (P : Pt) (g : Fin 8) (c : Fin 4) : Vec Ideal S128x128 .bf16 := View.ld (k0_pay9 (k0_pay8 P.v P.gain P.shift)) (Pt.tile g c)
abbrev _root_.Cert.Gate.Tile.Pt.dwsPieceLd (P : Pt) (prev : Vec Ideal S8x128x128 .f32) (g : Fin 8) : View.Piece (Elt Ideal) S8x128x128 .f32 :=
  ⟨Pt.wsSlab g, k0_pay283 k0_pay6 (k0_pay16 (k0_pay16 (k0_pay16 (k0_pay16 k0_pay11 (P.vL g 0) (P.uT g 0) (P.dT g 0)) (P.vL g 1) (P.uT g 1) (P.dT g 1))
    (P.vL g 2) (P.uT g 2) (P.dT g 2)) (P.vL g 3) (P.uT g 3) (P.dT g 3)) (View.ld prev (Pt.wsSlab g))⟩

theorem vT_eq (P : Pt) (g : Fin 8) (c : Fin 4) : P.vT g c = P.vL g c :=
  View.readCov_fill (View.whole cc0_scratch0) Pt.in_all _ [] (Pt.tile g c) (by decide)

theorem dwsPiece_eq (P : Pt) (prev : Vec Ideal S8x128x128 .f32) (g : Fin 8) : P.dwsPiece prev g = P.dwsPieceLd prev g := by
  show (⟨Pt.wsSlab g, k0_pay283 k0_pay6 (k0_pay16 (k0_pay16 (k0_pay16 (k0_pay16 k0_pay11 (P.vT g 0) (P.uT g 0) (P.dT g 0)) (P.vT g 1) (P.uT g 1) (P.dT g 1))
    (P.vT g 2) (P.uT g 2) (P.dT g 2)) (P.vT g 3) (P.uT g 3) (P.dT g 3)) (View.ld prev (Pt.wsSlab g))⟩ : View.Piece (Elt Ideal) S8x128x128 .f32) = _
  rw [vT_eq P g 0, vT_eq P g 1, vT_eq P g 2, vT_eq P g 3]

variable {m : (ℓ : Loc nD τ sig) → Buf (Elt Ideal) ℓ} {A : Args} {c : Dev nD}

theorem dws_over {P : Pt} {p : Fin 8} (O : P.Of A p) (prev : Vec Ideal S8x128x128 .f32) (Q : View.Piece (Elt Ideal) S8x128x128 .f32) (y : S8x128x128.Idx) :
    View.canon [P.dwsPieceLd prev 7, P.dwsPieceLd prev 6, P.dwsPieceLd prev 5, P.dwsPieceLd prev 4, P.dwsPieceLd prev 3, P.dwsPieceLd prev 2, P.dwsPieceLd prev 1, P.dwsPieceLd prev 0, Q] y = prev y + (A.dwsPt p (y 0) (y 1) (y 2) : EReal) := by
  have h := Pt.dws_all_over O prev Q y
  simp only [dwsPiece_eq] at h
  exact h

variable (H : Reads m A c)
include H

theorem step9_first (t : Fin cfg0.N) (h : t.val % 8 = 0) (y : S8x128x128.Idx) :
    (outsAt0 m c t.val t.isLt).2.2.1 y = 0 + (A.dwsPt (pt t) (y 0) (y 1) (y 2) : EReal) := by
  rw [outsAt0_A m c t h]; frame_open
  simp (disch := decide) only [↓View.readCov_skip, ↓View.readCov_fill]
  frame_out
  refine (dws_over (reads_of H t) (k0_pay2 (F := Ideal)) _ y).trans ?_
  exact congrArg (fun z : EReal => z + _) (show k0_pay2 (F := Ideal) y = 0 by pointwise [k0_pay2])

theorem step9 (t : Fin cfg0.N) (h : ¬t.val % 8 = 0) (y : S8x128x128.Idx) :
    (outsAt0 m c t.val t.isLt).2.2.1 y = (outsAt0 m c (t.val - 1) (by omega)).2.2.1 y + (A.dwsPt (pt t) (y 0) (y 1) (y 2) : EReal) := by
  rw [outsAt0_B m c t h]; frame_out
  exact Pt.dws_all (reads_of H t) (outsAt0 m c (t.val - 1) (by omega)).2.2.1 y

theorem step10_first (t : Fin cfg0.N) (h : t.val % 8 = 0) (y : S8x128x1.Idx) :
    (outsAt0 m c t.val t.isLt).2.2.2.1 y = 0 + (A.dbsPt (pt t) (y 0) (y 1) : EReal) := by
  rw [outsAt0_A m c t h]; frame_open
  simp (disch := decide) only [↓View.readCov_skip, ↓View.readCov_fill]
  frame_out
  refine (Pt.dbs_all_over (reads_of H t) (k0_pay3 (F := Ideal)) _ y).trans ?_
  exact congrArg (fun z : EReal => z + _) (show k0_pay3 (F := Ideal) y = 0 by pointwise [k0_pay3])

theorem step10 (t : Fin cfg0.N) (h : ¬t.val % 8 = 0) (y : S8x128x1.Idx) :
    (outsAt0 m c t.val t.isLt).2.2.2.1 y = (outsAt0 m c (t.val - 1) (by omega)).2.2.2.1 y + (A.dbsPt (pt t) (y 0) (y 1) : EReal) := by
  rw [outsAt0_B m c t h]; frame_out
  exact Pt.dbs_all (reads_of H t) (outsAt0 m c (t.val - 1) (by omega)).2.2.2.1 y

end Cert.KernelIdeal.Gen
-- ==== Proof.Gate.StepNorm.lean ====
/- What each grid point leaves in the buffers of the norm's gain and shift cotangents, in real numbers at every entry. -/
module

public import proofs.«01_k».proof.Proof.Gate.Reads

@[expose] public section

set_option maxRecDepth 16384
set_option maxHeartbeats 4000000

noncomputable section

namespace Cert.KernelIdeal.Gen

open Idealize.ShloMosaic Idealize.ShloMosaic.TcCoe Idealize.SL.Sem
open Idealize.ShloMosaic.Pipeline (Dat)
open Cert.KernelIdeal Cert.Gate Cert.Gate.Args Cert.Gate.Tile

variable {m : (ℓ : Loc nD τ sig) → Buf (Elt Ideal) ℓ} {A : Args} {c : Dev nD} (H : Reads m A c)
include H

theorem step11_first (t : Fin cfg0.N) (h : t.val % 8 = 0) (w : Fin 1024) :
    (outsAt0 m c t.val t.isLt).2.2.2.2.1 (ix2 0 w) = 0 + (A.dvgPt (pt t) w : EReal) := by
  have R := reads_of H t
  rw [outsAt0_A m c t h]; frame_out
  refine (dvg_point (prev := k0_pay4 (F := Ideal)) (dv := (reads m c t).dvnAll) R.hV (Pt.dvn_read R) w).trans ?_
  exact congrArg (fun z : EReal => z + _) (show k0_pay4 (F := Ideal) (ix2 0 w) = 0 by pointwise [k0_pay4])

theorem step11 (t : Fin cfg0.N) (h : ¬t.val % 8 = 0) (w : Fin 1024) :
    (outsAt0 m c t.val t.isLt).2.2.2.2.1 (ix2 0 w) = (outsAt0 m c (t.val - 1) (by omega)).2.2.2.2.1 (ix2 0 w) + (A.dvgPt (pt t) w : EReal) := by
  have R := reads_of H t
  rw [outsAt0_B m c t h]; frame_out
  exact dvg_point (dv := (reads m c t).dvnAll) R.hV (Pt.dvn_read R) w

theorem step12_first (t : Fin cfg0.N) (h : t.val % 8 = 0) (w : Fin 1024) :
    (outsAt0 m c t.val t.isLt).2.2.2.2.2 (ix2 0 w) = 0 + (A.dvbPt (pt t) w : EReal) := by
  have R := reads_of H t
  rw [outsAt0_A m c t h]; frame_out
  refine (dvb_point (prev := k0_pay5 (F := Ideal)) (dv := (reads m c t).dvnAll) (Pt.dvn_read R) w).trans ?_
  exact congrArg (fun z : EReal => z + _) (show k0_pay5 (F := Ideal) (ix2 0 w) = 0 by pointwise [k0_pay5])

theorem step12 (t : Fin cfg0.N) (h : ¬t.val % 8 = 0) (w : Fin 1024) :
    (outsAt0 m c t.val t.isLt).2.2.2.2.2 (ix2 0 w) = (outsAt0 m c (t.val - 1) (by omega)).2.2.2.2.2 (ix2 0 w) + (A.dvbPt (pt t) w : EReal) := by
  have R := reads_of H t
  rw [outsAt0_B m c t h]; frame_out
  exact dvb_point (dv := (reads m c t).dvnAll) (Pt.dvn_read R) w

end Cert.KernelIdeal.Gen
-- ==== Proof.Gate.Value.lean ====
/- The kernel's six results as the run leaves them, in real numbers at every entry. -/
module

public import proofs.«01_k».proof.Proof.Gate.StepFirst
public import proofs.«01_k».proof.Proof.Gate.StepSecond
public import proofs.«01_k».proof.Proof.Gate.StepWeights
public import proofs.«01_k».proof.Proof.Gate.StepNorm

@[expose] public section

set_option maxRecDepth 16384

noncomputable section

namespace Cert.KernelIdeal.Gen

open Idealize.ShloMosaic Idealize.ShloMosaic.TcCoe Idealize.SL.Sem
open Idealize.ShloMosaic.Pipeline (Dat)
open Cert.KernelIdeal Cert.Gate Cert.Gate.Args Cert.Gate.Tile

variable {m : (ℓ : Loc nD τ sig) → Buf (Elt Ideal) ℓ} {A : Args} {c : Dev nD} (H : Reads m A c)
include H

theorem out7 : (dats m 0 c).arrAt 7 cfg0.N = fun i : S4096x1024.Idx => (A.dpu (i 0) (i 1) : EReal) := by
  refine (dats m 0 c).arrAt_eq_of_covers 7 _ (by decide +kernel) fun t hf y => ?_
  have e0 : (rowAt (pt t) (y 0)).val = ((win0_7.blk t).view.emb y 0).val := by blk_simp [idx t]
  have e1 : (y 1).val = ((win0_7.blk t).view.emb y 1).val := by blk_simp [idx t]
  blk_simp [idx t]
  rw [after0_7]
  refine (step7 H t y).trans ?_
  exact congrArg₂ (fun (r : Fin 4096) (w : Fin 1024) => ((A.dpu r w : ℝ) : EReal)) (Fin.ext e0) (Fin.ext e1)

theorem out8 : (dats m 0 c).arrAt 8 cfg0.N = fun i : S4096x1024.Idx => (A.dpv (i 0) (i 1) : EReal) := by
  refine (dats m 0 c).arrAt_eq_of_covers 8 _ (by decide +kernel) fun t hf y => ?_
  have e0 : (rowAt (pt t) (y 0)).val = ((win0_8.blk t).view.emb y 0).val := by blk_simp [idx t]
  have e1 : (y 1).val = ((win0_8.blk t).view.emb y 1).val := by blk_simp [idx t]
  blk_simp [idx t]
  rw [after0_8]
  refine ((congrArg (outsAt0 m c t.val t.isLt).2.1 (eq_ix2 y)).trans (step8 H t (y 0) (y 1))).trans ?_
  exact congrArg₂ (fun (r : Fin 4096) (w : Fin 1024) => ((A.dpv r w : ℝ) : EReal)) (Fin.ext e0) (Fin.ext e1)

theorem out9 : (dats m 0 c).arrAt 9 cfg0.N = fun i : S8x128x128.Idx => (A.dws (i 0) (i 1) (i 2) : EReal) := by
  refine (dats m 0 c).arrAt_eq_of_after_last 9 t0_7 (by decide +kernel) _ fun j => ?_
  blk_simp [idx t0_7]
  rw [after0_9]
  refine (Pipeline.eq_sum_fin_of_reset_step_apply_last (fun n h => (outsAt0 m c n h).2.2.1) 8 (fun _ => 0)
    (fun p j => (A.dwsPt ⟨p.val, lt_of_lt_of_eq p.isLt N_0⟩ (j 0) (j 1) (j 2) : EReal)) (fun t h j => step9_first H t h j) (fun t h j => step9 H t h j)
    (le_of_eq N_0) t0_7 rfl j).trans ?_
  exact (zero_add _).trans ((coe_sum _).trans (congrArg (fun z : ℝ => (z : EReal)) (A.sum_dwsPt (j 0) (j 1) (j 2))))

theorem out10 : (dats m 0 c).arrAt 10 cfg0.N = fun i : S8x128x1.Idx => (A.dbs (i 0) (i 1) : EReal) := by
  refine (dats m 0 c).arrAt_eq_of_after_last 10 t0_7 (by decide +kernel) _ fun j => ?_
  blk_simp [idx t0_7]
  rw [after0_10]
  refine (Pipeline.eq_sum_fin_of_reset_step_apply_last (fun n h => (outsAt0 m c n h).2.2.2.1) 8 (fun _ => 0)
    (fun p j => (A.dbsPt ⟨p.val, lt_of_lt_of_eq p.isLt N_0⟩ (j 0) (j 1) : EReal)) (fun t h j => step10_first H t h j) (fun t h j => step10 H t h j)
    (le_of_eq N_0) t0_7 rfl j).trans ?_
  exact (zero_add _).trans ((coe_sum _).trans (congrArg (fun z : ℝ => (z : EReal)) (A.sum_dbsPt (j 0) (j 1))))

omit H in
/-- An index of an array of one row. -/
theorem at_row (j : S1x1024.Idx) : j = ix2 (0 : Fin 1) (j 1 : Fin 1024) :=
  (eq_ix2 j).trans (congrArg (fun z : Fin 1 => (ix2 z (j 1 : Fin 1024) : S1x1024.Idx)) (Subsingleton.elim (α := Fin 1) (j 0) 0))

theorem out11 : (dats m 0 c).arrAt 11 cfg0.N = fun i : S1x1024.Idx => (A.dvg (i 1) : EReal) := by
  refine (dats m 0 c).arrAt_eq_of_after_last 11 t0_7 (by decide +kernel) _ fun j => ?_
  blk_simp [idx t0_7]
  rw [after0_11]
  refine (Pipeline.eq_sum_fin_of_reset_step_apply_last (fun n h => (outsAt0 m c n h).2.2.2.2.1) 8 (fun _ => 0)
    (fun p j => (A.dvgPt ⟨p.val, lt_of_lt_of_eq p.isLt N_0⟩ (j 1) : EReal)) (fun t h j => by rw [at_row j]; exact step11_first H t h (j 1)) (fun t h j => by rw [at_row j]; exact step11 H t h (j 1))
    (le_of_eq N_0) t0_7 rfl j).trans ?_
  exact (zero_add _).trans ((coe_sum _).trans (congrArg (fun z : ℝ => (z : EReal)) (A.sum_dvgPt (j 1))))

theorem out12 : (dats m 0 c).arrAt 12 cfg0.N = fun i : S1x1024.Idx => (A.dvb (i 1) : EReal) := by
  refine (dats m 0 c).arrAt_eq_of_after_last 12 t0_7 (by decide +kernel) _ fun j => ?_
  blk_simp [idx t0_7]
  rw [after0_12]
  refine (Pipeline.eq_sum_fin_of_reset_step_apply_last (fun n h => (outsAt0 m c n h).2.2.2.2.2) 8 (fun _ => 0)
    (fun p j => (A.dvbPt ⟨p.val, lt_of_lt_of_eq p.isLt N_0⟩ (j 1) : EReal)) (fun t h j => by rw [at_row j]; exact step12_first H t h (j 1)) (fun t h j => by rw [at_row j]; exact step12 H t h (j 1))
    (le_of_eq N_0) t0_7 rfl j).trans ?_
  exact (zero_add _).trans ((coe_sum _).trans (congrArg (fun z : ℝ => (z : EReal)) (A.sum_dvbPt (j 1))))

end Cert.KernelIdeal.Gen
-- ==== Proof.Gate.Ref.lean ====
/- What the reference computes, read in real numbers: every stage of it, at finite arguments, is the real expression
   of Gate/Reals.lean that it spells. -/
module

public import proofs.«01_k».proof.Proof.Gate.Reals
public import proofs.«01_k».proof.Proof.Gen.ReferenceIdeal.Read

@[expose] public section

set_option maxRecDepth 16384

noncomputable section

namespace Cert.Gate

open Idealize.ShloMosaic Idealize.ShloMosaic.TcCoe

/-! ## One operation at real operands -/

theorem mul_r (a b : ℝ) : FloatOps.mulf (F := Ideal) (φ := .f32) (a : EReal) (b : EReal) = ((a * b : ℝ) : EReal) := (EReal.coe_mul a b).symm
theorem add_r (a b : ℝ) : FloatOps.addf (F := Ideal) (φ := .f32) (a : EReal) (b : EReal) = ((a + b : ℝ) : EReal) := (EReal.coe_add a b).symm
theorem sub_r (a b : ℝ) : FloatOps.subf (F := Ideal) (φ := .f32) (a : EReal) (b : EReal) = ((a - b : ℝ) : EReal) := (EReal.coe_sub a b).symm
theorem neg_r (a : ℝ) : FloatOps.hostNegf (F := Ideal) (φ := .f32) (a : EReal) = ((-a : ℝ) : EReal) := (EReal.coe_neg a).symm
theorem div_r (a b : ℝ) (h : b ≠ 0) : FloatOps.hostDivf (F := Ideal) (φ := .f32) (a : EReal) (b : EReal) = ((a / b : ℝ) : EReal) := div_real a b h
theorem exp_r (a : ℝ) : FloatOps.hostUnary (F := Ideal) (φ := .f32) .exp (a : EReal) = ((Real.exp a : ℝ) : EReal) := rfl
theorem atan_r (a : ℝ) : FloatOps.hostUnary (F := Ideal) (φ := .f32) .atan (a : EReal) = ((Real.arctan a : ℝ) : EReal) := rfl
theorem sqrt_r (a : ℝ) (h : 0 ≤ a) : FloatOps.hostUnary (F := Ideal) (φ := .f32) .sqrt (a : EReal) = ((Real.sqrt a : ℝ) : EReal) := by
  show Ideal.sqrt (a : EReal) = _
  rw [Ideal.sqrt_coe, if_neg (not_lt.2 h)]
theorem rsqrt_r (a : ℝ) (h : 0 < a) : FloatOps.hostUnary (F := Ideal) (φ := .f32) .rsqrt (a : EReal) = (((Real.sqrt a)⁻¹ : ℝ) : EReal) := rsqrt_real a h
theorem erfc_r (x : ℝ) : FloatOps.hostUnary (F := Ideal) (φ := .f32) .erfc ((-x / Real.sqrt 2 : ℝ) : EReal)
    = ((1 + erfR (x * (Real.sqrt 2)⁻¹) : ℝ) : EReal) := erfc_real x
theorem half_r : FloatOps.ofBits (F := Ideal) .f32 0x3F000000#32 = ((1 / 2 : ℝ) : EReal) := lit_half
theorem neg_half_r : FloatOps.ofBits (F := Ideal) .f32 0xBF000000#32 = ((-(1 / 2) : ℝ) : EReal) := lit_neg_half
theorem zero_r : FloatOps.ofBits (F := Ideal) .f32 0x00000000#32 = ((0 : ℝ) : EReal) := by
  show Ideal.ofBits .f32 0x00000000#32 = _
  rw [Ideal.ofBits_zero_f32, EReal.coe_zero]
theorem one_r : FloatOps.ofBits (F := Ideal) .f32 0x3F800000#32 = ((1 : ℝ) : EReal) := lit_one
theorem two_r : FloatOps.ofBits (F := Ideal) .f32 0x40000000#32 = ((2 : ℝ) : EReal) := lit_two
theorem neg_two_r : FloatOps.ofBits (F := Ideal) .f32 0xC0000000#32 = ((-2 : ℝ) : EReal) := lit_neg_two
theorem four_r : FloatOps.ofBits (F := Ideal) .f32 0x40800000#32 = ((4 : ℝ) : EReal) := lit_four
theorem r1024 : FloatOps.ofBits (F := Ideal) .f32 0x44800000#32 = ((1024 : ℝ) : EReal) := lit_1024
theorem eps_r : FloatOps.ofBits (F := Ideal) .f32 0x3727C5AC#32 = ((eps : ℝ) : EReal) := lit_eps

/-- A sum whose first term is zero and whose others are reals. -/
theorem sum_r {n : Nat} (f : Fin n → EReal) (g : Fin n → ℝ) (h : ∀ k, f k = (g k : EReal)) :
    ((0 : ℝ) : EReal) + ∑ k, f k = ((∑ k, g k : ℝ) : EReal) := by
  rw [Finset.sum_congr rfl fun k _ => h k, coe_sum, EReal.coe_zero, zero_add]

/-- A sum over the indices that drop to `j`, along the family of them. -/
theorem sum_family {s t : Shape} {axes : List (Fin s.rank)} {κ : Type} [Fintype κ] (h : s.ReducesTo axes t) (j : t.Idx) (g : κ → s.Idx)
    (hg : Function.Injective g) (hp : ∀ i, h.drop i = j ↔ ∃ k, g k = i) (v : s.Idx → EReal) (init : EReal) :
    Ideal.hostReduceAdd h v init j = init + ∑ k, v (g k) :=
  congrArg (init + ·) (Finset.sum_filter_eq_sum_of_fiber _ g hg hp v)

/-- A sum along the first and the last of four axes. -/
theorem sum_first_last {n0 n1 n2 n3 : Nat} (h : (⟨4, ![n0, n1, n2, n3]⟩ : Shape).ReducesTo [0, 3] (⟨2, ![n1, n2]⟩ : Shape))
    (v : (⟨4, ![n0, n1, n2, n3]⟩ : Shape).Idx → EReal) (init : EReal) (j : (⟨2, ![n1, n2]⟩ : Shape).Idx) :
    Ideal.hostReduceAdd h v init j = init + ∑ k0 : Fin n0, ∑ k3 : Fin n3, v (ix4 k0 (j 0) (j 1) k3) := by
  have hf : ∀ i : (⟨4, ![n0, n1, n2, n3]⟩ : Shape).Idx, h.drop i = j ↔ ∃ k : Fin n0 × Fin n3, ix4 k.1 (j 0) (j 1) k.2 = i := fun i => by
    constructor
    · intro e
      refine ⟨(i 0, i 3), ?_⟩
      funext a; apply Fin.ext
      match a with
      | ⟨0, _⟩ => rfl
      | ⟨1, _⟩ => exact (congrArg Fin.val (congrFun e 0)).symm
      | ⟨2, _⟩ => exact (congrArg Fin.val (congrFun e 1)).symm
      | ⟨3, _⟩ => rfl
    · rintro ⟨k, rfl⟩
      funext b
      apply Fin.ext
      match b with
      | ⟨0, _⟩ => rfl
      | ⟨1, _⟩ => rfl
  exact (sum_family h j (fun k : Fin n0 × Fin n3 => ix4 k.1 (j 0) (j 1) k.2)
    (fun _ _ e => Prod.ext (congrFun e 0) (congrFun e 3)) hf v init).trans (congrArg (init + ·) (Fintype.sum_prod_type _))

/-- The causal comparison of two places, as a bit. -/
theorem causal_bit : ∀ t s : Fin 128, IntOp.cmpi .sge (IntOp.addi (BitVec.ofNat 32 t.val) 0#32) (BitVec.ofNat 32 s.val) = if s ≤ t then 1#1 else 0#1 := by
  decide +kernel

namespace Ref

open Cert.ReferenceIdeal Cert.ReferenceIdeal.Gen Cert.ReferenceIdeal.Read

variable {A : Args} {x0 : (⟨S4096x2560, .f32⟩ : BufTy).Contents (Elt Ideal)} {x1 : (⟨S8x128x128, .f32⟩ : BufTy).Contents (Elt Ideal)}
  {x2 : (⟨S8x128, .f32⟩ : BufTy).Contents (Elt Ideal)} {x3 x4 : (⟨S1024, .f32⟩ : BufTy).Contents (Elt Ideal)}
  {x5 : (⟨S4096x1536, .f32⟩ : BufTy).Contents (Elt Ideal)} (H : Lifts A x0 x1 x2 x3 x4 x5)

/-! ## The activation -/

include H in
theorem s0 (i : S4096x2048.Idx) : val_main_v0 (F := Ideal) x0 i = (A.Z (i 0) (i 1) : EReal) := by
  rw [val_main_v0_apply]; exact H.hZ _ (i 1).isLt
include H in
theorem s2 (i : S4096x2048.Idx) : val_main_v2 (F := Ideal) x0 i = ((1 / 2 * A.Z (i 0) (i 1) : ℝ) : EReal) := by
  rw [val_main_v2_apply, val_main_v1_apply, val_main_cst_apply, s0 H, half_r, mul_r]
theorem s4 (i : S_.Idx) : val_main_v4 (F := Ideal) i = (Real.sqrt 2 : EReal) := by
  rw [val_main_v4_apply, val_main_cst_0_apply, two_r, sqrt_r _ (by norm_num)]
theorem s11 (i : S_.Idx) : val_main_v11 (F := Ideal) i = ((-2 / Real.sqrt Real.pi : ℝ) : EReal) := by
  rw [val_main_v11_apply, val_main_v10_apply, val_main_v9_apply, val_main_v8_apply, val_main_cst_1_apply, val_main_cst_2_apply,
    val_main_cst_3_apply, one_r, four_r, neg_two_r, atan_r, mul_r, four_arctan, sqrt_r _ Real.pi_pos.le, div_r _ _ sqrt_pi_ne]
include H in
theorem s6 (i : S4096x2048.Idx) : val_main_v6 (F := Ideal) x0 i = ((-A.Z (i 0) (i 1) / Real.sqrt 2 : ℝ) : EReal) := by
  rw [val_main_v6_apply, val_main_v3_apply, val_main_v5_apply, s4, s0 H, neg_r, div_r _ _ sqrt_two_ne]
include H in
theorem s7 (i : S4096x2048.Idx) : val_main_v7 (F := Ideal) x0 i = ((1 + erfR (A.Z (i 0) (i 1) * (Real.sqrt 2)⁻¹) : ℝ) : EReal) := by
  rw [val_main_v7_apply, s6 H, erfc_r]
include H in
theorem s16 (i : S4096x2048.Idx) : val_main_v16 (F := Ideal) x0 i
    = ((-2 / Real.sqrt Real.pi * Real.exp (-(-A.Z (i 0) (i 1) / Real.sqrt 2 * (-A.Z (i 0) (i 1) / Real.sqrt 2))) : ℝ) : EReal) := by
  rw [val_main_v16_apply, val_main_v15_apply, val_main_v14_apply, val_main_v13_apply, val_main_v12_apply, s11, s6 H, mul_r, neg_r, exp_r, mul_r]
include H in
theorem s17 (i : S4096x2048.Idx) : val_main_v17 (F := Ideal) x0 i = (act (A.Z (i 0) (i 1)) : EReal) := by
  rw [val_main_v17_apply, s2 H, s7 H, mul_r, act]
include H in
theorem s18 (i : S4096x1024.Idx) : val_main_v18 (F := Ideal) x0 i = (act (A.U (i 0) (i 1)) : EReal) := by
  rw [val_main_v18_apply]; exact s17 H _
include H in
theorem s19 (i : S4096x1024.Idx) : val_main_v19 (F := Ideal) x0 i = (A.zv (i 0) (i 1) : EReal) := by
  rw [val_main_v19_apply]; exact s17 H _

/-! ## The layer norm -/

include H in
theorem s23 (i : S4096x1.Idx) : val_main_v23 (F := Ideal) x0 i = (A.mean (i 0) : EReal) := by
  rw [val_main_v23_apply, val_main_v21_apply, val_main_v20_apply, val_main_v22_apply, val_main_cst_4_apply, val_main_cst_5_apply, zero_r, r1024,
    sum_r _ _ fun k => s19 H _, div_r _ _ (by norm_num)]
  rfl
include H in
theorem s25 (i : S4096x1024.Idx) : val_main_v25 (F := Ideal) x0 i = (A.cen (i 0) (i 1) : EReal) := by
  rw [val_main_v25_apply, val_main_v24_apply, s19 H, s23 H, sub_r]
  rfl
include H in
theorem s34 (i : S4096x1024.Idx) : val_main_v34 (F := Ideal) x0 i = (A.cen (i 0) (i 1) : EReal) := by
  rw [val_main_v34_apply, val_main_v33_apply, s19 H, s23 H, sub_r]
  rfl
include H in
theorem s26 (i : S4096x1024.Idx) : val_main_v26 (F := Ideal) x0 i = ((A.cen (i 0) (i 1) * A.cen (i 0) (i 1) : ℝ) : EReal) := by
  rw [val_main_v26_apply, s25 H, mul_r]
include H in
theorem s28 (i : S4096x1024.Idx) : val_main_v28 (F := Ideal) x0 i = ((2 * A.cen (i 0) (i 1) : ℝ) : EReal) := by
  rw [val_main_v28_apply, val_main_v27_apply, val_main_cst_6_apply, s25 H, two_r, mul_r]
include H in
theorem s36 (i : S4096x1.Idx) : val_main_v36 (F := Ideal) x0 i = ((A.var (i 0) + eps : ℝ) : EReal) := by
  rw [val_main_v36_apply, val_main_v32_apply, val_main_v35_apply, val_main_v30_apply, val_main_v31_apply, val_main_v29_apply,
    val_main_cst_7_apply, val_main_cst_8_apply, val_main_cst_9_apply, zero_r, r1024, eps_r,
    sum_r _ _ fun k => s26 H _, div_r _ _ (by norm_num), add_r]
  rfl
include H in
theorem s37 (i : S4096x1.Idx) : val_main_v37 (F := Ideal) x0 i = (A.rstd (i 0) : EReal) := by
  rw [val_main_v37_apply, s36 H, rsqrt_r (A.var (i 0) + eps) (A.var_eps_pos (i 0))]
  rfl
include H in
theorem s40 (i : S4096x1.Idx) : val_main_v40 (F := Ideal) x0 i = ((-(1 / 2) * (A.rstd (i 0) / (A.var (i 0) + eps)) : ℝ) : EReal) := by
  rw [val_main_v40_apply, val_main_v39_apply, val_main_cst_10_apply, val_main_v38_apply, s36 H, s37 H, neg_half_r,
    div_r (A.rstd (i 0)) (A.var (i 0) + eps) (A.var_eps_pos (i 0)).ne', mul_r]
include H in
theorem s42 (i : S4096x1024.Idx) : val_main_v42 (F := Ideal) x0 i = (A.xhat (i 0) (i 1) : EReal) := by
  rw [val_main_v42_apply, val_main_v41_apply, s34 H, s37 H, mul_r]
  rfl
include H in
theorem s48 (i : S4096x1024.Idx) : val_main_v48 (F := Ideal) x0 x3 x4 i = (A.vn (i 0) (i 1) : EReal) := by
  rw [val_main_v48_apply, val_main_v45_apply, val_main_v44_apply, val_main_v43_apply, val_main_v47_apply, val_main_v46_apply,
    s42 H, H.hG, H.hT, mul_r, add_r]
  rfl
include H in
theorem s49 (i : S32x128x8x128.Idx) : val_main_v49 (F := Ideal) x0 x3 x4 i = (A.vn (row (i 0) (i 1)) (col (i 2) (i 3)) : EReal) := by
  rw [val_main_v49_apply, s48 H]
  have h2 : (i 2).val < 8 := (i 2).isLt
  have h3 : (i 3).val < 128 := (i 3).isLt
  refine congrArg _ (congrArg₂ A.vn (Fin.ext ?_) (Fin.ext ?_))
  · show ((((i 0).val * 128 + (i 1).val) * 8 + (i 2).val) * 128 + (i 3).val) / 1024 = (i 0).val * 128 + (i 1).val
    omega
  · show ((((i 0).val * 128 + (i 1).val) * 8 + (i 2).val) * 128 + (i 3).val) % 1024 = (i 2).val * 128 + (i 3).val
    omega

/-! ## The causal weights and the gate's value -/

theorem s51 (i : S128x128.Idx) : val_main_v51 (F := Ideal) i = (((if (i 1 : Fin 128) ≤ (i 0 : Fin 128) then 1 else 0 : ℝ)) : EReal) := by
  rw [val_main_v51_apply, val_main_call0_v4_apply, val_main_call0_v2_apply, val_main_call0_v0_apply, val_main_call0_v3_apply,
    val_main_call0_v1_apply, val_main_call0_c_apply, val_main_v50_apply, val_main_cst_11_apply, val_main_call0_v5_apply,
    val_main_call0_cst_apply, one_r, zero_r]
  refine (congrArg (fun b => Scalar.select b ((1 : ℝ) : EReal) ((0 : ℝ) : EReal)) (causal_bit (i 0) (i 1))).trans ?_
  by_cases h : (i 1 : Fin 128) ≤ (i 0 : Fin 128)
  · exact (congrArg (fun b => Scalar.select b ((1 : ℝ) : EReal) ((0 : ℝ) : EReal)) (if_pos h)).trans (congrArg (fun r : ℝ => (r : EReal)) (if_pos h).symm)
  · exact (congrArg (fun b => Scalar.select b ((1 : ℝ) : EReal) ((0 : ℝ) : EReal)) (if_neg h)).trans (congrArg (fun r : ℝ => (r : EReal)) (if_neg h).symm)
theorem s53 (i : S8x128x128.Idx) : val_main_v53 (F := Ideal) i = (((if (i 2 : Fin 128) ≤ (i 1 : Fin 128) then 1 else 0 : ℝ)) : EReal) := by
  rw [val_main_v53_apply, val_main_v52_apply]; exact s51 _
theorem s78 (i : S8x128x128.Idx) : val_main_v78 (F := Ideal) i = (((if (i 2 : Fin 128) ≤ (i 1 : Fin 128) then 1 else 0 : ℝ)) : EReal) := by
  rw [val_main_v78_apply, val_main_v52_apply]; exact s51 _
include H in
theorem s54 (i : S8x128x128.Idx) : val_main_v54 (F := Ideal) x1 i = (A.wm (i 0) (i 1) (i 2) : EReal) := by
  rw [val_main_v54_apply, s53, H.hW, mul_r]
  refine congrArg _ ?_
  exact (mul_ite (a := A.W (i 0) (i 1) (i 2)) ..).trans (by rw [mul_one, mul_zero]; rfl)
include H in
theorem s55 (i : S8x32x128x128.Idx) : val_main_v55 (F := Ideal) x0 x1 x3 x4 i
    = ((∑ s, A.wm (i 0) (i 3) s * A.vn (row (i 1) s) (col (i 0) (i 2)) : ℝ) : EReal) := by
  rw [val_main_v55_apply, ← coe_sum]
  refine Finset.sum_congr rfl fun k _ => ?_
  rw [s49 H, s54 H, mul_comm]
  exact (EReal.coe_mul _ _).symm
include H in
theorem s61 (i : S32x128x8x128.Idx) : val_main_v61 (F := Ideal) x0 x1 x2 x3 x4 i
    = ((∑ s, A.wm (i 2) (i 1) s * A.vn (row (i 0) s) (col (i 2) (i 3)) + A.B (i 2) (i 1) : ℝ) : EReal) := by
  rw [val_main_v61_apply, val_main_v56_apply, s55 H, val_main_v60_apply, val_main_v59_apply, val_main_v58_apply, val_main_v57_apply, H.hB]
  exact add_r _ _
include H in
theorem s62 (i : S4096x1024.Idx) : val_main_v62 (F := Ideal) x0 x1 x2 x3 x4 i = (A.sg (i 0) (i 1) : EReal) := by
  rw [val_main_v62_apply, s61 H]
  have h0 : (i 0).val < 4096 := (i 0).isLt
  have h1 : (i 1).val < 1024 := (i 1).isLt
  have e0 : (idx_main_v62 i 0 : Fin 32) = chunk (i 0) := Fin.ext (by
    show ((i 0).val * 1024 + (i 1).val) / 131072 = (i 0).val / 128; omega)
  have e1 : (idx_main_v62 i 1 : Fin 128) = place (i 0) := Fin.ext (by
    show ((i 0).val * 1024 + (i 1).val) / 1024 % 128 = (i 0).val % 128; omega)
  have e2 : (idx_main_v62 i 2 : Fin 8) = group (i 1) := Fin.ext (by
    show ((i 0).val * 1024 + (i 1).val) / 128 % 8 = (i 1).val / 128; omega)
  have e3 : col (group (i 1)) (idx_main_v62 i 3 : Fin 128) = i 1 := Fin.ext (by
    show (i 1).val / 128 * 128 + ((i 0).val * 1024 + (i 1).val) % 128 = (i 1).val; omega)
  show ((∑ s, A.wm (idx_main_v62 i 2 : Fin 8) (idx_main_v62 i 1 : Fin 128) s * A.vn (row (idx_main_v62 i 0 : Fin 32) s) (col (idx_main_v62 i 2 : Fin 8) (idx_main_v62 i 3 : Fin 128))
    + A.B (idx_main_v62 i 2 : Fin 8) (idx_main_v62 i 1 : Fin 128) : ℝ) : EReal) = _
  rw [e0, e1, e2, e3]
  rfl

/-! ## The cotangents of the gate -/

include H in
theorem s64 (i : S4096x1024.Idx) : val_main_v64 (F := Ideal) x5 i = (A.D (i 0) (i 1) : EReal) := by
  rw [val_main_v64_apply]; exact H.hD _ (i 1).isLt
include H in
theorem s65 (i : S4096x1024.Idx) : val_main_v65 (F := Ideal) x0 x5 i = (A.dsg (i 0) (i 1) : EReal) := by
  rw [val_main_v65_apply, s18 H, s64 H, mul_r, mul_comm]; rfl
include H in
theorem s66 (i : S4096x1024.Idx) : val_main_v66 (F := Ideal) x0 x1 x2 x3 x4 x5 i = ((A.D (i 0) (i 1) * A.sg (i 0) (i 1) : ℝ) : EReal) := by
  rw [val_main_v66_apply, s62 H, s64 H, mul_r]
include H in
theorem s67 (i : S32x128x8x128.Idx) : val_main_v67 (F := Ideal) x0 x5 i = (A.dsg (row (i 0) (i 1)) (col (i 2) (i 3)) : EReal) := by
  rw [val_main_v67_apply, s65 H]
  have h2 : (i 2).val < 8 := (i 2).isLt
  have h3 : (i 3).val < 128 := (i 3).isLt
  refine congrArg _ (congrArg₂ A.dsg (Fin.ext ?_) (Fin.ext ?_))
  · show ((((i 0).val * 128 + (i 1).val) * 8 + (i 2).val) * 128 + (i 3).val) / 1024 = (i 0).val * 128 + (i 1).val
    omega
  · show ((((i 0).val * 128 + (i 1).val) * 8 + (i 2).val) * 128 + (i 3).val) % 1024 = (i 2).val * 128 + (i 3).val
    omega
include H in
theorem s68 (i : S128x8.Idx) : val_main_v68 (F := Ideal) x0 x5 i = (A.dbs (i 1) (i 0) : EReal) := by
  unfold val_main_v68
  refine (sum_first_last reducesTo_S32x128x8x128_S128x8_d0_3 (val_main_v67 (F := Ideal) x0 x5) _ i).trans ?_
  rw [val_main_cst_12_apply, zero_r]
  refine sum_r _ _ fun c => ?_
  exact (Finset.sum_congr rfl fun d _ => s67 H _).trans (coe_sum _)
include H in
theorem s70 (i : S128x8.Idx) : val_main_v70 (F := Ideal) x0 x5 i = (A.dbs (i 1) (i 0) : EReal) := by
  unfold val_main_v70
  refine (sum_first_last reducesTo_S1x128x8x1_S128x8_d0_3 (val_main_v69 (F := Ideal) x0 x5) _ i).trans ?_
  rw [val_main_cst_13_apply, zero_r, EReal.coe_zero, zero_add, Fin.sum_univ_one, Fin.sum_univ_one, val_main_v69_apply, s68 H]
  have h0 : (i 0).val < 128 := (i 0).isLt
  have h1 : (i 1).val < 8 := (i 1).isLt
  refine congrArg _ (congrArg₂ A.dbs (Fin.ext ?_) (Fin.ext ?_))
  · show (((0 * 128 + (i 0).val) * 8 + (i 1).val) * 1 + 0) % 8 = (i 1).val
    omega
  · show (((0 * 128 + (i 0).val) * 8 + (i 1).val) * 1 + 0) / 8 = (i 0).val
    omega
include H in
theorem s131 (i : S8x128x1.Idx) : val_main_v131 (F := Ideal) x0 x5 i = (A.dbs (i 0) (i 1) : EReal) := by
  rw [val_main_v131_apply, val_main_v73_apply, val_main_v72_apply, val_main_cst_14_apply, zero_r, EReal.coe_zero, zero_add, Fin.sum_univ_one,
    val_main_v71_apply, s70 H]
  rfl
include H in
theorem s74 (i : S8x32x128x128.Idx) : val_main_v74 (F := Ideal) x0 x5 i = (A.dsg (row (i 1) (i 3)) (col (i 0) (i 2)) : EReal) := by
  rw [val_main_v74_apply, s67 H]
include H in
theorem s75 (g : Fin 8) (t s : Fin 128) : val_main_v75 (F := Ideal) x0 x3 x4 x5 (ix3 g t s) = ((∑ c, A.dwsAt c g t s : ℝ) : EReal) := by
  pointwise [val_main_v75]
  rw [← coe_sum]
  refine Finset.sum_congr rfl fun c _ => ?_
  rw [Args.dwsAt, ← coe_sum]
  refine Finset.sum_congr rfl fun d _ => ?_
  rw [s74 H, s49 H]
  exact (EReal.coe_mul _ _).symm
include H in
theorem s79 (i : S8x128x128.Idx) : val_main_v79 (F := Ideal) x0 x3 x4 x5 i = (A.dws (i 0) (i 1) (i 2) : EReal) := by
  obtain ⟨g, t, s, rfl⟩ : ∃ g t s, i = ix3 g t s := ⟨_, _, _, eq_ix3 i⟩
  rw [val_main_v79_apply, s75 H, s78, mul_r]
  refine congrArg _ ?_
  show _ * (if s ≤ t then 1 else 0) = if s ≤ t then _ else _
  rw [mul_ite, mul_one, mul_zero]; rfl
include H in
theorem s76 (i : S8x32x128x128.Idx) : val_main_v76 (F := Ideal) x0 x1 x5 i
    = ((∑ t, A.wm (i 0) t (i 3) * A.dsg (row (i 1) t) (col (i 0) (i 2)) : ℝ) : EReal) := by
  rw [val_main_v76_apply, ← coe_sum]
  refine Finset.sum_congr rfl fun k _ => ?_
  rw [s74 H, s54 H, mul_comm]
  exact (EReal.coe_mul _ _).symm
include H in
theorem s80 (i : S4096x1024.Idx) : val_main_v80 (F := Ideal) x0 x1 x5 i = (A.dvn (i 0) (i 1) : EReal) := by
  rw [val_main_v80_apply, val_main_v77_apply, s76 H]
  have h0 : (i 0).val < 4096 := (i 0).isLt
  have h1 : (i 1).val < 1024 := (i 1).isLt
  have e0 : (idx_main_v80 i 0 : Fin 32) = chunk (i 0) := Fin.ext (by
    show ((i 0).val * 1024 + (i 1).val) / 131072 = (i 0).val / 128; omega)
  have e1 : (idx_main_v80 i 1 : Fin 128) = place (i 0) := Fin.ext (by
    show ((i 0).val * 1024 + (i 1).val) / 1024 % 128 = (i 0).val % 128; omega)
  have e2 : (idx_main_v80 i 2 : Fin 8) = group (i 1) := Fin.ext (by
    show ((i 0).val * 1024 + (i 1).val) / 128 % 8 = (i 1).val / 128; omega)
  have e3 : col (group (i 1)) (idx_main_v80 i 3 : Fin 128) = i 1 := Fin.ext (by
    show (i 1).val / 128 * 128 + ((i 0).val * 1024 + (i 1).val) % 128 = (i 1).val; omega)
  show ((∑ t, A.wm (idx_main_v80 i 2 : Fin 8) t (idx_main_v80 i 1 : Fin 128) * A.dsg (row (idx_main_v80 i 0 : Fin 32) t)
    (col (idx_main_v80 i 2 : Fin 8) (idx_main_v80 i 3 : Fin 128)) : ℝ) : EReal) = _
  rw [e0, e1, e2, e3]
  rfl

/-! ## The norm's backward pass -/

include H in
theorem s133 (i : S1x1024.Idx) : val_main_v133 (F := Ideal) x0 x1 x5 i = (A.dvb (i 1) : EReal) := by
  rw [val_main_v133_apply, val_main_v83_apply, val_main_cst_16_apply, zero_r, EReal.coe_zero, zero_add, Fin.sum_univ_one,
    val_main_v82_apply, val_main_v81_apply, val_main_cst_15_apply, zero_r, sum_r _ _ fun k => s80 H _]
  refine congrArg _ (Finset.sum_congr rfl fun r _ => congrArg₂ A.dvn rfl (Fin.ext ?_))
  have h1 : (i 1).val < 1024 := (i 1).isLt
  show (0 * 1024 + (i 1).val) = (i 1).val
  omega
include H in
theorem s84 (i : S4096x1024.Idx) : val_main_v84 (F := Ideal) x0 x1 x5 i = ((A.dvn (i 0) (i 1) * A.xhat (i 0) (i 1) : ℝ) : EReal) := by
  rw [val_main_v84_apply, s42 H, s80 H, mul_r, mul_comm]
include H in
theorem s132 (i : S1x1024.Idx) : val_main_v132 (F := Ideal) x0 x1 x5 i = (A.dvg (i 1) : EReal) := by
  rw [val_main_v132_apply, val_main_v89_apply, val_main_cst_18_apply, zero_r, EReal.coe_zero, zero_add, Fin.sum_univ_one,
    val_main_v86_apply, val_main_v85_apply, val_main_cst_17_apply, zero_r, sum_r _ _ fun k => s84 H _]
  refine congrArg _ (Finset.sum_congr rfl fun r _ => ?_)
  have h1 : (i 1).val < 1024 := (i 1).isLt
  refine congrArg (fun w : Fin 1024 => A.dvn r w * A.xhat r w) (Fin.ext ?_)
  show (0 * 1024 + (i 1).val) = (i 1).val
  omega
include H in
theorem s88 (i : S4096x1024.Idx) : val_main_v88 (F := Ideal) x0 x1 x3 x5 i = (A.dxh (i 0) (i 1) : EReal) := by
  rw [val_main_v88_apply, s80 H, val_main_v87_apply, val_main_v43_apply, H.hG, mul_r]; rfl
include H in
theorem s90 (i : S4096x1024.Idx) : val_main_v90 (F := Ideal) x0 x1 x3 x5 i = ((A.cen (i 0) (i 1) * A.dxh (i 0) (i 1) : ℝ) : EReal) := by
  rw [val_main_v90_apply, s34 H, s88 H, mul_r]
include H in
theorem s94 (i : S4096x1024.Idx) : val_main_v94 (F := Ideal) x0 x1 x3 x5 i = ((A.dxh (i 0) (i 1) * A.rstd (i 0) : ℝ) : EReal) := by
  rw [val_main_v94_apply, s88 H, val_main_v93_apply, s37 H, mul_r]; rfl
include H in
theorem s102 (i : S4096x1024.Idx) : val_main_v102 (F := Ideal) x0 x1 x3 x5 i
    = (((∑ v, A.cen (i 0) v * A.dxh (i 0) v) * (-(1 / 2) * (A.rstd (i 0) / (A.var (i 0) + eps))) / 1024 : ℝ) : EReal) := by
  rw [val_main_v102_apply, val_main_v101_apply, val_main_cst_22_apply, zero_r, EReal.coe_zero, zero_add, Fin.sum_univ_one,
    val_main_v100_apply, val_main_v99_apply, val_main_cst_21_apply, r1024, val_main_v95_apply, s40 H, val_main_v92_apply, val_main_v91_apply,
    val_main_cst_19_apply, zero_r, sum_r _ _ fun k => s90 H _, mul_r, div_r _ _ (by norm_num)]
  refine congrArg (fun r : Fin 4096 => (((∑ v, A.cen r v * A.dxh r v) * (-(1 / 2) * (A.rstd (i 0) / (A.var (i 0) + eps))) / 1024 : ℝ) : EReal)) (Fin.ext ?_)
  show (i 0).val * 1 + 0 = (i 0).val
  omega
include H in
theorem s103 (i : S4096x1024.Idx) : val_main_v103 (F := Ideal) x0 x1 x3 x5 i
    = (((∑ v, A.cen (i 0) v * A.dxh (i 0) v) * (-(1 / 2) * (A.rstd (i 0) / (A.var (i 0) + eps))) / 1024 * (2 * A.cen (i 0) (i 1)) : ℝ) : EReal) := by
  rw [val_main_v103_apply, s102 H, s28 H, mul_r]
include H in
theorem s112 (i : S4096x1024.Idx) : val_main_v112 (F := Ideal) x0 x1 x3 x5 i
    = ((((∑ v, -(A.dxh (i 0) v * A.rstd (i 0)))
        + ∑ u, -((∑ v, A.cen (i 0) v * A.dxh (i 0) v) * (-(1 / 2) * (A.rstd (i 0) / (A.var (i 0) + eps))) / 1024 * (2 * A.cen (i 0) u))) / 1024 : ℝ) : EReal) := by
  rw [val_main_v112_apply, val_main_v111_apply, val_main_cst_25_apply, zero_r, EReal.coe_zero, zero_add, Fin.sum_univ_one,
    val_main_v110_apply, val_main_v109_apply, val_main_cst_24_apply, r1024, val_main_v108_apply, val_main_v98_apply, val_main_v97_apply,
    val_main_v106_apply, val_main_v105_apply, val_main_cst_20_apply, val_main_cst_23_apply, zero_r,
    sum_r _ _ fun k => (val_main_v96_apply ..).trans ((congrArg _ (s94 H _)).trans (neg_r _)),
    sum_r _ _ fun k => (val_main_v104_apply ..).trans ((congrArg _ (s103 H _)).trans (neg_r _)), add_r, div_r _ _ (by norm_num)]
  refine congrArg (fun r : Fin 4096 => ((((∑ v, -(A.dxh r v * A.rstd r))
        + ∑ u, -((∑ v, A.cen r v * A.dxh r v) * (-(1 / 2) * (A.rstd r / (A.var r + eps))) / 1024 * (2 * A.cen r u))) / 1024 : ℝ) : EReal)) (Fin.ext ?_)
  show (i 0).val * 1 + 0 = (i 0).val
  omega
include H in
theorem s113 (i : S4096x1024.Idx) : val_main_v113 (F := Ideal) x0 x1 x3 x5 i = (A.dzv (i 0) (i 1) : EReal) := by
  rw [val_main_v113_apply, val_main_v107_apply, s94 H, s103 H, s112 H, add_r, add_r]
  exact congrArg _ (A.dzv_eq (i 0) (i 1))

/-! ## Through the activation's slope -/

include H in
/-- The cotangent of the activations: the gate's first half, then the norm's. -/
theorem s116 (r : Fin 4096) (k : Fin 2048) : val_main_v116 (F := Ideal) x0 x1 x2 x3 x4 x5 (ix2 r k)
    = ((if h : k.val < 1024 then A.D r ⟨k.val, h⟩ * A.sg r ⟨k.val, h⟩ else A.dzv r ⟨k.val - 1024, by omega⟩ : ℝ) : EReal) := by
  pointwise [val_main_v116, val_main_v114, val_main_v115]
  by_cases h : k.val < 1024
  · rw [dif_neg (by omega), dif_pos h, dif_pos h, s66 H, val_main_cst_26_apply, zero_r, EReal.coe_zero, zero_add]; rfl
  · rw [dif_pos ⟨by omega, by omega⟩, dif_neg h, dif_neg h, s113 H, val_main_cst_27_apply, zero_r, EReal.coe_zero, add_zero]; rfl
include H in
theorem s125 (i : S4096x2048.Idx) (d : ℝ) (hd : val_main_v116 (F := Ideal) x0 x1 x2 x3 x4 x5 i = (d : EReal)) :
    val_main_v125 (F := Ideal) x0 x1 x2 x3 x4 x5 i = ((d * slope (A.Z (i 0) (i 1)) : ℝ) : EReal) := by
  rw [val_main_v125_apply, val_main_v122_apply, val_main_v121_apply, val_main_v120_apply, s4, val_main_v119_apply, s16 H, val_main_v117_apply,
    s2 H, hd, val_main_v124_apply, val_main_v123_apply, val_main_cst_28_apply, half_r, val_main_v118_apply, hd, s7 H, mul_r, mul_r, mul_r, mul_r,
    div_r _ _ sqrt_two_ne, neg_r, add_r]
  exact congrArg _ (slope_erfc _ d)
theorem s126 (r : Fin 4096) (k : Fin 2560) (h : k.val < 2048) : val_main_v126 (F := Ideal) x0 x1 x2 x3 x4 x5 (ix2 r k)
    = val_main_v125 (F := Ideal) x0 x1 x2 x3 x4 x5 (ix2 r ⟨k.val, h⟩) := by
  pointwise [val_main_v126]
  exact dif_pos h

/-! ## The six results -/

include H in
theorem s128 (i : S4096x1024.Idx) : val_main_v128 (F := Ideal) x0 x1 x2 x3 x4 x5 i = (A.dpu (i 0) (i 1) : EReal) := by
  have h1 : (i 1).val < 1024 := (i 1).isLt
  rw [val_main_v128_apply, val_main_v127_apply]
  have e : idx_main_v127 i = ix2 (i 0 : Fin 4096) (⟨(i 1).val, by omega⟩ : Fin 2560) := by
    funext a; match a with | ⟨0, _⟩ => rfl | ⟨1, _⟩ => rfl
  rw [e]
  refine ((s126 (i 0 : Fin 4096) (⟨(i 1).val, by omega⟩ : Fin 2560) (by show (i 1).val < 2048; omega)).trans (s125 H _ _ (s116 H _ _))).trans ?_
  rw [dif_pos h1]
  rfl
include H in
theorem s130 (i : S4096x1024.Idx) : val_main_v130 (F := Ideal) x0 x1 x2 x3 x4 x5 i = (A.dpv (i 0) (i 1) : EReal) := by
  have h1 : (i 1).val < 1024 := (i 1).isLt
  rw [val_main_v130_apply, val_main_v129_apply]
  have e : idx_main_v129 i = ix2 (i 0 : Fin 4096) (⟨1024 + (i 1).val, by omega⟩ : Fin 2560) := by
    funext a; match a with | ⟨0, _⟩ => rfl | ⟨1, _⟩ => rfl
  rw [e]
  refine ((s126 (i 0 : Fin 4096) (⟨1024 + (i 1).val, by omega⟩ : Fin 2560) (by show 1024 + (i 1).val < 2048; omega)).trans (s125 H _ _ (s116 H _ _))).trans ?_
  rw [dif_neg (by show ¬ 1024 + (i 1).val < 1024; omega)]
  exact congrArg (fun w : Fin 1024 => ((A.dzv (i 0) w * slope (A.V (i 0) (i 1)) : ℝ) : EReal)) (Fin.ext (by show 1024 + (i 1).val - 1024 = (i 1).val; omega))

end Ref

end Cert.Gate

end
-- ==== Proof.Gate.Finite.lean ====
/- The precondition `finite`, read: under it the arguments the call reads are real numbers. -/
module

public import proofs.«01_k».proof.Pre_finite
public import proofs.«01_k».proof.Proof.Gate.Reals
public import Idealize.ShloMosaic.Lib.ReduceAll
public import Idealize.ShloMosaic.Lib.Pointwise

@[expose] public section

set_option maxRecDepth 16384

noncomputable section

namespace Cert.Gate

open Idealize.ShloMosaic Idealize.ShloMosaic.TcCoe
open Cert.Pre_finite

/-- The precondition's side conditions. -/
theorem finite_facts : Cert.Pre_finite.Facts := by constructor <;> decide +kernel

instance : Subsingleton S_.Idx := ⟨fun i j => funext fun a => a.elim0⟩

/-- An extended real whose absolute value is below infinity is a real number. -/
theorem real_of_lt (x : EReal) (h : Ideal.cmp .olt (max x (-x)) (Ideal.ofBits .f32 0x7F800000#32) = 1#1) : x = (x.toReal : EReal) := by
  have l : max x (-x) < Ideal.ofBits .f32 0x7F800000#32 := (Ideal.cmp_olt_eq_one _ _).1 h
  have u : max x (-x) < ⊤ := lt_of_lt_of_le l le_top
  have a : x ≠ ⊤ := fun e => by rw [e] at u; simp at u
  have b : x ≠ ⊥ := fun e => by rw [e] at u; simp at u
  exact (EReal.coe_toReal a b).symm

/-- The arguments' real parts. -/
def argsOf (x0 : S4096x2560.Idx → EReal) (x1 : S8x128x128.Idx → EReal) (x2 : S8x128.Idx → EReal) (x3 x4 : S1024.Idx → EReal) (x5 : S4096x1536.Idx → EReal) : Args where
  Z r k := (x0 (ix2 r ⟨k.val, by omega⟩)).toReal
  D r w := (x5 (ix2 r ⟨w.val, by omega⟩)).toReal
  W g t s := (x1 (ix3 g t s)).toReal
  B g t := (x2 (ix2 g t)).toReal
  G w := (x3 (ix1 w)).toReal
  T w := (x4 (ix1 w)).toReal

/-- What holds of an array at one index holds at an index equal to it. -/
theorem cut {ι : Type} {x : ι → EReal} {k : ι} (h : x k = ((x k).toReal : EReal)) (i k' : ι) (e : k = i) (e' : i = k') : x i = ((x k').toReal : EReal) := by
  subst e' e; exact h

theorem lifts_of [Cert.Pre_finite.Facts] (x0 : FVec Ideal S4096x2560 .f32) (x1 : FVec Ideal S8x128x128 .f32) (x2 : FVec Ideal S8x128 .f32)
    (x3 x4 : FVec Ideal S1024 .f32) (x5 : FVec Ideal S4096x1536 .f32)
    (h : (Cert.Pre_finite.fn (F := Ideal) x0 x1 x2 x3 x4 x5).1 = (fun _ => 1#1)
      ∧ (Cert.Pre_finite.fn (F := Ideal) x0 x1 x2 x3 x4 x5).2.1 = (fun _ => 1#1)
      ∧ (Cert.Pre_finite.fn (F := Ideal) x0 x1 x2 x3 x4 x5).2.2.1 = (fun _ => 1#1)
      ∧ (Cert.Pre_finite.fn (F := Ideal) x0 x1 x2 x3 x4 x5).2.2.2.1 = (fun _ => 1#1)
      ∧ (Cert.Pre_finite.fn (F := Ideal) x0 x1 x2 x3 x4 x5).2.2.2.2.1 = (fun _ => 1#1)
      ∧ (Cert.Pre_finite.fn (F := Ideal) x0 x1 x2 x3 x4 x5).2.2.2.2.2 = (fun _ => 1#1)) : Lifts (argsOf x0 x1 x2 x3 x4 x5) x0 x1 x2 x3 x4 x5 := by
  obtain ⟨h0, h1, h2, h3, h4, h5⟩ := h
  dsimp only [fn, fn_part1] at h0 h1 h2 h3 h4 h5
  have j : S_.Idx := fun a => a.elim0
  have k0 := fun i => Host.reduce_andi_all _ _ _ _ j (congrFun h0 j) i
  have k1 := fun i => Host.reduce_andi_all _ _ _ _ j (congrFun h1 j) i
  have k2 := fun i => Host.reduce_andi_all _ _ _ _ j (congrFun h2 j) i
  have k3 := fun i => Host.reduce_andi_all _ _ _ _ j (congrFun h3 j) i
  have k4 := fun i => Host.reduce_andi_all _ _ _ _ j (congrFun h4 j) i
  have k5 := fun i => Host.reduce_andi_all _ _ _ _ j (congrFun h5 j) i
  refine ⟨fun i hi => ?_, fun i => ?_, fun i => ?_, fun i => ?_, fun i => ?_, fun i hi => ?_⟩
  · exact cut (x := x0) (real_of_lt _ (k0 (ix2 (i 0 : Fin 4096) (⟨(i 1).val, hi⟩ : Fin 2048)))) _ _ (by funext a; refine Fin.cases ?_ (fun b => Fin.cases ?_ (fun d => d.elim0) b) a <;> exact Fin.ext (Nat.zero_add _)) (by funext a; refine Fin.cases ?_ (fun b => Fin.cases ?_ (fun d => d.elim0) b) a <;> rfl)
  · exact (real_of_lt _ (k1 i)).trans (congrArg (fun z => (((x1 z : EReal).toReal : ℝ) : EReal)) (eq_ix3 i))
  · exact (real_of_lt _ (k2 i)).trans (congrArg (fun z => (((x2 z : EReal).toReal : ℝ) : EReal)) (eq_ix2 i))
  · exact (real_of_lt _ (k3 i)).trans (congrArg (fun z => (((x3 z : EReal).toReal : ℝ) : EReal)) (eq_ix1 i))
  · exact (real_of_lt _ (k4 i)).trans (congrArg (fun z => (((x4 z : EReal).toReal : ℝ) : EReal)) (eq_ix1 i))
  · exact cut (x := x5) (real_of_lt _ (k5 (ix2 (i 0 : Fin 4096) (⟨(i 1).val, hi⟩ : Fin 1024)))) _ _ (by funext a; refine Fin.cases ?_ (fun b => Fin.cases ?_ (fun d => d.elim0) b) a <;> exact Fin.ext (Nat.zero_add _)) (by funext a; refine Fin.cases ?_ (fun b => Fin.cases ?_ (fun d => d.elim0) b) a <;> rfl)

end Cert.Gate
-- ==== Proof.Mlp.Sums.lean ====
/- Sums over a long axis, cut into stretches, and the slope of the squared rectifier. -/
module

public import Idealize.ShloMosaic.Lib.Pipeline.Value
public import Idealize.ShloMosaic.Lib.Pipeline.ValueKit
public import Idealize.ShloMosaic.Lib.Pointwise
public import Idealize.ShloMosaic.PureOps.Ideal

@[expose] public section

set_option maxRecDepth 16384

noncomputable section

namespace Cert.Mlp

open Idealize.ShloMosaic

/-- A sum over 2048 terms is the sum of its four stretches of 512. -/
theorem sum_four (f : Fin 2048 → EReal) :
    (((∑ k : Fin 512, f ⟨k.val, by omega⟩) + ∑ k : Fin 512, f ⟨512 + k.val, by omega⟩) + ∑ k : Fin 512, f ⟨1024 + k.val, by omega⟩)
      + (∑ k : Fin 512, f ⟨1536 + k.val, by omega⟩) = ∑ k, f k := by
  have e : ∀ (s : Fin 4) (o : ℕ) (ho : ∀ k : Fin 512, o + k.val < 2048), o = s.val * 512 →
      (∑ k : Fin 512, f ⟨o + k.val, ho k⟩) = ∑ k : Fin 512, f ⟨s.val * 512 + k.val, by omega⟩ :=
    fun s o ho h => Finset.sum_congr rfl fun k _ => congrArg f (Fin.ext (by show o + k.val = s.val * 512 + k.val; rw [h]))
  refine Eq.trans ?_ ((Fin.sum_univ_four fun s : Fin 4 => ∑ k : Fin 512, f ⟨s.val * 512 + k.val, by omega⟩).symm.trans (Fin.sum_mul_add_fin 4 512 f (by decide)))
  rw [← e 0 0 (by omega) rfl, ← e 1 512 (by omega) rfl, ← e 2 1024 (by omega) rfl, ← e 3 1536 (by omega) rfl]
  simp only [zero_add]

/-- A sum over 4096 terms is the sum of its two halves. -/
theorem sum_two (f : Fin 4096 → EReal) :
    (∑ k : Fin 2048, f ⟨k.val, by omega⟩) + (∑ k : Fin 2048, f ⟨2048 + k.val, by omega⟩) = ∑ k, f k := by
  have e : ∀ (s : Fin 2) (o : ℕ) (ho : ∀ k : Fin 2048, o + k.val < 4096), o = s.val * 2048 →
      (∑ k : Fin 2048, f ⟨o + k.val, ho k⟩) = ∑ k : Fin 2048, f ⟨s.val * 2048 + k.val, by omega⟩ :=
    fun s o ho h => Finset.sum_congr rfl fun k _ => congrArg f (Fin.ext (by show o + k.val = s.val * 2048 + k.val; rw [h]))
  refine Eq.trans ?_ ((Fin.sum_univ_two fun s : Fin 2 => ∑ k : Fin 2048, f ⟨s.val * 2048 + k.val, by omega⟩).symm.trans (Fin.sum_mul_add_fin 2 2048 f (by decide)))
  rw [← e 0 0 (by omega) rfl, ← e 1 2048 (by omega) rfl]
  simp only [zero_add]

/-- A sum over 8192 terms is the sum of its four stretches of 2048. -/
theorem sum_four_long (f : Fin 8192 → EReal) :
    (((∑ k : Fin 2048, f ⟨k.val, by omega⟩) + ∑ k : Fin 2048, f ⟨2048 + k.val, by omega⟩) + ∑ k : Fin 2048, f ⟨4096 + k.val, by omega⟩)
      + (∑ k : Fin 2048, f ⟨6144 + k.val, by omega⟩) = ∑ k, f k := by
  have e : ∀ (s : Fin 4) (o : ℕ) (ho : ∀ k : Fin 2048, o + k.val < 8192), o = s.val * 2048 →
      (∑ k : Fin 2048, f ⟨o + k.val, ho k⟩) = ∑ k : Fin 2048, f ⟨s.val * 2048 + k.val, by omega⟩ :=
    fun s o ho h => Finset.sum_congr rfl fun k _ => congrArg f (Fin.ext (by show o + k.val = s.val * 2048 + k.val; rw [h]))
  refine Eq.trans ?_ ((Fin.sum_univ_four fun s : Fin 4 => ∑ k : Fin 2048, f ⟨s.val * 2048 + k.val, by omega⟩).symm.trans (Fin.sum_mul_add_fin 4 2048 f (by decide)))
  rw [← e 0 0 (by omega) rfl, ← e 1 2048 (by omega) rfl, ← e 2 4096 (by omega) rfl, ← e 3 6144 (by omega) rfl]
  simp only [zero_add]

theorem zero_word : FloatOps.ofBits (F := Ideal) .f32 0x00000000#32 = (0 : EReal) := Ideal.ofBits_zero_f32
theorem two_word : FloatOps.ofBits (F := Ideal) .f32 0x40000000#32 = (2 : EReal) := by
  show Ideal.ofBits .f32 0x40000000#32 = ((2 : ℝ) : EReal)
  simp [Ideal.ofBits, Ideal.ieee, -EReal.coe_mul]; norm_num

/-- The slope of the squared rectifier times a cotangent: twice the rectified number, and nothing where it is not positive. -/
theorem slope (x a : EReal) : Scalar.select (Ideal.cmp .ogt x 0) (a * (2 * max x 0)) 0 = a * (2 * max x 0) := by
  by_cases h : 0 < x
  · rw [(Ideal.cmp_ogt_eq_one _ _).2 h]; rfl
  · rw [max_eq_right (not_lt.1 h), mul_zero, mul_zero]
    unfold Scalar.select
    split <;> rfl

end Cert.Mlp
-- ==== Proof.Mlp.HiddenRef.lean ====
/- The cotangent of the hidden layer as the reference computes it. -/
module

public import proofs.«01_k».proof.Proof.Mlp.Sums
public import proofs.«01_k».proof.Proof.Gen.Reference2Ideal.Read

@[expose] public section

set_option maxRecDepth 16384

noncomputable section

namespace Cert.Mlp

open Idealize.ShloMosaic Idealize.ShloMosaic.TcCoe
open Cert.Reference2Ideal

/-- The cotangent of the hidden layer at row `r` and unit `f`: the product of the cotangent's row with the weights' row,
    times the slope of the squared rectifier. -/
def hiddenGrad (d : S4096x2048.Idx → EReal) (w : S8192x2048.Idx → EReal) (h : S4096x8192.Idx → EReal) (r : Fin 4096) (f : Fin 8192) : EReal :=
  (∑ k : Fin 2048, d (ix2 r k) * w (ix2 f k)) * (2 * max (h (ix2 r f)) 0)

/-- What the reference computes is `hiddenGrad`, entry by entry. -/
theorem hidden_ref (d : S4096x2048.Idx → EReal) (w : S8192x2048.Idx → EReal) (h : S4096x8192.Idx → EReal) (i : S4096x8192.Idx) :
    Read.val_main_v13 (F := Ideal) d w h i = hiddenGrad d w h (i 0) (i 1) := by
  simp only [Read.val_main_v13_apply, Read.val_main_v12_apply, Read.val_main_v11_apply, Read.val_main_v10_apply, Read.val_main_v9_apply, Read.val_main_v8_apply,
    Read.val_main_v6_apply, Read.val_main_v5_apply, Read.val_main_v2_apply, Read.val_main_v1_apply, Read.val_main_v0_apply, Read.val_main_call0_v0_apply,
    Read.val_main_call0_cst_apply, Read.val_main_cst_apply, Read.val_main_cst_1_apply, Read.val_main_cst_2_apply, zero_word, two_word]
  refine (slope (h i) _).trans ?_
  refine congrArg₂ (fun a b : EReal => a * (2 * max b 0)) (Finset.sum_congr rfl fun k _ => ?_) (congrArg h (eq_ix2 i))
  exact congrArg₂ (fun a b => d a * w b) (eq_ix2 (Read.lidx_main_v9 i k)) (eq_ix2 (Read.ridx_main_v9 i k))

end Cert.Mlp
-- ==== Proof.Mlp.Hidden.lean ====
/- The cotangent of the hidden layer as the kernel leaves it. -/
module

public import proofs.«01_k».proof.Proof.Mlp.HiddenRef
public import proofs.«01_k».proof.Proof.Gen.Kernel2Ideal.Value

@[expose] public section

set_option maxRecDepth 16384
set_option maxHeartbeats 1000000

noncomputable section

namespace Cert.Kernel2Ideal.Gen

open Idealize.ShloMosaic Idealize.ShloMosaic.TcCoe Idealize.SL.Sem
open Idealize.ShloMosaic.Pipeline (Dat)
open Cert.Kernel2Ideal Cert.Mlp

variable (m : (ℓ : Loc nD τ sig) → Buf (Elt Ideal) ℓ) (c : Dev nD)

/-- Where the windows' blocks lie at a point. -/
theorem idx : ∀ t : Fin cfg0.N, win0_0.index t = ![t.val / 16, 0] ∧ win0_1.index t = ![t.val % 16, 0] ∧ win0_2.index t = ![t.val % 16, 0]
    ∧ win0_3.index t = ![t.val % 16, 0] ∧ win0_4.index t = ![t.val % 16, 0] ∧ win0_5.index t = ![t.val / 16, t.val % 16]
    ∧ win0_6.index t = ![t.val / 16, t.val % 16] :=
  (by decide +kernel : ∀ t : Fin grid0.N, _)

/-- The kernel's result is `hiddenGrad`, entry by entry. -/
theorem out6 : (dats m 0 c).arrAt 6 cfg0.N = fun i : S4096x8192.Idx =>
    hiddenGrad (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  blk_simp [idx t]
  rw [after0_6]
  unfold outsAt0 hiddenGrad
  rw [← sum_four]
  frame_out
  pointwise [k0_pay1]
  rw [show Ideal.ofBits FTy.f32 0x40000000#32 = (2 : EReal) from two_word]
  blk_point [iblk, V, idx t]

end Cert.Kernel2Ideal.Gen
-- ==== Proof.Mlp.HiddenClaims.lean ====
/- The claims about the call that computes the cotangent of the hidden units. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Mlp.Hidden
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference ends with its arguments as they were and every counter at zero. -/
theorem reference2_frame [Cert.Reference2Ideal.Facts] : Cert.quiescent_Reference2Ideal := fun m g _ =>
  (θ_run _ _ _).mono (fun r h => ⟨fun c => (h c).2, sem_eq_zero_of_no_sems (by decide) r.2⟩) (Cert.Reference2Ideal.Value.run (F := Ideal) m g)

/-- Both programs' results are the same sums of the arguments' entries. -/
theorem values2 : Cert.algebraic_Kernel2Ideal_Reference2Ideal := by
  intro m g m' g' _ hagree
  refine ⟨fun c i => Cert.Mlp.hiddenGrad (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (i 0) (i 1),
    (θ_run _ _ _).mono (fun r h c => ?_) (Cert.Kernel2Ideal.Value.run_blocks (F := Ideal) m g),
    (θ_run _ _ _).mono (fun r h c => ?_) (Cert.Reference2Ideal.Value.run (F := Ideal) m' g')⟩
  · obtain ⟨h0, ha⟩ := h c
    exact ⟨h0.trans (Cert.Kernel2Ideal.Gen.out6 m c), ha⟩
  · obtain ⟨h0, ha⟩ := h c
    refine ⟨(h0.trans (Cert.Reference2Ideal.Read.val_main_v13_eq (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)))).trans (funext fun i => ?_), ha⟩
    rw [(hagree c).1, (hagree c).2.1, (hagree c).2.2]
    exact Cert.Mlp.hidden_ref _ _ _ i

end Cert.Proof
-- ==== Proof.Norm.Forward.lean ====
/- The layer norm of a row with its gain and shift, and the scaled residual it is taken of, over the extended reals: what
   every entry of the two forward calls is. -/
module

public import Idealize.ShloMosaic.Lib.Pipeline.ValueKit
public import Idealize.ShloMosaic.Lib.Pointwise

@[expose] public section

noncomputable section

namespace Cert.Norm

open Idealize.ShloMosaic

/-- The residual: the block's input, scaled, and the branch's output. -/
def resid (x y : EReal) : EReal := Ideal.ofBits .f32 0x3FD744FD#32 * x + y

/-- Row `i` of point `p`. -/
abbrev rowAt (p : Fin 16) (i : Fin 256) : Fin 4096 := ⟨p.val * 256 + i.val, by omega⟩

/-- The mean of a row. -/
def rowMean (X : Fin 2048 → EReal) : EReal := Ideal.div (∑ w, X w) (Ideal.ofBits .f32 0x45000000#32)

/-- Entry `w` of the row normed, with its gain and its shift. -/
def normed (X : Fin 2048 → EReal) (g b : EReal) (w : Fin 2048) : EReal :=
  (X w - rowMean X) * Ideal.rsqrt (Ideal.div (∑ u, (X u - rowMean X) * (X u - rowMean X)) (Ideal.ofBits .f32 0x45000000#32)
    + Ideal.ofBits .f32 0x3727C5AC#32) * g + b

end Cert.Norm
-- ==== Proof.Norm.Ln.lean ====
/- The norm of the scaled residual: the call's three results, entry by entry, and the reference's. -/
module

public import proofs.«01_k».proof.Defs
public import proofs.«01_k».proof.Proof.Norm.Forward
public import proofs.«01_k».proof.Proof.Gen.Kernel15
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import Idealize.ShloMosaic.Lib.Claim
public import Idealize.ShloMosaic.Lib.Quiescent

@[expose] public section

set_option maxRecDepth 16384
set_option maxHeartbeats 4000000

noncomputable section

namespace Cert.Norm.Ln

open Idealize.ShloMosaic Idealize.ShloMosaic.TcCoe Idealize.SL.Sem

/-- The rows the norm is taken of. -/
def rows (x0 x1 : (⟨2, ![4096, 2048]⟩ : Shape).Idx → EReal) (r : Fin 4096) (w : Fin 2048) : EReal := resid (x0 (ix2 r w)) (x1 (ix2 r w))

/-- The normed rows. -/
def out (x0 x1 : (⟨2, ![4096, 2048]⟩ : Shape).Idx → EReal) (x2 x3 : (⟨1, ![2048]⟩ : Shape).Idx → EReal) (r : Fin 4096) (w : Fin 2048) : EReal :=
  normed (rows x0 x1 r) (x2 (ix1 w)) (x3 (ix1 w)) w

section Ref

open Cert.Reference15Ideal Cert.Reference15Ideal.Gen Cert.Reference15Ideal.Read

variable (x0 x1 : (⟨S4096x2048, .f32⟩ : BufTy).Contents (Elt Ideal)) (x2 x3 : (⟨S2048, .f32⟩ : BufTy).Contents (Elt Ideal))

theorem ref_rows (r : Fin 4096) (w : Fin 2048) : val_main_v2 (F := Ideal) x0 x1 (ix2 r w) = rows x0 x1 r w := by
  pointwise [val_main_v2, val_main_v1, val_main_v0, val_main_cst]
  rfl

theorem ref_out (r : Fin 4096) (w : Fin 2048) : val_main_v26 (F := Ideal) x0 x1 x2 x3 (ix2 r w) = out x0 x1 x2 x3 r w := by
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9, val_main_v8,
    val_main_v7, val_main_v6, val_main_v5, val_main_v4, val_main_v3, val_main_cst_0, val_main_cst_1, val_main_cst_2, val_main_cst_3, val_main_cst_4]
  simp only [ref_rows]
  rfl

end Ref

section Point

open Cert.Kernel15Ideal Cert.Kernel15Ideal.Gen

variable (x y : Vec Ideal S256x2048 .f32) (g b : Vec Ideal S1x2048 .f32) (i : Fin 256) (w : Fin 2048)

theorem point_rows : k0_pay1 x y (ix2 i w) = resid (x (ix2 i w)) (y (ix2 i w)) := by
  pointwise [k0_pay1]
  rfl
theorem point_out : k0_pay2 x y g b (ix2 i w) = normed (fun u => resid (x (ix2 i u)) (y (ix2 i u))) (g (ix2 0 w)) (b (ix2 0 w)) w := by
  pointwise [k0_pay2]
  simp only [point_rows]
  rfl
theorem point_copy : k0_pay3 x y g b (ix2 i w) = normed (fun u => resid (x (ix2 i u)) (y (ix2 i u))) (g (ix2 0 w)) (b (ix2 0 w)) w := by
  pointwise [k0_pay3]
  exact point_out x y g b i w

end Point

end Cert.Norm.Ln

namespace Cert.Kernel15Ideal.Gen

open Idealize.ShloMosaic Idealize.ShloMosaic.TcCoe Idealize.SL.Sem
open Idealize.ShloMosaic.Pipeline (Dat)
open Cert.Kernel15Ideal Cert.Norm Cert.Norm.Ln

variable (m : (ℓ : Loc nD τ sig) → Buf (Elt Ideal) ℓ) (c : Dev nD)

/-- Where the blocks lie at a point. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0] :=
  (by decide +kernel : ∀ t : Fin grid0.N, _)

/-- The number of a grid point. -/
abbrev pt (t : Fin cfg0.N) : Fin 16 := ⟨t.val, lt_of_lt_of_eq t.isLt N_0⟩

/-- A row of the residual at a point, from the blocks read there. -/
theorem point_resid (t : Fin cfg0.N) (i : Fin 256) (w : Fin 2048) :
    resid ((iblk m c 0 t : Vec Ideal S256x2048 .f32) (ix2 i w)) ((iblk m c 1 t : Vec Ideal S256x2048 .f32) (ix2 i w))
      = rows (m ((c : Thread nD τ).loc main_arg0)) (m ((c : Thread nD τ).loc main_arg1)) (rowAt (pt t) i) w := by
  refine congrArg₂ resid ?_ ?_ <;> blk_point [iblk, V, idx t]

/-- A normed row at a point, from the blocks read there. -/
theorem point_normed (t : Fin cfg0.N) (i : Fin 256) (w : Fin 2048) :
    normed (fun u => resid ((iblk m c 0 t : Vec Ideal S256x2048 .f32) (ix2 i u)) ((iblk m c 1 t : Vec Ideal S256x2048 .f32) (ix2 i u)))
        ((iblk m c 2 t : Vec Ideal S1x2048 .f32) (ix2 0 w)) ((iblk m c 3 t : Vec Ideal S1x2048 .f32) (ix2 0 w)) w
      = out (m ((c : Thread nD τ).loc main_arg0)) (m ((c : Thread nD τ).loc main_arg1)) (m ((c : Thread nD τ).loc main_arg2))
          (m ((c : Thread nD τ).loc main_arg3)) (rowAt (pt t) i) w := by
  have e : (fun u => resid ((iblk m c 0 t : Vec Ideal S256x2048 .f32) (ix2 i u)) ((iblk m c 1 t : Vec Ideal S256x2048 .f32) (ix2 i u)))
      = rows (m ((c : Thread nD τ).loc main_arg0)) (m ((c : Thread nD τ).loc main_arg1)) (rowAt (pt t) i) := funext fun u => point_resid m c t i u
  rw [e]
  refine congrArg₂ (fun g b => normed _ g b w) ?_ ?_ <;> blk_point [iblk, V, idx t]

theorem out4 : (dats m 0 c).arrAt 4 cfg0.N = fun i : S4096x2048.Idx =>
    rows (m ((c : Thread nD τ).loc main_arg0)) (m ((c : Thread nD τ).loc main_arg1)) (i 0) (i 1) := by
  refine (dats m 0 c).arrAt_eq_of_covers 4 _ (by decide +kernel) fun t hf y => ?_
  have e0 : (rowAt (pt t) (y 0)).val = ((win0_4.blk t).view.emb y 0).val := by blk_simp [idx t]
  have e1 : (y 1).val = ((win0_4.blk t).view.emb y 1).val := by blk_simp [idx t]
  blk_simp [idx t]
  rw [after0_4]; frame_out
  refine ((congrArg (k0_pay1 _ _) (eq_ix2 y)).trans ((point_rows _ _ (y 0) (y 1)).trans (point_resid m c t (y 0) (y 1)))).trans ?_
  exact congrArg₂ (fun (r : Fin 4096) (w : Fin 2048) => rows _ _ r w) (Fin.ext e0) (Fin.ext e1)
theorem out5 : (dats m 0 c).arrAt 5 cfg0.N = fun i : S4096x2048.Idx =>
    out (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  have e0 : (rowAt (pt t) (y 0)).val = ((win0_5.blk t).view.emb y 0).val := by blk_simp [idx t]
  have e1 : (y 1).val = ((win0_5.blk t).view.emb y 1).val := by blk_simp [idx t]
  blk_simp [idx t]
  rw [after0_5]; frame_out
  refine ((congrArg (k0_pay2 _ _ _ _) (eq_ix2 y)).trans ((point_out _ _ _ _ (y 0) (y 1)).trans (point_normed m c t (y 0) (y 1)))).trans ?_
  exact congrArg₂ (fun (r : Fin 4096) (w : Fin 2048) => out _ _ _ _ r w) (Fin.ext e0) (Fin.ext e1)
theorem out6 : (dats m 0 c).arrAt 6 cfg0.N = fun i : S4096x2048.Idx =>
    out (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 6 _ (by decide +kernel) fun t hf y => ?_
  have e0 : (rowAt (pt t) (y 0)).val = ((win0_6.blk t).view.emb y 0).val := by blk_simp [idx t]
  have e1 : (y 1).val = ((win0_6.blk t).view.emb y 1).val := by blk_simp [idx t]
  blk_simp [idx t]
  rw [after0_6]; frame_out
  refine ((congrArg (k0_pay3 _ _ _ _) (eq_ix2 y)).trans ((point_copy _ _ _ _ (y 0) (y 1)).trans (point_normed m c t (y 0) (y 1)))).trans ?_
  exact congrArg₂ (fun (r : Fin 4096) (w : Fin 2048) => out _ _ _ _ r w) (Fin.ext e0) (Fin.ext e1)

end Cert.Kernel15Ideal.Gen

namespace Cert.Proof

open Idealize.ShloMosaic Idealize.ShloMosaic.TcCoe Idealize.SL.Sem

/-- The two printed kernels' region bodies are the same statements. -/
theorem bodies15 : Cert.Kernel15.defs₀ (F := Bits) = Cert.Kernel15Ideal.defs₀ (F := Bits) :=
  congrArg Defs.onTc (funext fun ℓ => funext fun a => by
    obtain ⟨k, h⟩ := ℓ
    obtain rfl : k = 0 := Nat.lt_one_iff.1 h
    rfl)

theorem table15 : Cert.Kernel15.defs (F := Bits) = Cert.Kernel15Ideal.defs (F := Bits) := congrArg (Pipeline.defs Cert.Kernel15.pcfgs) bodies15

/-- The kernel's run, from the run of its idealized program, which is stated over any float values. -/
theorem frame15 : Cert.quiescent_Kernel15 := fun m g _ => by rw [table15]; exact Cert.Kernel15Ideal.Gen.frame (F := Bits) m g

/-- The reference runs to a quiescent memory, its arguments kept. -/
theorem reference15_frame [Cert.Reference15Ideal.Facts] : Cert.quiescent_Reference15Ideal := fun m g _ =>
  (θ_run _ _ _).mono (fun r h => ⟨fun c => (h c).2.2.2, sem_eq_zero_of_no_sems (by decide) r.2⟩) (Cert.Reference15Ideal.Value.run (F := Ideal) m g)

/-- Both programs leave the scaled residual and its norm. -/
theorem values15 : Cert.algebraic_Kernel15Ideal_Reference15Ideal := by
  intro m g m' g' _ hagree
  refine ⟨fun c i => Norm.Ln.rows (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (i 0) (i 1),
    fun c i => Norm.Ln.out (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (i 0) (i 1),
    fun c i => Norm.Ln.out (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (i 0) (i 1),
    (θ_run _ _ _).mono (fun r h c => ?_) (Cert.Kernel15Ideal.Value.run_blocks (F := Ideal) m g),
    (θ_run _ _ _).mono (fun r h c => ?_) (Cert.Reference15Ideal.Value.run (F := Ideal) m' g')⟩
  · obtain ⟨h0, h1, h2, ha⟩ := h c
    exact ⟨h0.trans (Cert.Kernel15Ideal.Gen.out4 m c), h1.trans (Cert.Kernel15Ideal.Gen.out5 m c), h2.trans (Cert.Kernel15Ideal.Gen.out6 m c), ha⟩
  · obtain ⟨h0, h1, h2, ha⟩ := h c
    obtain ⟨a0, a1, a2, a3⟩ := hagree c
    beta_reduce
    rw [← a0, ← a1, ← a2, ← a3]
    exact ⟨(h0.trans (Cert.Reference15Ideal.Read.val_main_v2_eq _ _)).trans (funext fun i => (congrArg _ (eq_ix2 i)).trans (Norm.Ln.ref_rows _ _ (i 0) (i 1))),
      (h1.trans (Cert.Reference15Ideal.Read.val_main_v26_eq _ _ _ _)).trans (funext fun i => (congrArg _ (eq_ix2 i)).trans (Norm.Ln.ref_out _ _ _ _ (i 0) (i 1))),
      (h2.trans (Cert.Reference15Ideal.Read.val_main_v27_eq _ _ _ _)).trans (funext fun i => (congrArg _ (eq_ix2 i)).trans (Norm.Ln.ref_out _ _ _ _ (i 0) (i 1))), ha⟩

end Cert.Proof
-- ==== Proof.Norm.Out.lean ====
/- The output projection with the norm after it: the call's three results, entry by entry, and the reference's. -/
module

public import proofs.«01_k».proof.Defs
public import proofs.«01_k».proof.Proof.Norm.Forward
public import proofs.«01_k».proof.Proof.Gen.Kernel16
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import Idealize.ShloMosaic.Lib.Claim
public import Idealize.ShloMosaic.Lib.Quiescent

@[expose] public section

set_option maxRecDepth 16384
set_option maxHeartbeats 4000000

noncomputable section

namespace Cert.Norm.Out

open Idealize.ShloMosaic Idealize.ShloMosaic.TcCoe Idealize.SL.Sem

/-- The rows the norm is taken of: the block's input, scaled, and the product of the concatenated branches with the weights. -/
def rows (x0 : (⟨2, ![4096, 1536]⟩ : Shape).Idx → EReal) (x1 : (⟨2, ![1536, 2048]⟩ : Shape).Idx → EReal) (x2 : (⟨2, ![4096, 2048]⟩ : Shape).Idx → EReal) (r : Fin 4096) (w : Fin 2048) : EReal :=
  resid (x2 (ix2 r w)) (∑ k : Fin 1536, x0 (ix2 r k) * x1 (ix2 k w))

/-- The normed rows. -/
def out (x0 : (⟨2, ![4096, 1536]⟩ : Shape).Idx → EReal) (x1 : (⟨2, ![1536, 2048]⟩ : Shape).Idx → EReal) (x2 : (⟨2, ![4096, 2048]⟩ : Shape).Idx → EReal)
    (x3 x4 : (⟨1, ![2048]⟩ : Shape).Idx → EReal) (r : Fin 4096) (w : Fin 2048) : EReal :=
  normed (rows x0 x1 x2 r) (x3 (ix1 w)) (x4 (ix1 w)) w

section Ref

open Cert.Reference16Ideal Cert.Reference16Ideal.Gen Cert.Reference16Ideal.Read

variable (x0 : (⟨S4096x1536, .bf16⟩ : BufTy).Contents (Elt Ideal)) (x1 : (⟨S1536x2048, .f32⟩ : BufTy).Contents (Elt Ideal))
    (x2 : (⟨S4096x2048, .f32⟩ : BufTy).Contents (Elt Ideal)) (x3 x4 : (⟨S2048, .f32⟩ : BufTy).Contents (Elt Ideal))

theorem ref_rows (r : Fin 4096) (w : Fin 2048) : val_main_v4 (F := Ideal) x0 x1 x2 (ix2 r w) = rows x0 x1 x2 r w := by
  pointwise [val_main_v4, val_main_v3, val_main_v2, val_main_v1, val_main_v0, val_main_cst]
  rfl

theorem ref_out (r : Fin 4096) (w : Fin 2048) : val_main_v28 (F := Ideal) x0 x1 x2 x3 x4 (ix2 r w) = out x0 x1 x2 x3 x4 r w := by
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v7, val_main_v6, val_main_v5, val_main_cst_0, val_main_cst_1, val_main_cst_2, val_main_cst_3, val_main_cst_4]
  simp only [ref_rows]
  rfl

end Ref

section Point

open Cert.Kernel16Ideal Cert.Kernel16Ideal.Gen

variable (a : Vec Ideal S256x1536 .bf16) (e : Vec Ideal S2048x1536 .bf16) (x : Vec Ideal S256x2048 .f32) (g b : Vec Ideal S1x2048 .f32) (i : Fin 256) (w : Fin 2048)

/-- An entry of the residual of the rows read, the weights transposed. -/
def rowOf (a : S256x1536.Idx → EReal) (e : S2048x1536.Idx → EReal) (x : S256x2048.Idx → EReal) (i : Fin 256) (w : Fin 2048) : EReal :=
  resid (x (ix2 i w)) (∑ k : Fin 1536, a (ix2 i k) * e (ix2 w k))

theorem point_rows : k0_pay2 a e x (ix2 i w) = rowOf a e x i w := by
  pointwise [k0_pay2]
  rfl
theorem point_out : k0_pay3 a e x g b (ix2 i w) = normed (rowOf a e x i) (g (ix2 0 w)) (b (ix2 0 w)) w := by
  pointwise [k0_pay3]
  simp only [point_rows]
  rfl
theorem point_copy : k0_pay1 (k0_pay3 a e x g b) (ix2 i w) = normed (rowOf a e x i) (g (ix2 0 w)) (b (ix2 0 w)) w := by
  pointwise [k0_pay1]
  exact point_out a e x g b i w

end Point

end Cert.Norm.Out

namespace Cert.Kernel16Ideal.Gen

open Idealize.ShloMosaic Idealize.ShloMosaic.TcCoe Idealize.SL.Sem
open Idealize.ShloMosaic.Pipeline (Dat)
open Cert.Kernel16Ideal Cert.Norm Cert.Norm.Out

variable (m : (ℓ : Loc nD τ sig) → Buf (Elt Ideal) ℓ) (c : Dev nD)

/-- Where the blocks lie at a point. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

/-- The number of a grid point. -/
abbrev pt (t : Fin cfg0.N) : Fin 16 := ⟨t.val, lt_of_lt_of_eq t.isLt N_0⟩

/-- A row of the residual at a point, from the blocks read there. -/
theorem point_resid (t : Fin cfg0.N) (i : Fin 256) (w : Fin 2048) :
    rowOf (iblk m c 0 t) (iblk m c 1 t) (iblk m c 2 t) i w = rows (m ((c : Thread nD τ).loc main_arg0)) (m ((c : Thread nD τ).loc main_arg1)) (m ((c : Thread nD τ).loc main_arg2)) (rowAt (pt t) i) w := by
  refine congrArg₂ resid ?_ (Finset.sum_congr rfl fun k _ => congrArg₂ (fun p q : EReal => p * q) ?_ ?_) <;> blk_point [iblk, V, idx t]

/-- A normed row at a point, from the blocks read there. -/
theorem point_normed (t : Fin cfg0.N) (i : Fin 256) (w : Fin 2048) :
    normed (rowOf (iblk m c 0 t) (iblk m c 1 t) (iblk m c 2 t) i)
        ((iblk m c 3 t : Vec Ideal S1x2048 .f32) (ix2 0 w)) ((iblk m c 4 t : Vec Ideal S1x2048 .f32) (ix2 0 w)) w
      = out (m ((c : Thread nD τ).loc main_arg0)) (m ((c : Thread nD τ).loc main_arg1)) (m ((c : Thread nD τ).loc main_arg2))
          (m ((c : Thread nD τ).loc main_arg3)) (m ((c : Thread nD τ).loc main_arg4)) (rowAt (pt t) i) w := by
  rw [show rowOf (iblk m c 0 t) (iblk m c 1 t) (iblk m c 2 t) i = rows (m ((c : Thread nD τ).loc main_arg0)) (m ((c : Thread nD τ).loc main_arg1)) (m ((c : Thread nD τ).loc main_arg2)) (rowAt (pt t) i) from funext fun u => point_resid m c t i u]
  refine congrArg₂ (fun g b => normed _ g b w) ?_ ?_ <;> blk_point [iblk, V, idx t]

theorem out5 : (dats m 0 c).arrAt 5 cfg0.N = fun i : S4096x2048.Idx => rows (m ((c : Thread nD τ).loc main_arg0)) (m ((c : Thread nD τ).loc main_arg1)) (m ((c : Thread nD τ).loc main_arg2)) (i 0) (i 1) := by
  refine (dats m 0 c).arrAt_eq_of_covers 5 _ (by decide +kernel) fun t hf y => ?_
  have e0 : (rowAt (pt t) (y 0)).val = ((win0_5.blk t).view.emb y 0).val := by blk_simp [idx t]
  have e1 : (y 1).val = ((win0_5.blk t).view.emb y 1).val := by blk_simp [idx t]
  blk_simp [idx t]
  rw [after0_5]; unfold outsAt0; frame_out
  refine ((congrArg (k0_pay2 _ _ _) (eq_ix2 y)).trans ((point_rows _ _ _ (y 0) (y 1)).trans (point_resid m c t (y 0) (y 1)))).trans ?_
  exact congrArg₂ (fun (r : Fin 4096) (w : Fin 2048) => rows _ _ _ r w) (Fin.ext e0) (Fin.ext e1)

theorem out6 : (dats m 0 c).arrAt 6 cfg0.N = fun i : S4096x2048.Idx => out (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 6 _ (by decide +kernel) fun t hf y => ?_
  have e0 : (rowAt (pt t) (y 0)).val = ((win0_6.blk t).view.emb y 0).val := by blk_simp [idx t]
  have e1 : (y 1).val = ((win0_6.blk t).view.emb y 1).val := by blk_simp [idx t]
  blk_simp [idx t]
  rw [after0_6]; unfold outsAt0; frame_out
  refine ((congrArg (k0_pay3 _ _ _ _ _) (eq_ix2 y)).trans ((point_out _ _ _ _ _ (y 0) (y 1)).trans (point_normed m c t (y 0) (y 1)))).trans ?_
  exact congrArg₂ (fun (r : Fin 4096) (w : Fin 2048) => out _ _ _ _ _ r w) (Fin.ext e0) (Fin.ext e1)

theorem out7 : (dats m 0 c).arrAt 7 cfg0.N = fun i : S4096x2048.Idx => out (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 7 _ (by decide +kernel) fun t hf y => ?_
  have e0 : (rowAt (pt t) (y 0)).val = ((win0_7.blk t).view.emb y 0).val := by blk_simp [idx t]
  have e1 : (y 1).val = ((win0_7.blk t).view.emb y 1).val := by blk_simp [idx t]
  blk_simp [idx t]
  rw [after0_7]; unfold outsAt0; frame_out
  refine ((congrArg (k0_pay1 (k0_pay3 _ _ _ _ _)) (eq_ix2 y)).trans ((point_copy _ _ _ _ _ (y 0) (y 1)).trans (point_normed m c t (y 0) (y 1)))).trans ?_
  exact congrArg₂ (fun (r : Fin 4096) (w : Fin 2048) => out _ _ _ _ _ r w) (Fin.ext e0) (Fin.ext e1)

end Cert.Kernel16Ideal.Gen

namespace Cert.Proof

open Idealize.ShloMosaic Idealize.ShloMosaic.TcCoe Idealize.SL.Sem

/-- The two printed kernels' region bodies are the same statements. -/
theorem bodies16 : Cert.Kernel16.defs₀ (F := Bits) = Cert.Kernel16Ideal.defs₀ (F := Bits) :=
  congrArg Defs.onTc (funext fun ℓ => funext fun a => by
    obtain ⟨k, h⟩ := ℓ
    obtain rfl : k = 0 := Nat.lt_one_iff.1 h
    rfl)

theorem table16 : Cert.Kernel16.defs (F := Bits) = Cert.Kernel16Ideal.defs (F := Bits) := congrArg (Pipeline.defs Cert.Kernel16.pcfgs) bodies16

/-- The kernel's run, from the run of its idealized program, which is stated over any float values. -/
theorem frame16 : Cert.quiescent_Kernel16 := fun m g _ => by rw [table16]; exact Cert.Kernel16Ideal.Gen.frame (F := Bits) m g

/-- The reference runs to a quiescent memory, its arguments kept. -/
theorem reference16_frame [Cert.Reference16Ideal.Facts] : Cert.quiescent_Reference16Ideal := fun m g _ =>
  (θ_run _ _ _).mono (fun r h => ⟨fun c => (h c).2.2.2, sem_eq_zero_of_no_sems (by decide) r.2⟩) (Cert.Reference16Ideal.Value.run (F := Ideal) m g)

/-- Both programs leave the residual and its norm. -/
theorem values16 : Cert.algebraic_Kernel16Ideal_Reference16Ideal := by
  intro m g m' g' _ hagree
  refine ⟨fun c i => Norm.Out.rows (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (i 0) (i 1),
    fun c i => Norm.Out.out (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (i 0) (i 1),
    fun c i => Norm.Out.out (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4)) (i 0) (i 1),
    (θ_run _ _ _).mono (fun r h c => ?_) (Cert.Kernel16Ideal.Value.run_blocks (F := Ideal) m g),
    (θ_run _ _ _).mono (fun r h c => ?_) (Cert.Reference16Ideal.Value.run (F := Ideal) m' g')⟩
  · obtain ⟨h0, h1, h2, ha⟩ := h c
    exact ⟨h0.trans (Cert.Kernel16Ideal.Gen.out5 m c), h1.trans (Cert.Kernel16Ideal.Gen.out6 m c), h2.trans (Cert.Kernel16Ideal.Gen.out7 m c), ha⟩
  · obtain ⟨h0, h1, h2, ha⟩ := h c
    obtain ⟨a0, a1, a2, a3, a4⟩ := hagree c
    beta_reduce
    rw [← a0, ← a1, ← a2, ← a3, ← a4]
    exact ⟨(h0.trans (Cert.Reference16Ideal.Read.val_main_v4_eq _ _ _)).trans (funext fun i => (congrArg _ (eq_ix2 i)).trans (Norm.Out.ref_rows _ _ _ (i 0) (i 1))),
      (h1.trans (Cert.Reference16Ideal.Read.val_main_v28_eq _ _ _ _ _)).trans (funext fun i => (congrArg _ (eq_ix2 i)).trans (Norm.Out.ref_out _ _ _ _ _ (i 0) (i 1))),
      (h2.trans (Cert.Reference16Ideal.Read.val_main_v29_eq _ _ _ _ _)).trans (funext fun i => (congrArg _ (eq_ix2 i)).trans (Norm.Out.ref_out _ _ _ _ _ (i 0) (i 1))), ha⟩

end Cert.Proof
-- ==== Proof.Norm.BackReals.lean ====
/- The norm's backward pass over the real numbers at 4096 rows of 2048: the rows' cotangent, the gain's and the shift's,
   and their sums by the grid's points. -/
module

public import proofs.«01_k».proof.Proof.Gate.Reals
public import proofs.«01_k».proof.Proof.Norm.Forward

@[expose] public section

noncomputable section

namespace Cert.Norm

open Idealize.ShloMosaic

variable (R D : Fin 4096 → Fin 2048 → ℝ) (G : Fin 2048 → ℝ)

/-- The normed rows' cotangent before the gain. -/
def dxh (r : Fin 4096) (w : Fin 2048) : ℝ := D r w * G w

variable (ok : Fin 4096 → Prop)

open scoped Classical in
/-- The reciprocal deviation and the normed value of a row of real numbers; a row with an infinite entry has zeros. -/
def rst (r : Fin 4096) : ℝ := if ok r then rstd 2048 (R r) else 0
open scoped Classical in
def xh (r : Fin 4096) (w : Fin 2048) : ℝ := if ok r then xhat 2048 (R r) w else 0

open scoped Classical in
/-- The rows' cotangent, zero at a row with an infinite entry, the gain's and the shift's. -/
def dr (r : Fin 4096) (w : Fin 2048) : ℝ := if ok r then back 2048 (R r) (dxh D G r) w else 0
def dg (w : Fin 2048) : ℝ := ∑ r, D r w * xh R ok r w
def db (w : Fin 2048) : ℝ := ∑ r, D r w

/-- One point's part of the gain's cotangent and of the shift's. -/
def dgPt (p : Fin 16) (w : Fin 2048) : ℝ := ∑ i, D (rowAt p i) w * xh R ok (rowAt p i) w
def dbPt (p : Fin 16) (w : Fin 2048) : ℝ := ∑ i, D (rowAt p i) w

theorem sum_dgPt (w : Fin 2048) : ∑ p, dgPt R D ok p w = dg R D ok w :=
  (Fin.sum_univ_tiles 16 256 rfl fun r => D r w * xh R ok r w).symm
theorem sum_dbPt (w : Fin 2048) : ∑ p, dbPt D p w = db D w := (Fin.sum_univ_tiles 16 256 rfl fun r => D r w).symm

variable {R D G ok} {r : Fin 4096}

theorem rst_ok (h : ok r) : rst R ok r = rstd 2048 (R r) := if_pos h
theorem rst_inf (h : ¬ok r) : rst R ok r = 0 := if_neg h
theorem xh_ok (h : ok r) (w : Fin 2048) : xh R ok r w = xhat 2048 (R r) w := if_pos h
theorem xh_inf (h : ¬ok r) (w : Fin 2048) : xh R ok r w = 0 := if_neg h
theorem dr_ok (h : ok r) (w : Fin 2048) : dr R D G ok r w = back 2048 (R r) (dxh D G r) w := if_pos h
theorem dr_inf (h : ¬ok r) (w : Fin 2048) : dr R D G ok r w = 0 := if_neg h

/-- A row with an infinite entry: its variance, about any centres, is infinite. -/
theorem var_inf {X : Fin 2048 → EReal} (h : ∃ w, X w = ⊤ ∨ X w = ⊥) (μ : Fin 2048 → EReal) :
    Ideal.div (∑ w, (X w - μ w) * (X w - μ w)) ((2048 : ℝ) : EReal) + ((Gate.eps : ℝ) : EReal) = ⊤ := by
  obtain ⟨w, hw⟩ := h
  have sq : ∀ a : EReal, 0 ≤ a * a := fun a => by
    rcases le_total 0 a with h | h
    · exact mul_nonneg h h
    · exact neg_mul_neg a a ▸ mul_nonneg (EReal.neg_nonneg.2 h) (EReal.neg_nonneg.2 h)
  have hi : (X w - μ w) * (X w - μ w) = ⊤ := by
    rcases hw with hw | hw <;> rw [hw] <;> induction μ w <;> simp [sub_eq_add_neg]
  have hs : ∑ w, (X w - μ w) * (X w - μ w) = ⊤ :=
    top_le_iff.1 (hi ▸ Finset.single_le_sum (f := fun w => (X w - μ w) * (X w - μ w)) (fun v _ => sq _) (Finset.mem_univ w))
  have hd : Ideal.div ⊤ ((2048 : ℝ) : EReal) = ⊤ := by
    rw [Ideal.div, if_neg (by norm_num), ← EReal.coe_inv]
    exact EReal.top_mul_coe_of_pos (by norm_num)
  rw [hs, hd, EReal.top_add_coe]

variable (R D G ok)

/-- The gain and the cotangent hold the real numbers `G` and `D`; the rows at which `ok` holds hold the real numbers `R`, and the
    others have an infinite entry. -/
structure Lifts (x0 : (⟨2, ![4096, 2048]⟩ : Shape).Idx → EReal) (x1 : (⟨1, ![2048]⟩ : Shape).Idx → EReal)
    (x2 : (⟨2, ![4096, 2048]⟩ : Shape).Idx → EReal) : Prop where
  hR : ∀ i : (⟨2, ![4096, 2048]⟩ : Shape).Idx, ok (i 0) → x0 i = (R (i 0) (i 1) : EReal)
  hI : ∀ r : Fin 4096, ¬ok r → ∃ w : Fin 2048, x0 (ix2 r w) = ⊤ ∨ x0 (ix2 r w) = ⊥
  hG : ∀ i : (⟨1, ![2048]⟩ : Shape).Idx, x1 i = (G (i 0) : EReal)
  hD : ∀ i : (⟨2, ![4096, 2048]⟩ : Shape).Idx, x2 i = (D (i 0) (i 1) : EReal)

theorem n2048 : (2048 : ℝ) ≠ 0 := by norm_num

theorem var_pos (r : Fin 4096) : 0 < var 2048 (R r) + Gate.eps := var_eps_pos (R r) (by norm_num)

end Cert.Norm
-- ==== Proof.Norm.Back.lean ====
/- What the kernel of the norm's backward pass leaves in its four results, in real numbers at every entry (a row with an
   infinite entry leaves zeros): each point norms its 256 rows, and adds its part of the gain's and of the shift's cotangent. -/
module

public import proofs.«01_k».proof.Proof.Norm.BackReals
public import proofs.«01_k».proof.Proof.Gen.Kernel17Ideal.Value

@[expose] public section

set_option maxRecDepth 16384
set_option maxHeartbeats 4000000

noncomputable section

namespace Cert.Norm.Point

open Idealize.ShloMosaic Idealize.ShloMosaic.TcCoe
open Cert.Kernel17Ideal Cert.Kernel17Ideal.Gen
open Cert.Gate (coe_sum div_real rsqrt_real lit_2048 lit_eps eps)

variable {R D : Fin 4096 → Fin 2048 → ℝ} {G : Fin 2048 → ℝ} {ok : Fin 4096 → Prop} {p : Fin 16}
  {x d : Vec Ideal S256x2048 .f32} {gain prev : Vec Ideal S1x2048 .f32}
  (hR : ∀ i w, ok (rowAt p i) → x (ix2 i w) = (R (rowAt p i) w : EReal))
  (hI : ∀ i, ¬ok (rowAt p i) → ∃ w, x (ix2 i w) = ⊤ ∨ x (ix2 i w) = ⊥)
  (hD : ∀ i w, d (ix2 i w) = (D (rowAt p i) w : EReal)) (hG : ∀ w, gain (ix2 0 w) = (G w : EReal))

include hR in
theorem cen_point (i : Fin 256) (w : Fin 2048) (h : ok (rowAt p i)) : k0_pay6 x (ix2 i w) = (cen 2048 (R (rowAt p i)) w : EReal) := by
  pointwise [k0_pay6]
  simp only [hR _ _ h, lit_2048, coe_sum, div_real _ _ n2048, ← EReal.coe_sub]
  rfl
include hR hI in
theorem rstd_point (i : Fin 256) : k0_pay7 x (ix2 i 0) = (rst R ok (rowAt p i) : EReal) := by
  by_cases h : ok (rowAt p i)
  · pointwise [k0_pay7]
    simp only [cen_point hR _ _ h, lit_2048, lit_eps, ← EReal.coe_mul, coe_sum, div_real _ _ n2048, ← EReal.coe_add, rst_ok h]
    exact rsqrt_real _ (var_pos R (rowAt p i))
  · pointwise [k0_pay7, k0_pay6]
    simp only [lit_2048, lit_eps, rst_inf h]
    exact congrArg Ideal.rsqrt (var_inf (hI i h) _)
include hR hI in
theorem xhat_point (i : Fin 256) (w : Fin 2048) : k0_pay8 x (ix2 i w) = (xh R ok (rowAt p i) w : EReal) := by
  pointwise [k0_pay8]
  simp only [rstd_point hR hI]
  by_cases h : ok (rowAt p i)
  · simp only [cen_point hR _ _ h, rst_ok h, xh_ok h, ← EReal.coe_mul]
    rfl
  · simp only [rst_inf h, xh_inf h, EReal.coe_zero, mul_zero]
include hR hI hD hG in
theorem dr_point (i : Fin 256) (w : Fin 2048) : k0_pay9 d x gain (ix2 i w) = (dr R D G ok (rowAt p i) w : EReal) := by
  pointwise [k0_pay9]
  simp only [xhat_point hR hI, rstd_point hR hI, hG, hD, lit_2048, coe_sum, div_real _ _ n2048, ← EReal.coe_sub, ← EReal.coe_mul]
  by_cases h : ok (rowAt p i)
  · simp only [rst_ok h, xh_ok h, dr_ok h]
    rfl
  · simp only [rst_inf h, dr_inf h, zero_mul]
include hR hI hD hG in
theorem drb_point (i : Fin 256) (w : Fin 2048) : k0_pay1 (k0_pay9 d x gain) (ix2 i w) = (dr R D G ok (rowAt p i) w : EReal) := by
  pointwise [k0_pay1]
  exact dr_point hR hI hD hG i w
include hR hI hD in
theorem dg_point (w : Fin 2048) : k0_pay2 d (k0_pay8 x) prev (ix2 0 w) = prev (ix2 0 w) + (dgPt R D ok p w : EReal) := by
  pointwise [k0_pay2]
  simp only [xhat_point hR hI, hD, ← EReal.coe_mul, coe_sum]
  rfl
include hD in
theorem db_point (w : Fin 2048) : k0_pay3 d prev (ix2 0 w) = prev (ix2 0 w) + (dbPt D p w : EReal) := by
  pointwise [k0_pay3]
  simp only [hD, coe_sum]
  rfl

end Cert.Norm.Point

namespace Cert.Kernel17Ideal.Gen

open Idealize.ShloMosaic Idealize.ShloMosaic.TcCoe Idealize.SL.Sem
open Idealize.ShloMosaic.Pipeline (Dat)
open Cert.Kernel17Ideal Cert.Norm Cert.Norm.Point
open Cert.Gate (coe_sum)

/-- Where the blocks lie at a point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

/-- The number of a grid point. -/
abbrev pt (t : Fin cfg0.N) : Fin 16 := ⟨t.val, lt_of_lt_of_eq t.isLt N_0⟩

variable {m : (ℓ : Loc nD τ sig) → Buf (Elt Ideal) ℓ} {R D : Fin 4096 → Fin 2048 → ℝ} {G : Fin 2048 → ℝ} {ok : Fin 4096 → Prop} {c : Dev nD}
  (H : Lifts R D G ok (m ((c : Thread nD τ).loc main_arg0)) (m ((c : Thread nD τ).loc main_arg1)) (m ((c : Thread nD τ).loc main_arg2)))
include H

/-! ## What a point reads -/

omit H in
theorem rows_read (t : Fin cfg0.N) (i : Fin 256) (w : Fin 2048) :
    (iblk m c 0 t : Vec Ideal S256x2048 .f32) (ix2 i w) = m ((c : Thread nD τ).loc main_arg0) (ix2 (rowAt (pt t) i) w) := by
  blk_point [iblk, V, idx t]
theorem hR (t : Fin cfg0.N) (i : Fin 256) (w : Fin 2048) (h : ok (rowAt (pt t) i)) :
    (iblk m c 0 t : Vec Ideal S256x2048 .f32) (ix2 i w) = (R (rowAt (pt t) i) w : EReal) :=
  (rows_read t i w).trans (H.hR (ix2 (rowAt (pt t) i) w) h)
theorem hI (t : Fin cfg0.N) (i : Fin 256) (h : ¬ok (rowAt (pt t) i)) :
    ∃ w : Fin 2048, Eq (α := EReal) (iblk m c 0 t (ix2 i w)) ⊤ ∨ Eq (α := EReal) (iblk m c 0 t (ix2 i w)) ⊥ :=
  (H.hI _ h).imp fun w hw => hw.imp (rows_read t i w).trans (rows_read t i w).trans
theorem hD (t : Fin cfg0.N) (i : Fin 256) (w : Fin 2048) : (iblk m c 2 t : Vec Ideal S256x2048 .f32) (ix2 i w) = (D (rowAt (pt t) i) w : EReal) := by
  refine Eq.trans ?_ (H.hD (ix2 (rowAt (pt t) i) w))
  blk_point [iblk, V, idx t]
theorem hG (t : Fin cfg0.N) (w : Fin 2048) : (iblk m c 1 t : Vec Ideal S1x2048 .f32) (ix2 0 w) = (G w : EReal) := by
  refine Eq.trans ?_ (H.hG (ix1 w))
  blk_point [iblk, V, idx t]

/-! ## What a point leaves -/

theorem step3 (t : Fin cfg0.N) (i : Fin 256) (w : Fin 2048) : (outsAt0 m c t.val t.isLt).1 (ix2 i w) = (dr R D G ok (rowAt (pt t) i) w : EReal) := by
  by_cases h : t.val % 16 = 0
  · rw [outsAt0_A m c t h]; frame_out
    exact dr_point (hR H t) (hI H t) (hD H t) (hG H t) i w
  · rw [outsAt0_B m c t h]; frame_out
    exact dr_point (hR H t) (hI H t) (hD H t) (hG H t) i w
theorem step4 (t : Fin cfg0.N) (i : Fin 256) (w : Fin 2048) : (outsAt0 m c t.val t.isLt).2.1 (ix2 i w) = (dr R D G ok (rowAt (pt t) i) w : EReal) := by
  by_cases h : t.val % 16 = 0
  · rw [outsAt0_A m c t h]; frame_out
    exact drb_point (hR H t) (hI H t) (hD H t) (hG H t) i w
  · rw [outsAt0_B m c t h]; frame_out
    exact drb_point (hR H t) (hI H t) (hD H t) (hG H t) i w

theorem step5_first (t : Fin cfg0.N) (h : t.val % 16 = 0) (w : Fin 2048) :
    (outsAt0 m c t.val t.isLt).2.2.1 (ix2 0 w) = 0 + (dgPt R D ok (pt t) w : EReal) := by
  rw [outsAt0_A m c t h]; frame_out
  refine (dg_point (prev := k0_pay4 (F := Ideal)) (hR H t) (hI H t) (hD H t) w).trans ?_
  exact congrArg (fun z : EReal => z + _) (show k0_pay4 (F := Ideal) (ix2 0 w) = 0 by pointwise [k0_pay4])
theorem step5 (t : Fin cfg0.N) (h : ¬t.val % 16 = 0) (w : Fin 2048) :
    (outsAt0 m c t.val t.isLt).2.2.1 (ix2 0 w) = (outsAt0 m c (t.val - 1) (by omega)).2.2.1 (ix2 0 w) + (dgPt R D ok (pt t) w : EReal) := by
  rw [outsAt0_B m c t h]; frame_out
  exact dg_point (hR H t) (hI H t) (hD H t) w
theorem step6_first (t : Fin cfg0.N) (h : t.val % 16 = 0) (w : Fin 2048) :
    (outsAt0 m c t.val t.isLt).2.2.2 (ix2 0 w) = 0 + (dbPt D (pt t) w : EReal) := by
  rw [outsAt0_A m c t h]; frame_out
  refine (db_point (prev := k0_pay5 (F := Ideal)) (hD H t) w).trans ?_
  exact congrArg (fun z : EReal => z + _) (show k0_pay5 (F := Ideal) (ix2 0 w) = 0 by pointwise [k0_pay5])
theorem step6 (t : Fin cfg0.N) (h : ¬t.val % 16 = 0) (w : Fin 2048) :
    (outsAt0 m c t.val t.isLt).2.2.2 (ix2 0 w) = (outsAt0 m c (t.val - 1) (by omega)).2.2.2 (ix2 0 w) + (dbPt D (pt t) w : EReal) := by
  rw [outsAt0_B m c t h]; frame_out
  exact db_point (hD H t) w

/-! ## The four results -/

theorem out3 : (dats m 0 c).arrAt 3 cfg0.N = fun i : S4096x2048.Idx => (dr R D G ok (i 0) (i 1) : EReal) := by
  refine (dats m 0 c).arrAt_eq_of_covers 3 _ (by decide +kernel) fun t hf y => ?_
  have e0 : (rowAt (pt t) (y 0)).val = ((win0_3.blk t).view.emb y 0).val := by blk_simp [idx t]
  have e1 : (y 1).val = ((win0_3.blk t).view.emb y 1).val := by blk_simp [idx t]
  blk_simp [idx t]
  rw [after0_3]
  refine ((congrArg (outsAt0 m c t.val t.isLt).1 (eq_ix2 y)).trans (step3 H t (y 0) (y 1))).trans ?_
  exact congrArg₂ (fun (r : Fin 4096) (w : Fin 2048) => ((dr R D G ok r w : ℝ) : EReal)) (Fin.ext e0) (Fin.ext e1)
theorem out4 : (dats m 0 c).arrAt 4 cfg0.N = fun i : S4096x2048.Idx => (dr R D G ok (i 0) (i 1) : EReal) := by
  refine (dats m 0 c).arrAt_eq_of_covers 4 _ (by decide +kernel) fun t hf y => ?_
  have e0 : (rowAt (pt t) (y 0)).val = ((win0_4.blk t).view.emb y 0).val := by blk_simp [idx t]
  have e1 : (y 1).val = ((win0_4.blk t).view.emb y 1).val := by blk_simp [idx t]
  blk_simp [idx t]
  rw [after0_4]
  refine ((congrArg (outsAt0 m c t.val t.isLt).2.1 (eq_ix2 y)).trans (step4 H t (y 0) (y 1))).trans ?_
  exact congrArg₂ (fun (r : Fin 4096) (w : Fin 2048) => ((dr R D G ok r w : ℝ) : EReal)) (Fin.ext e0) (Fin.ext e1)

omit H in
/-- An index of an array of one row. -/
theorem at_row (j : S1x2048.Idx) : j = ix2 (0 : Fin 1) (j 1 : Fin 2048) :=
  (eq_ix2 j).trans (congrArg (fun z : Fin 1 => (ix2 z (j 1 : Fin 2048) : S1x2048.Idx)) (Subsingleton.elim (α := Fin 1) (j 0) 0))

theorem out5 : (dats m 0 c).arrAt 5 cfg0.N = fun i : S1x2048.Idx => (dg R D ok (i 1) : EReal) := by
  refine (dats m 0 c).arrAt_eq_of_after_last 5 t0_15 (by decide +kernel) _ fun j => ?_
  blk_simp [idx t0_15]
  rw [after0_5]
  refine (Pipeline.eq_sum_fin_of_reset_step_apply_last (fun n h => (outsAt0 m c n h).2.2.1) 16 (fun _ => 0)
    (fun p j => (dgPt R D ok ⟨p.val, lt_of_lt_of_eq p.isLt N_0⟩ (j 1) : EReal)) (fun t h j => by rw [at_row j]; exact step5_first H t h (j 1)) (fun t h j => by rw [at_row j]; exact step5 H t h (j 1))
    (le_of_eq N_0) t0_15 rfl j).trans ?_
  exact (zero_add _).trans ((coe_sum _).trans (congrArg (fun z : ℝ => (z : EReal)) (sum_dgPt R D ok (j 1))))
theorem out6 : (dats m 0 c).arrAt 6 cfg0.N = fun i : S1x2048.Idx => (db D (i 1) : EReal) := by
  refine (dats m 0 c).arrAt_eq_of_after_last 6 t0_15 (by decide +kernel) _ fun j => ?_
  blk_simp [idx t0_15]
  rw [after0_6]
  refine (Pipeline.eq_sum_fin_of_reset_step_apply_last (fun n h => (outsAt0 m c n h).2.2.2) 16 (fun _ => 0)
    (fun p j => (dbPt D ⟨p.val, lt_of_lt_of_eq p.isLt N_0⟩ (j 1) : EReal)) (fun t h j => by rw [at_row j]; exact step6_first H t h (j 1)) (fun t h j => by rw [at_row j]; exact step6 H t h (j 1))
    (le_of_eq N_0) t0_15 rfl j).trans ?_
  exact (zero_add _).trans ((coe_sum _).trans (congrArg (fun z : ℝ => (z : EReal)) (sum_dbPt D (j 1))))

end Cert.Kernel17Ideal.Gen
-- ==== Proof.Norm.BackRef.lean ====
/- What the reference of the norm's backward pass computes, read in real numbers: every stage of it, at a
   finite gain and cotangent, is the real expression that it spells, or zero at a row with an infinite entry. -/
module

public import proofs.«01_k».proof.Proof.Norm.BackReals
public import proofs.«01_k».proof.Proof.Gate.Ref
public import proofs.«01_k».proof.Proof.Gen.Reference17Ideal.Read

@[expose] public section

set_option maxRecDepth 16384

noncomputable section

namespace Cert.Norm.Ref

open Idealize.ShloMosaic Idealize.ShloMosaic.TcCoe
open Cert.Gate (mul_r add_r sub_r neg_r div_r rsqrt_r zero_r two_r neg_half_r eps_r sum_r lit_2048 eps)
open Cert.Reference17Ideal Cert.Reference17Ideal.Gen Cert.Reference17Ideal.Read

theorem r2048 : FloatOps.ofBits (F := Ideal) .f32 0x45000000#32 = ((2048 : ℝ) : EReal) := lit_2048

variable {R D : Fin 4096 → Fin 2048 → ℝ} {G : Fin 2048 → ℝ} {ok : Fin 4096 → Prop}
  {x0 : (⟨S4096x2048, .f32⟩ : BufTy).Contents (Elt Ideal)} {x1 : (⟨S2048, .f32⟩ : BufTy).Contents (Elt Ideal)}
  {x2 : (⟨S4096x2048, .f32⟩ : BufTy).Contents (Elt Ideal)} (H : Lifts R D G ok x0 x1 x2)

/-! ## The forward values of a row of real numbers -/

include H in
theorem r4 (i : S4096x1.Idx) (h : ok (i 0)) : val_main_v4 (F := Ideal) x0 i = (mean 2048 (R (i 0)) : EReal) := by
  rw [val_main_v4_apply, val_main_v2_apply, val_main_v1_apply, val_main_v3_apply, val_main_cst_0_apply, val_main_cst_1_apply, zero_r, r2048,
    sum_r _ _ fun k => H.hR _ h, div_r _ _ n2048]
  rfl
include H in
theorem r6 (i : S4096x2048.Idx) (h : ok (i 0)) : val_main_v6 (F := Ideal) x0 i = (cen 2048 (R (i 0)) (i 1) : EReal) := by
  rw [val_main_v6_apply, val_main_v5_apply, H.hR _ h, r4 H _ h, sub_r]
  rfl
include H in
theorem r15 (i : S4096x2048.Idx) (h : ok (i 0)) : val_main_v15 (F := Ideal) x0 i = (cen 2048 (R (i 0)) (i 1) : EReal) := by
  rw [val_main_v15_apply, val_main_v14_apply, H.hR _ h, r4 H _ h, sub_r]
  rfl
include H in
theorem r7 (i : S4096x2048.Idx) (h : ok (i 0)) :
    val_main_v7 (F := Ideal) x0 i = ((cen 2048 (R (i 0)) (i 1) * cen 2048 (R (i 0)) (i 1) : ℝ) : EReal) := by
  rw [val_main_v7_apply, r6 H _ h, mul_r]
include H in
theorem r9 (i : S4096x2048.Idx) (h : ok (i 0)) : val_main_v9 (F := Ideal) x0 i = ((2 * cen 2048 (R (i 0)) (i 1) : ℝ) : EReal) := by
  rw [val_main_v9_apply, val_main_v8_apply, val_main_cst_2_apply, r6 H _ h, two_r, mul_r]
include H in
theorem r17 (i : S4096x1.Idx) (h : ok (i 0)) : val_main_v17 (F := Ideal) x0 i = ((var 2048 (R (i 0)) + eps : ℝ) : EReal) := by
  rw [val_main_v17_apply, val_main_v13_apply, val_main_v16_apply, val_main_v11_apply, val_main_v12_apply, val_main_v10_apply,
    val_main_cst_3_apply, val_main_cst_4_apply, val_main_cst_5_apply, zero_r, r2048, eps_r,
    sum_r _ _ fun k => r7 H _ h, div_r _ _ n2048, add_r]
  rfl

/-! ## The forward values of any row -/

include H in
theorem r17_inf (i : S4096x1.Idx) (h : ¬ok (i 0)) : val_main_v17 (F := Ideal) x0 i = ⊤ := by
  rw [val_main_v17_apply, val_main_v13_apply, val_main_v16_apply, val_main_v11_apply, val_main_v12_apply, val_main_v10_apply,
    val_main_cst_3_apply, val_main_cst_4_apply, val_main_cst_5_apply, zero_r, r2048, eps_r, EReal.coe_zero, zero_add]
  simp only [val_main_v7_apply, val_main_v6_apply, val_main_v5_apply]
  obtain ⟨w, hw⟩ := H.hI _ h
  have e : idx_main_v10 (idx_main_v11 i) w = ix2 (i 0 : Fin 4096) w := eq_ix2 _
  exact var_inf (X := fun k => x0 (idx_main_v10 (idx_main_v11 i) k)) ⟨w, by simp only [e]; exact hw⟩ _
include H in
theorem r18 (i : S4096x1.Idx) : val_main_v18 (F := Ideal) x0 i = (rst R ok (i 0) : EReal) := by
  rw [val_main_v18_apply]
  by_cases h : ok (i 0)
  · rw [r17 H i h, rsqrt_r _ (var_pos R (i 0))]
    exact congrArg (fun z : ℝ => (z : EReal)) (rst_ok h).symm
  · rw [r17_inf H i h]
    exact congrArg (fun z : ℝ => (z : EReal)) (rst_inf h).symm
include H in
theorem r21 (i : S4096x1.Idx) : val_main_v21 (F := Ideal) x0 i
    = ((-(1 / 2) * (rst R ok (i 0) / (var 2048 (R (i 0)) + eps)) : ℝ) : EReal) := by
  rw [val_main_v21_apply, val_main_v20_apply, val_main_cst_6_apply, val_main_v19_apply, r18 H, neg_half_r]
  by_cases h : ok (i 0)
  · rw [r17 H i h, div_r _ _ (var_pos R (i 0)).ne', mul_r]
  · rw [r17_inf H i h]
    have z : Ideal.div ((rst R ok (i 0) : ℝ) : EReal) ⊤ = ((rst R ok (i 0) / (var 2048 (R (i 0)) + eps) : ℝ) : EReal) := by
      simp [rst_inf h, Ideal.div]
    exact (congrArg (fun y : EReal => ((-(1 / 2) : ℝ) : EReal) * y) z).trans (mul_r _ _)
include H in
theorem r23 (i : S4096x2048.Idx) : val_main_v23 (F := Ideal) x0 i = (xh R ok (i 0) (i 1) : EReal) := by
  rw [val_main_v23_apply, val_main_v22_apply, r18 H]
  by_cases h : ok (i 0)
  · rw [r15 H i h, mul_r]
    exact congrArg (fun z : ℝ => (z : EReal)) ((congrArg (fun z : ℝ => cen 2048 (R (i 0)) (i 1) * z) (rst_ok h)).trans (xh_ok h (i 1)).symm)
  · exact ((congrArg (fun z : ℝ => val_main_v15 (F := Ideal) x0 i * (z : EReal)) (rst_inf h)).trans (mul_zero _)).trans
      (congrArg (fun z : ℝ => (z : EReal)) (xh_inf h (i 1)).symm)

/-! ## The gain's and the shift's cotangent -/

include H in
theorem r66 (i : S1x2048.Idx) : val_main_v66 (F := Ideal) x2 i = (db D (i 1) : EReal) := by
  rw [val_main_v66_apply, val_main_v33_apply, val_main_cst_8_apply, zero_r, EReal.coe_zero, zero_add, Fin.sum_univ_one,
    val_main_v32_apply, val_main_v31_apply, val_main_cst_7_apply, zero_r, sum_r _ _ fun k => H.hD _]
  refine congrArg _ (Finset.sum_congr rfl fun r _ => congrArg₂ D rfl (Fin.ext ?_))
  have h1 : (i 1).val < 2048 := (i 1).isLt
  show (0 * 2048 + (i 1).val) = (i 1).val
  omega
include H in
theorem r30 (i : S4096x2048.Idx) : val_main_v30 (F := Ideal) x2 i = (D (i 0) (i 1) : EReal) := by
  rw [val_main_v30_apply, H.hD]
  have h1 : (i 1).val < 2048 := (i 1).isLt
  refine congrArg _ (congrArg₂ D (Fin.ext ?_) (Fin.ext ?_))
  · show ((i 0).val * 2048 + (i 1).val) / 2048 = (i 0).val; omega
  · show ((i 0).val * 2048 + (i 1).val) % 2048 = (i 1).val; omega
include H in
theorem r34 (i : S4096x2048.Idx) : val_main_v34 (F := Ideal) x0 x2 i = ((D (i 0) (i 1) * xh R ok (i 0) (i 1) : ℝ) : EReal) := by
  rw [val_main_v34_apply, r23 H, r30 H, mul_r, mul_comm]
include H in
theorem r65 (i : S1x2048.Idx) : val_main_v65 (F := Ideal) x0 x2 i = (dg R D ok (i 1) : EReal) := by
  rw [val_main_v65_apply, val_main_v39_apply, val_main_cst_10_apply, zero_r, EReal.coe_zero, zero_add, Fin.sum_univ_one,
    val_main_v36_apply, val_main_v35_apply, val_main_cst_9_apply, zero_r, sum_r _ _ fun k => r34 H _]
  refine congrArg _ (Finset.sum_congr rfl fun r _ => congrArg (fun w : Fin 2048 => D r w * xh R ok r w) (Fin.ext ?_))
  have h1 : (i 1).val < 2048 := (i 1).isLt
  show (0 * 2048 + (i 1).val) = (i 1).val
  omega

/-! ## The rows' cotangent -/

include H in
theorem r38 (i : S4096x2048.Idx) : val_main_v38 (F := Ideal) x1 x2 i = (dxh D G (i 0) (i 1) : EReal) := by
  rw [val_main_v38_apply, r30 H, val_main_v37_apply, val_main_v24_apply, H.hG, mul_r]; rfl
include H in
theorem r40 (i : S4096x2048.Idx) (h : ok (i 0)) : val_main_v40 (F := Ideal) x0 x1 x2 i
    = ((cen 2048 (R (i 0)) (i 1) * dxh D G (i 0) (i 1) : ℝ) : EReal) := by
  rw [val_main_v40_apply, r15 H i h, r38 H, mul_r]
include H in
theorem r44 (i : S4096x2048.Idx) : val_main_v44 (F := Ideal) x0 x1 x2 i = ((dxh D G (i 0) (i 1) * rst R ok (i 0) : ℝ) : EReal) := by
  rw [val_main_v44_apply, r38 H, val_main_v43_apply, r18 H, mul_r]; rfl

/-- The variance's cotangent, over the row's length. -/
abbrev dvar (R D : Fin 4096 → Fin 2048 → ℝ) (G : Fin 2048 → ℝ) (ok : Fin 4096 → Prop) (r : Fin 4096) : ℝ :=
  (∑ v, cen 2048 (R r) v * dxh D G r v) * (-(1 / 2) * (rst R ok r / (var 2048 (R r) + eps))) / 2048

include H in
theorem r41 (i : S4096.Idx) (h : ok (i 0)) : val_main_v41 (F := Ideal) x0 x1 x2 i
    = ((∑ v, cen 2048 (R (i 0)) v * dxh D G (i 0) v : ℝ) : EReal) := by
  rw [val_main_v41_apply, val_main_cst_11_apply, zero_r, sum_r _ _ fun k => r40 H _ h]
  rfl
theorem dvar_inf {r : Fin 4096} (h : ¬ok r) : dvar R D G ok r = 0 := by simp [dvar, rst_inf h]

include H in
theorem r52 (i : S4096x2048.Idx) : val_main_v52 (F := Ideal) x0 x1 x2 i = (dvar R D G ok (i 0) : EReal) := by
  rw [val_main_v52_apply, val_main_v51_apply, val_main_cst_14_apply, zero_r, EReal.coe_zero, zero_add, Fin.sum_univ_one,
    val_main_v50_apply, val_main_v49_apply, val_main_cst_13_apply, r2048, val_main_v45_apply, r21 H]
  by_cases h : ok (i 0)
  · have h0 : (i 0).val < 4096 := (i 0).isLt
    have e : (⟨(i 0).val * 1 + 0, by omega⟩ : Fin 4096) = i 0 := Fin.ext (by show (i 0).val * 1 + 0 = (i 0).val; omega)
    rw [val_main_v42_apply, r41 H _ (cast (congrArg ok e.symm) h), mul_r, div_r _ _ n2048]
    exact congrArg (fun r : Fin 4096 => (((∑ v, cen 2048 (R r) v * dxh D G r v) * (-(1 / 2) * (rst R ok (i 0) / (var 2048 (R (i 0)) + eps))) / 2048 : ℝ) : EReal)) e
  · have z : -(1 / 2) * (rst R ok (i 0) / (var 2048 (R (i 0)) + eps)) = 0 := by rw [rst_inf h, zero_div, mul_zero]
    refine ((congrArg (fun z : ℝ => Ideal.div (_ * (z : EReal)) ((2048 : ℝ) : EReal)) z).trans ?_).trans (congrArg (fun z : ℝ => (z : EReal)) (dvar_inf h).symm)
    rw [EReal.coe_zero, mul_zero]
    exact (div_r 0 _ n2048).trans (by rw [zero_div, EReal.coe_zero])
include H in
theorem r53 (i : S4096x2048.Idx) : val_main_v53 (F := Ideal) x0 x1 x2 i = ((dvar R D G ok (i 0) * (2 * cen 2048 (R (i 0)) (i 1)) : ℝ) : EReal) := by
  rw [val_main_v53_apply, r52 H]
  by_cases h : ok (i 0)
  · rw [r9 H i h, mul_r]
  · refine ((congrArg (fun z : ℝ => (z : EReal) * val_main_v9 (F := Ideal) x0 i) (dvar_inf h)).trans ?_).trans
      (congrArg (fun z : ℝ => ((z * (2 * cen 2048 (R (i 0)) (i 1)) : ℝ) : EReal)) (dvar_inf h)).symm
    rw [zero_mul, EReal.coe_zero, zero_mul]
include H in
theorem r62 (i : S4096x2048.Idx) : val_main_v62 (F := Ideal) x0 x1 x2 i
    = ((((∑ v, -(dxh D G (i 0) v * rst R ok (i 0))) + ∑ u, -(dvar R D G ok (i 0) * (2 * cen 2048 (R (i 0)) u))) / 2048 : ℝ) : EReal) := by
  rw [val_main_v62_apply, val_main_v61_apply, val_main_cst_17_apply, zero_r, EReal.coe_zero, zero_add, Fin.sum_univ_one,
    val_main_v60_apply, val_main_v59_apply, val_main_cst_16_apply, r2048, val_main_v58_apply, val_main_v48_apply, val_main_v47_apply,
    val_main_v56_apply, val_main_v55_apply, val_main_cst_12_apply, val_main_cst_15_apply, zero_r,
    sum_r _ _ fun k => (val_main_v46_apply ..).trans ((congrArg _ (r44 H _)).trans (neg_r _)),
    sum_r _ _ fun k => (val_main_v54_apply ..).trans ((congrArg _ (r53 H _)).trans (neg_r _)), add_r, div_r _ _ n2048]
  refine congrArg (fun r : Fin 4096 => ((((∑ v, -(dxh D G r v * rst R ok r)) + ∑ u, -(dvar R D G ok r * (2 * cen 2048 (R r) u))) / 2048 : ℝ) : EReal)) (Fin.ext ?_)
  show (i 0).val * 1 + 0 = (i 0).val
  omega
/-- The two groupings of the rows' cotangent. -/
theorem dr_eq (r : Fin 4096) (w : Fin 2048) : dxh D G r w * rst R ok r + dvar R D G ok r * (2 * cen 2048 (R r) w)
    + ((∑ v, -(dxh D G r v * rst R ok r)) + ∑ u, -(dvar R D G ok r * (2 * cen 2048 (R r) u))) / 2048 = dr R D G ok r w := by
  by_cases h : ok r
  · simp only [dr_ok h, dvar, rst_ok h]
    exact back_eq (R r) (dxh D G r) (by norm_num) (by norm_num) w
  · simp [dr_inf h, dvar_inf h, rst_inf h]

include H in
theorem r63 (i : S4096x2048.Idx) : val_main_v63 (F := Ideal) x0 x1 x2 i = (dr R D G ok (i 0) (i 1) : EReal) := by
  rw [val_main_v63_apply, val_main_v57_apply, r44 H, r53 H, r62 H, add_r, add_r]
  exact congrArg _ (dr_eq (i 0) (i 1))
include H in
theorem r64 (i : S4096x2048.Idx) : val_main_v64 (F := Ideal) x0 x1 x2 i = (dr R D G ok (i 0) (i 1) : EReal) :=
  (val_main_v64_apply ..).trans (r63 H i)

end Cert.Norm.Ref
-- ==== Proof.Norm.BackClaim.lean ====
/- The norm's backward pass: what the precondition `finite_norm` says, and what is claimed of the call and of its
   reference. -/
module

public import proofs.«01_k».proof.Defs
public import proofs.«01_k».proof.Proof.Gate.Finite
public import proofs.«01_k».proof.Proof.Norm.Back
public import proofs.«01_k».proof.Proof.Norm.BackRef
public import proofs.«01_k».proof.Proof.Gen.Kernel17
public import proofs.«01_k».proof.Proof.Gen.Kernel17Ideal
public import proofs.«01_k».proof.Proof.Gen.Reference17Ideal
public import proofs.«01_k».proof.Proof.Gen.Reference17Ideal.Run
public import Idealize.ShloMosaic.Lib.Claim
public import Idealize.ShloMosaic.Lib.Quiescent

@[expose] public section

set_option maxRecDepth 16384
set_option maxHeartbeats 4000000

noncomputable section

namespace Cert.Norm

open Idealize.ShloMosaic Idealize.ShloMosaic.TcCoe
open Cert.Pre_finite_norm

/-- The precondition's side conditions. -/
theorem finite_facts : Cert.Pre_finite_norm.Facts := by constructor <;> decide +kernel

/-- The real parts of the rows, or of their cotangent. -/
def rowsOf (x : (⟨2, ![4096, 2048]⟩ : Shape).Idx → EReal) (r : Fin 4096) (w : Fin 2048) : ℝ := (x (ix2 r w)).toReal
/-- The real parts of the gain. -/
def gainOf (x : (⟨1, ![2048]⟩ : Shape).Idx → EReal) (w : Fin 2048) : ℝ := (x (ix1 w)).toReal

/-- Whether a row has real numbers only. -/
def RealRow (x : (⟨2, ![4096, 2048]⟩ : Shape).Idx → EReal) (r : Fin 4096) : Prop := ∀ w : Fin 2048, x (ix2 r w) ≠ ⊤ ∧ x (ix2 r w) ≠ ⊥

/-- Under the precondition the gain and the cotangent are real numbers; of the rows nothing is asked. -/
theorem lifts_of [Cert.Pre_finite_norm.Facts] (x0 : FVec Ideal S4096x2048 .f32) (x1 : FVec Ideal S2048 .f32) (x2 : FVec Ideal S4096x2048 .f32)
    (h : (Cert.Pre_finite_norm.fn (F := Ideal) x0 x1 x2).1 = (fun _ => 1#1)
      ∧ (Cert.Pre_finite_norm.fn (F := Ideal) x0 x1 x2).2 = (fun _ => 1#1)) : Lifts (rowsOf x0) (rowsOf x2) (gainOf x1) (RealRow x0) x0 x1 x2 := by
  obtain ⟨h1, h2⟩ := h
  dsimp only [fn] at h1 h2
  have j : S_.Idx := fun a => a.elim0
  have k1 := fun i => Host.reduce_andi_all _ _ _ _ j (congrFun h1 j) i
  have k2 := fun i => Host.reduce_andi_all _ _ _ _ j (congrFun h2 j) i
  refine ⟨fun i hi => ?_, fun r hr => ?_,
    fun i => (Gate.real_of_lt _ (k1 i)).trans (congrArg (fun z => (((x1 z : EReal).toReal : ℝ) : EReal)) (eq_ix1 i)),
    fun i => (Gate.real_of_lt _ (k2 i)).trans (congrArg (fun z => (((x2 z : EReal).toReal : ℝ) : EReal)) (eq_ix2 i))⟩
  · exact (congrArg x0 (eq_ix2 i)).trans (EReal.coe_toReal (hi (i 1)).1 (hi (i 1)).2).symm
  · simp only [RealRow, not_forall, not_and_or, not_not] at hr
    exact hr

end Cert.Norm

namespace Cert.Proof

open Idealize.ShloMosaic Idealize.ShloMosaic.TcCoe Idealize.SL.Sem
open Cert.Norm (rowsOf gainOf RealRow)

/-- The two printed kernels' region bodies are the same statements. -/
theorem bodies17 : Cert.Kernel17.defs₀ (F := Bits) = Cert.Kernel17Ideal.defs₀ (F := Bits) :=
  congrArg Defs.onTc (funext fun ℓ => funext fun a => by
    obtain ⟨k, h⟩ := ℓ
    obtain rfl : k = 0 := Nat.lt_one_iff.1 h
    rfl)

theorem table17 : Cert.Kernel17.defs (F := Bits) = Cert.Kernel17Ideal.defs (F := Bits) := congrArg (Pipeline.defs Cert.Kernel17.pcfgs) bodies17

/-- The kernel's run, from the run of its idealized program, which is stated over any float values. -/
theorem frame17 : Cert.quiescent_Kernel17 := fun m g _ => by rw [table17]; exact Cert.Kernel17Ideal.Gen.frame (F := Bits) m g

/-- The reference runs to a quiescent memory, its arguments kept. -/
theorem reference17_frame [Cert.Reference17Ideal.Facts] : Cert.quiescent_Reference17Ideal := fun m g _ =>
  (θ_run _ _ _).mono (fun r h => ⟨fun c => (h c).2.2.2.2, sem_eq_zero_of_no_sems (by decide) r.2⟩) (Cert.Reference17Ideal.Value.run (F := Ideal) m g)

/-- Both programs leave the rows' cotangent twice, the gain's and the shift's. -/
theorem values17 [Cert.Pre_finite_norm.Facts] : Cert.algebraic_Kernel17Ideal_Reference17Ideal_pre_finite_norm := by
  intro m g m' g' hpre hagree
  let R := fun c : Dev Cert.Kernel17Ideal.nD => rowsOf (m ((c.tc : Thread Cert.Kernel17Ideal.nD Cert.Kernel17Ideal.τ).loc Cert.Kernel17Ideal.main_arg0))
  let G := fun c : Dev Cert.Kernel17Ideal.nD => gainOf (m ((c.tc : Thread Cert.Kernel17Ideal.nD Cert.Kernel17Ideal.τ).loc Cert.Kernel17Ideal.main_arg1))
  let ok := fun c : Dev Cert.Kernel17Ideal.nD => RealRow (m ((c.tc : Thread Cert.Kernel17Ideal.nD Cert.Kernel17Ideal.τ).loc Cert.Kernel17Ideal.main_arg0))
  let D := fun c : Dev Cert.Kernel17Ideal.nD => rowsOf (m ((c.tc : Thread Cert.Kernel17Ideal.nD Cert.Kernel17Ideal.τ).loc Cert.Kernel17Ideal.main_arg2))
  have H : ∀ c, Norm.Lifts (R c) (D c) (G c) (ok c) (m ((c.tc : Thread Cert.Kernel17Ideal.nD Cert.Kernel17Ideal.τ).loc Cert.Kernel17Ideal.main_arg0))
      (m ((c.tc : Thread Cert.Kernel17Ideal.nD Cert.Kernel17Ideal.τ).loc Cert.Kernel17Ideal.main_arg1))
      (m ((c.tc : Thread Cert.Kernel17Ideal.nD Cert.Kernel17Ideal.τ).loc Cert.Kernel17Ideal.main_arg2)) := fun c => Norm.lifts_of _ _ _ (hpre c)
  have H' : ∀ c, Norm.Lifts (R c) (D c) (G c) (ok c) (m' ((c.tc : Thread Cert.Reference17Ideal.nD Cert.Reference17Ideal.τ).loc Cert.Reference17Ideal.main_arg0))
      (m' ((c.tc : Thread Cert.Reference17Ideal.nD Cert.Reference17Ideal.τ).loc Cert.Reference17Ideal.main_arg1))
      (m' ((c.tc : Thread Cert.Reference17Ideal.nD Cert.Reference17Ideal.τ).loc Cert.Reference17Ideal.main_arg2)) := fun c => by
    rw [(hagree c).1, (hagree c).2.1, (hagree c).2.2]; exact H c
  refine ⟨fun c i => (Norm.dr (R c) (D c) (G c) (ok c) (i 0) (i 1) : EReal), fun c i => (Norm.dr (R c) (D c) (G c) (ok c) (i 0) (i 1) : EReal),
    fun c i => (Norm.dg (R c) (D c) (ok c) (i 1) : EReal), fun c i => (Norm.db (D c) (i 1) : EReal),
    (θ_run _ _ _).mono (fun r h c => ?_) (Cert.Kernel17Ideal.Value.run_blocks (F := Ideal) m g),
    (θ_run _ _ _).mono (fun r h c => ?_) (Cert.Reference17Ideal.Value.run (F := Ideal) m' g')⟩
  · obtain ⟨h0, h1, h2, h3, ha⟩ := h c
    exact ⟨h0.trans (Cert.Kernel17Ideal.Gen.out3 (H c)), h1.trans (Cert.Kernel17Ideal.Gen.out4 (H c)),
      h2.trans (Cert.Kernel17Ideal.Gen.out5 (H c)), h3.trans (Cert.Kernel17Ideal.Gen.out6 (H c)), ha⟩
  · obtain ⟨h0, h1, h2, h3, ha⟩ := h c
    exact ⟨(h0.trans (Cert.Reference17Ideal.Read.val_main_v63_eq m' c)).trans (funext fun i => Norm.Ref.r63 (H' c) i),
      (h1.trans (Cert.Reference17Ideal.Read.val_main_v64_eq m' c)).trans (funext fun i => Norm.Ref.r64 (H' c) i),
      (h2.trans (Cert.Reference17Ideal.Read.val_main_v65_eq _ _)).trans (funext fun i => Norm.Ref.r65 (H' c) i),
      (h3.trans (Cert.Reference17Ideal.Read.val_main_v66_eq _)).trans (funext fun i => Norm.Ref.r66 (H' c) i), ha⟩

end Cert.Proof
-- ==== Proof.Mlp.WeightRef.lean ====
/- The cotangent of the second layer's weights as the reference computes it. -/
module

public import proofs.«01_k».proof.Proof.Mlp.Sums
public import proofs.«01_k».proof.Proof.Gen.Reference3Ideal.Read

@[expose] public section

set_option maxRecDepth 16384

noncomputable section

namespace Cert.Mlp

open Idealize.ShloMosaic Idealize.ShloMosaic.TcCoe
open Cert.Reference3Ideal

/-- The cotangent of the weights at unit `f` and lane `n`: the sum over the rows of the layer's input times the output's cotangent. -/
def weightGrad (x : S4096x8192.Idx → EReal) (d : S4096x2048.Idx → EReal) (f : Fin 8192) (n : Fin 2048) : EReal :=
  ∑ k : Fin 4096, x (ix2 k f) * d (ix2 k n)

/-- What the reference computes is `weightGrad`, entry by entry. -/
theorem weight_ref (x : S4096x8192.Idx → EReal) (d : S4096x2048.Idx → EReal) (i : S8192x2048.Idx) :
    Read.val_main_v6 (F := Ideal) x d i = weightGrad x d (i 0) (i 1) := by
  simp only [Read.val_main_v6_apply, Read.val_main_v5_apply, Read.val_main_v4_apply, Read.val_main_v3_apply, Read.val_main_v1_apply]
  refine Finset.sum_congr rfl fun k _ => (mul_comm _ _).trans ?_
  exact congrArg₂ (fun a b => x a * d b) (eq_ix2 (Read.ridx_main_v4 (Read.idx_main_v5 i) k)) (eq_ix2 (Read.lidx_main_v4 (Read.idx_main_v5 i) k))

end Cert.Mlp
-- ==== Proof.Mlp.Weight.lean ====
/- The cotangent of the second layer's weights as the kernel leaves it. -/
module

public import proofs.«01_k».proof.Proof.Mlp.WeightRef
public import proofs.«01_k».proof.Proof.Gen.Kernel3Ideal.Value

@[expose] public section

set_option maxRecDepth 16384
set_option maxHeartbeats 1000000

noncomputable section

namespace Cert.Kernel3Ideal.Gen

open Idealize.ShloMosaic Idealize.ShloMosaic.TcCoe Idealize.SL.Sem
open Idealize.ShloMosaic.Pipeline (Dat)
open Cert.Kernel3Ideal Cert.Mlp

variable (m : (ℓ : Loc nD τ sig) → Buf (Elt Ideal) ℓ) (c : Dev nD)

/-- Where the windows' blocks lie at a point. -/
theorem idx : ∀ t : Fin cfg0.N, win0_0.index t = ![t.val % 2, t.val / 4] ∧ win0_1.index t = ![t.val % 2, t.val / 2 % 2]
    ∧ win0_2.index t = ![t.val / 4, t.val / 2 % 2] :=
  (by decide +kernel : ∀ t : Fin grid0.N, _)

/-- The product of two blocks along their rows, at an entry. -/
def rowsDot (a b : S2048x1024.Idx → EReal) (j : S1024x1024.Idx) : EReal := ∑ k : Fin 2048, a (ix2 k (j 0)) * b (ix2 k (j 1))

/-- What the first point of a pair leaves in the accumulator. -/
theorem acc_first (t : Fin cfg0.N) (h : t.val % 2 = 0) (j : S1024x1024.Idx) :
    (outsAt0 m c t.val t.isLt).2 j = rowsDot (iblk m c 0 t) (iblk m c 1 t) j := by
  rw [outsAt0_A m c t h (by omega)]
  frame_out
  pointwise [k0_pay1, rowsDot]

/-- What the second point of a pair leaves for the result. -/
theorem out_second (t : Fin cfg0.N) (h : t.val % 2 = 1) (j : S1024x1024.Idx) :
    (outsAt0 m c t.val t.isLt).1 j = (outsAt0 m c (t.val - 1) (Nat.lt_of_le_of_lt (Nat.sub_le _ _) t.isLt)).2 j
      + rowsDot (iblk m c 0 t) (iblk m c 1 t) j := by
  rw [outsAt0_B m c t (by omega) h]
  frame_out
  pointwise [k0_pay3, rowsDot]
  exact congrArg₂ (fun a b : EReal => a + b) (congrFun ((Memref.isWhole_whole cc0_scratch0).read_unread (outsAt0 m c (t.val - 1) (Nat.lt_of_le_of_lt (Nat.sub_le _ _) t.isLt)).2) j) rfl

/-- The kernel's result is `weightGrad`, entry by entry. -/
theorem out2 : (dats m 0 c).arrAt 2 cfg0.N = fun i : S8192x2048.Idx =>
    weightGrad (m ((c : Thread nD τ).loc main_arg0)) (m ((c : Thread nD τ).loc main_arg1)) (i 0) (i 1) := by
  refine (dats m 0 c).arrAt_eq_of_covers 2 _ (by decide +kernel) fun t hf y => ?_
  have ht : t.val % 2 = 1 := (flush0_2 t).mp hf
  have i1 := idx t
  have i0 := idx ⟨t.val - 1, Nat.lt_of_le_of_lt (Nat.sub_le _ _) t.isLt⟩
  blk_simp [i1]
  rw [after0_2]
  unfold weightGrad
  rw [← sum_two]
  refine (out_second m c t ht y).trans ?_
  rw [acc_first m c ⟨t.val - 1, Nat.lt_of_le_of_lt (Nat.sub_le _ _) t.isLt⟩ (by show (t.val - 1) % 2 = 0; omega) y]
  unfold rowsDot
  blk_point [iblk, V, i0, i1]

end Cert.Kernel3Ideal.Gen
-- ==== Proof.Mlp.WeightClaims.lean ====
/- The claims about the call that computes the cotangent of a layer's weights. -/
module

public import proofs.«01_k».proof.Defs
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Mlp.Weight
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference ends with its arguments as they were and every counter at zero. -/
theorem reference3_frame [Cert.Reference3Ideal.Facts] : Cert.quiescent_Reference3Ideal := fun m g _ =>
  (θ_run _ _ _).mono (fun r h => ⟨fun c => (h c).2, sem_eq_zero_of_no_sems (by decide) r.2⟩) (Cert.Reference3Ideal.Value.run (F := Ideal) m g)

/-- Both programs' results are the same sums of the arguments' entries. -/
theorem values3 : Cert.algebraic_Kernel3Ideal_Reference3Ideal := by
  intro m g m' g' _ hagree
  refine ⟨fun c i => Cert.Mlp.weightGrad (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (i 0) (i 1),
    (θ_run _ _ _).mono (fun r h c => ?_) (Cert.Kernel3Ideal.Value.run_blocks (F := Ideal) m g),
    (θ_run _ _ _).mono (fun r h c => ?_) (Cert.Reference3Ideal.Value.run (F := Ideal) m' g')⟩
  · obtain ⟨h0, ha⟩ := h c
    exact ⟨h0.trans (Cert.Kernel3Ideal.Gen.out2 m c), ha⟩
  · obtain ⟨h0, ha⟩ := h c
    refine ⟨(h0.trans (Cert.Reference3Ideal.Read.val_main_v6_eq (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)))).trans (funext fun i => ?_), ha⟩
    rw [(hagree c).1, (hagree c).2]
    exact Cert.Mlp.weight_ref _ _ i

end Cert.Proof
-- ==== Proof.Mlp.Product.lean ====
/- The products of two matrices, entry by entry. -/
module

public import proofs.«01_k».proof.Proof.Mlp.Sums

@[expose] public section

noncomputable section

namespace Cert.Mlp

open Idealize.ShloMosaic

/-- The product of two matrices at row `r` and column `n`. -/
def product {M K N : ℕ} (x : (⟨2, ![M, K]⟩ : Shape).Idx → EReal) (w : (⟨2, ![K, N]⟩ : Shape).Idx → EReal) (r : Fin M) (n : Fin N) : EReal :=
  ∑ k : Fin K, x (ix2 r k) * w (ix2 k n)

/-- The product of a transposed matrix with a matrix: the sum runs down the rows of both. -/
def downRows {M K N : ℕ} (x : (⟨2, ![K, M]⟩ : Shape).Idx → EReal) (d : (⟨2, ![K, N]⟩ : Shape).Idx → EReal) (f : Fin M) (n : Fin N) : EReal :=
  ∑ k : Fin K, x (ix2 k f) * d (ix2 k n)

/-- The product of a matrix with a transposed matrix: the sum runs along the rows of both. -/
def alongRows {M K N : ℕ} (x : (⟨2, ![M, K]⟩ : Shape).Idx → EReal) (w : (⟨2, ![N, K]⟩ : Shape).Idx → EReal) (r : Fin M) (n : Fin N) : EReal :=
  ∑ k : Fin K, x (ix2 r k) * w (ix2 n k)

/-- A place in one of four stretches is a place in the whole. -/
theorem quarter_lt {J K : ℕ} (h : 4 * J = K) (q : Fin 4) (k : Fin J) : q.val * J + k.val < K := by
  have a : q.val * J + k.val < (q.val + 1) * J := by rw [Nat.add_mul, Nat.one_mul]; omega
  exact lt_of_lt_of_le a (h ▸ Nat.mul_le_mul_right J q.isLt)

/-- The part of `alongRows` over one of four stretches. -/
def alongQuarter {M K N : ℕ} (J : ℕ) (h : 4 * J = K) (x : (⟨2, ![M, K]⟩ : Shape).Idx → EReal) (w : (⟨2, ![N, K]⟩ : Shape).Idx → EReal)
    (r : Fin M) (n : Fin N) (q : Fin 4) : EReal :=
  ∑ k : Fin J, x (ix2 r ⟨q.val * J + k.val, quarter_lt h q k⟩) * w (ix2 n ⟨q.val * J + k.val, quarter_lt h q k⟩)

/-- The part of `product` over one of four stretches. -/
def productQuarter {M K N : ℕ} (J : ℕ) (h : 4 * J = K) (x : (⟨2, ![M, K]⟩ : Shape).Idx → EReal) (w : (⟨2, ![K, N]⟩ : Shape).Idx → EReal)
    (r : Fin M) (n : Fin N) (q : Fin 4) : EReal :=
  ∑ k : Fin J, x (ix2 r ⟨q.val * J + k.val, quarter_lt h q k⟩) * w (ix2 ⟨q.val * J + k.val, quarter_lt h q k⟩ n)

theorem alongRows_quarters {M K N : ℕ} (J : ℕ) (h : 4 * J = K) (x : (⟨2, ![M, K]⟩ : Shape).Idx → EReal) (w : (⟨2, ![N, K]⟩ : Shape).Idx → EReal)
    (r : Fin M) (n : Fin N) :
    ((alongQuarter J h x w r n 0 + alongQuarter J h x w r n 1) + alongQuarter J h x w r n 2) + alongQuarter J h x w r n 3 = alongRows x w r n :=
  (Fin.sum_univ_four (alongQuarter J h x w r n)).symm.trans (Fin.sum_mul_add_fin 4 J (fun k => x (ix2 r k) * w (ix2 n k)) h.symm)

theorem product_quarters {M K N : ℕ} (J : ℕ) (h : 4 * J = K) (x : (⟨2, ![M, K]⟩ : Shape).Idx → EReal) (w : (⟨2, ![K, N]⟩ : Shape).Idx → EReal)
    (r : Fin M) (n : Fin N) :
    ((productQuarter J h x w r n 0 + productQuarter J h x w r n 1) + productQuarter J h x w r n 2) + productQuarter J h x w r n 3 = product x w r n :=
  (Fin.sum_univ_four (productQuarter J h x w r n)).symm.trans (Fin.sum_mul_add_fin 4 J (fun k => x (ix2 r k) * w (ix2 k n)) h.symm)

/-- The weight of the residual stream. -/
def alpha : EReal := FloatOps.ofBits (F := Ideal) .f32 0x3FD744FD#32

/-- A product with a transposed matrix, joined by the residual stream's share. -/
def joined {M K N : ℕ} (d : (⟨2, ![M, K]⟩ : Shape).Idx → EReal) (w : (⟨2, ![N, K]⟩ : Shape).Idx → EReal) (res : (⟨2, ![M, N]⟩ : Shape).Idx → EReal)
    (r : Fin M) (n : Fin N) : EReal :=
  alongRows d w r n + alpha * res (ix2 r n)

end Cert.Mlp
-- ==== Proof.Mlp.FirstLayer.lean ====
/- The call that computes the hidden units: the first layer's product and the square of its positive part. -/
module

public import proofs.«01_k».proof.Defs
public import proofs.«01_k».proof.Proof.Mlp.Product
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference4Ideal

/-- The reference's product, entry by entry. -/
theorem product_ref (x : S4096x2048.Idx → EReal) (w : S2048x8192.Idx → EReal) (i : S4096x8192.Idx) :
    Read.val_main_v1 (F := Ideal) x w i = product x w (i 0) (i 1) := by
  simp only [Read.val_main_v1_apply, Read.val_main_v0_apply]
  exact Finset.sum_congr rfl fun k _ => congrArg₂ (fun a b => x a * w b) (eq_ix2 (Read.lidx_main_v1 i k)) (eq_ix2 (Read.ridx_main_v1 i k))

/-- Its square where it is positive. -/
theorem square_ref (x : S4096x2048.Idx → EReal) (w : S2048x8192.Idx → EReal) (i : S4096x8192.Idx) :
    Read.val_main_v4 (F := Ideal) x w i = max (product x w (i 0) (i 1)) 0 * max (product x w (i 0) (i 1)) 0 := by
  simp only [Read.val_main_v4_apply, Read.val_main_v3_apply, Read.val_main_v2_apply, Read.val_main_call0_v0_apply, Read.val_main_call0_cst_apply,
    product_ref, zero_word]
  rfl

end Cert.Reference4Ideal

namespace Cert.Kernel4Ideal.Gen

open Cert.Kernel4Ideal

variable (m : (ℓ : Loc nD τ sig) → Buf (Elt Ideal) ℓ) (c : Dev nD)

/-- Where the windows' blocks lie at a point. -/
theorem idx : ∀ t : Fin cfg0.N, win0_0.index t = ![t.val / 16, 0] ∧ win0_1.index t = ![t.val % 16, 0] ∧ win0_2.index t = ![t.val % 16, 0]
    ∧ win0_3.index t = ![t.val % 16, 0] ∧ win0_4.index t = ![t.val % 16, 0] ∧ win0_5.index t = ![t.val / 16, t.val % 16]
    ∧ win0_6.index t = ![t.val / 16, t.val % 16] :=
  (by decide +kernel : ∀ t : Fin grid0.N, _)

/-- The kernel's product, entry by entry. -/
theorem out5 : (dats m 0 c).arrAt 5 cfg0.N = fun i : S4096x8192.Idx => product (m ((c : Thread nD τ).loc main_arg0)) (m ((c : Thread nD τ).loc main_arg1)) (i 0) (i 1) := by
  refine (dats m 0 c).arrAt_eq_of_covers 5 _ (by decide +kernel) fun t hf y => ?_
  blk_simp [idx t]
  rw [after0_5]
  unfold outsAt0 product
  rw [← sum_four]
  frame_out
  pointwise [k0_pay1]
  blk_point [iblk, V, idx t]

/-- Its square where it is positive. -/
theorem out6 : (dats m 0 c).arrAt 6 cfg0.N = fun i : S4096x8192.Idx =>
    max (product (m ((c : Thread nD τ).loc main_arg0)) (m ((c : Thread nD τ).loc main_arg1)) (i 0) (i 1)) 0 * max (product (m ((c : Thread nD τ).loc main_arg0)) (m ((c : Thread nD τ).loc main_arg1)) (i 0) (i 1)) 0 := by
  refine (dats m 0 c).arrAt_eq_of_covers 6 _ (by decide +kernel) fun t hf y => ?_
  blk_simp [idx t]
  rw [after0_6]
  unfold outsAt0 product
  rw [← sum_four]
  frame_out
  pointwise [k0_pay2, k0_pay1]
  blk_point [iblk, V, idx t]

end Cert.Kernel4Ideal.Gen

namespace Cert.Proof

/-- The kernel over machine floats has the same bodies and the same table. -/
theorem bodies4 : Cert.Kernel4.defs₀ (F := Bits) = Cert.Kernel4Ideal.defs₀ (F := Bits) :=
  congrArg Defs.onTc (funext fun ℓ => funext fun a => by obtain ⟨k, h⟩ := ℓ; obtain rfl : k = 0 := Nat.lt_one_iff.1 h; rfl)

theorem table4 : Cert.Kernel4.defs (F := Bits) = Cert.Kernel4Ideal.defs (F := Bits) := congrArg (Pipeline.defs Cert.Kernel4.pcfgs) bodies4

/-- So its frame is the same run. -/
theorem frame4 : Cert.quiescent_Kernel4 := fun m g _ => by
  rw [table4]
  exact Cert.Kernel4Ideal.Gen.frame (F := Bits) m g

/-- The reference ends with its arguments as they were and every counter at zero. -/
theorem reference4_frame [Cert.Reference4Ideal.Facts] : Cert.quiescent_Reference4Ideal := fun m g _ =>
  (θ_run _ _ _).mono (fun r h => ⟨fun c => (h c).2.2, sem_eq_zero_of_no_sems (by decide) r.2⟩) (Cert.Reference4Ideal.Value.run (F := Ideal) m g)

/-- Both programs' results are the same sums of the arguments' entries. -/
theorem values4 : Cert.algebraic_Kernel4Ideal_Reference4Ideal := by
  intro m g m' g' _ hagree
  refine ⟨fun c i => product (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (i 0) (i 1), fun c i => max (product (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (i 0) (i 1)) 0 * max (product (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (i 0) (i 1)) 0,
    (θ_run _ _ _).mono (fun r h c => ?_) (Cert.Kernel4Ideal.Value.run_blocks (F := Ideal) m g),
    (θ_run _ _ _).mono (fun r h c => ?_) (Cert.Reference4Ideal.Value.run (F := Ideal) m' g')⟩
  · obtain ⟨h0, h1, ha⟩ := h c
    exact ⟨h0.trans (Cert.Kernel4Ideal.Gen.out5 m c), h1.trans (Cert.Kernel4Ideal.Gen.out6 m c), ha⟩
  · obtain ⟨h0, h1, ha⟩ := h c
    refine ⟨(h0.trans (Cert.Reference4Ideal.Read.val_main_v1_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)))).trans (funext fun i => ?_), (h1.trans (Cert.Reference4Ideal.Read.val_main_v4_eq (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)))).trans (funext fun i => ?_), ha⟩
    · rw [(hagree c).1, (hagree c).2]
      exact Cert.Reference4Ideal.product_ref _ _ i
    · rw [(hagree c).1, (hagree c).2]
      exact Cert.Reference4Ideal.square_ref _ _ i

end Cert.Proof
-- ==== Proof.Mlp.EntryFirst.lean ====
/- The call that computes the first four blocks' projections of the input. -/
module

public import proofs.«01_k».proof.Defs
public import proofs.«01_k».proof.Proof.Mlp.Product
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel5Ideal.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference5Ideal

/-- The reference's product, entry by entry. -/
theorem product_ref (x : S4096x2048.Idx → EReal) (w : S2048x9728.Idx → EReal) (i : S4096x9728.Idx) :
    Read.val_main_v1 (F := Ideal) x w i = product x w (i 0) (i 1) := by
  simp only [Read.val_main_v1_apply, Read.val_main_v0_apply]
  exact Finset.sum_congr rfl fun k _ => congrArg₂ (fun a b => x a * w b) (eq_ix2 (Read.lidx_main_v1 i k)) (eq_ix2 (Read.ridx_main_v1 i k))

end Cert.Reference5Ideal

namespace Cert.Kernel5Ideal.Gen

open Cert.Kernel5Ideal

variable (m : (ℓ : Loc nD τ sig) → Buf (Elt Ideal) ℓ) (c : Dev nD)

/-- Where the windows' blocks lie at a point. -/
theorem idx : ∀ t : Fin cfg0.N, win0_0.index t = ![t.val / 19, 0] ∧ win0_1.index t = ![t.val % 19, 0] ∧ win0_2.index t = ![t.val % 19, 0]
    ∧ win0_3.index t = ![t.val % 19, 0] ∧ win0_4.index t = ![t.val % 19, 0] ∧ win0_5.index t = ![t.val / 19, t.val % 19] :=
  (by decide +kernel : ∀ t : Fin grid0.N, _)

/-- The kernel's product, entry by entry. -/
theorem out5 : (dats m 0 c).arrAt 5 cfg0.N = fun i : S4096x9728.Idx => product (m ((c : Thread nD τ).loc main_arg0)) (m ((c : Thread nD τ).loc main_arg1)) (i 0) (i 1) := by
  refine (dats m 0 c).arrAt_eq_of_covers 5 _ (by decide +kernel) fun t hf y => ?_
  blk_simp [idx t]
  rw [after0_5]
  unfold outsAt0 product
  rw [← sum_four]
  frame_out
  pointwise [k0_pay1]
  blk_point [iblk, V, idx t]

end Cert.Kernel5Ideal.Gen

namespace Cert.Proof

/-- The kernel over machine floats has the same bodies and the same table. -/
theorem bodies5 : Cert.Kernel5.defs₀ (F := Bits) = Cert.Kernel5Ideal.defs₀ (F := Bits) :=
  congrArg Defs.onTc (funext fun ℓ => funext fun a => by obtain ⟨k, h⟩ := ℓ; obtain rfl : k = 0 := Nat.lt_one_iff.1 h; rfl)

theorem table5 : Cert.Kernel5.defs (F := Bits) = Cert.Kernel5Ideal.defs (F := Bits) := congrArg (Pipeline.defs Cert.Kernel5.pcfgs) bodies5

/-- So its frame is the same run. -/
theorem frame5 : Cert.quiescent_Kernel5 := fun m g _ => by
  rw [table5]
  exact Cert.Kernel5Ideal.Gen.frame (F := Bits) m g

/-- The reference ends with its arguments as they were and every counter at zero. -/
theorem reference5_frame [Cert.Reference5Ideal.Facts] : Cert.quiescent_Reference5Ideal := fun m g _ =>
  (θ_run _ _ _).mono (fun r h => ⟨fun c => (h c).2, sem_eq_zero_of_no_sems (by decide) r.2⟩) (Cert.Reference5Ideal.Value.run (F := Ideal) m g)

/-- Both programs' results are the same sums of the arguments' entries. -/
theorem values5 : Cert.algebraic_Kernel5Ideal_Reference5Ideal := by
  intro m g m' g' _ hagree
  refine ⟨fun c i => product (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (i 0) (i 1),
    (θ_run _ _ _).mono (fun r h c => ?_) (Cert.Kernel5Ideal.Value.run_blocks (F := Ideal) m g),
    (θ_run _ _ _).mono (fun r h c => ?_) (Cert.Reference5Ideal.Value.run (F := Ideal) m' g')⟩
  · obtain ⟨h0, ha⟩ := h c
    exact ⟨h0.trans (Cert.Kernel5Ideal.Gen.out5 m c), ha⟩
  · obtain ⟨h0, ha⟩ := h c
    refine ⟨(h0.trans (Cert.Reference5Ideal.Read.val_main_v1_eq (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)))).trans (funext fun i => ?_), ha⟩
    rw [(hagree c).1, (hagree c).2]
    exact Cert.Reference5Ideal.product_ref _ _ i

end Cert.Proof
-- ==== Proof.Mlp.EntryFirstWeights.lean ====
/- The call that computes the cotangent of the first projection's weights. -/
module

public import proofs.«01_k».proof.Defs
public import proofs.«01_k».proof.Proof.Mlp.Product
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel6Ideal.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference6Ideal

/-- What the reference computes, entry by entry. -/
theorem downRows_ref (d : S4096x9728.Idx → EReal) (x : S4096x2048.Idx → EReal) (i : S9728x2048.Idx) :
    Read.val_main_v7 (F := Ideal) d x i = downRows d x (i 0) (i 1) := by
  simp only [Read.val_main_v7_apply, Read.val_main_v6_apply, Read.val_main_v5_apply, Read.val_main_v4_apply, Read.val_main_v3_apply, Read.val_main_v1_apply]
  exact Finset.sum_congr rfl fun k _ => congrArg₂ (fun a b => d a * x b)
    (eq_ix2 (Read.lidx_main_v4 (Read.idx_main_v5 (Read.idx_main_v6 i)) k)) (eq_ix2 (Read.ridx_main_v4 (Read.idx_main_v5 (Read.idx_main_v6 i)) k))

end Cert.Reference6Ideal

namespace Cert.Kernel6Ideal.Gen

open Cert.Kernel6Ideal

variable (m : (ℓ : Loc nD τ sig) → Buf (Elt Ideal) ℓ) (c : Dev nD)

/-- Where the windows' blocks lie at a point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- What the first point of a pair leaves in the accumulator. -/
theorem acc_first (t : Fin cfg0.N) (h : t.val % 2 = 0) (j : S512x2048.Idx) :
    (outsAt0 m c t.val t.isLt).2 j = downRows (iblk m c 0 t : S2048x512.Idx → EReal) (iblk m c 1 t : S2048x2048.Idx → EReal) (j 0) (j 1) := by
  rw [outsAt0_A m c t h (by omega)]
  frame_out
  pointwise [k0_pay1, downRows]

/-- What the second point of a pair leaves for the result. -/
theorem out_second (t : Fin cfg0.N) (h : t.val % 2 = 1) (j : S512x2048.Idx) :
    (outsAt0 m c t.val t.isLt).1 j = (outsAt0 m c (t.val - 1) (Nat.lt_of_le_of_lt (Nat.sub_le _ _) t.isLt)).2 j
      + downRows (iblk m c 0 t : S2048x512.Idx → EReal) (iblk m c 1 t : S2048x2048.Idx → EReal) (j 0) (j 1) := by
  rw [outsAt0_B m c t (by omega) h]
  frame_out
  pointwise [k0_pay3, downRows]
  exact congrArg₂ (fun a b : EReal => a + b) (congrFun ((Memref.isWhole_whole cc0_scratch0).read_unread (outsAt0 m c (t.val - 1) (Nat.lt_of_le_of_lt (Nat.sub_le _ _) t.isLt)).2) j) rfl

/-- The kernel's result, entry by entry. -/
theorem out2 : (dats m 0 c).arrAt 2 cfg0.N = fun i : S9728x2048.Idx => downRows (m ((c : Thread nD τ).loc main_arg0)) (m ((c : Thread nD τ).loc main_arg1)) (i 0) (i 1) := by
  refine (dats m 0 c).arrAt_eq_of_covers 2 _ (by decide +kernel) fun t hf y => ?_
  have ht : t.val % 2 = 1 := (flush0_2 t).mp hf
  have i1 := idx t
  have i0 := idx ⟨t.val - 1, Nat.lt_of_le_of_lt (Nat.sub_le _ _) t.isLt⟩
  blk_simp [i1]
  rw [after0_2]
  refine (out_second m c t ht y).trans ?_
  rw [acc_first m c ⟨t.val - 1, Nat.lt_of_le_of_lt (Nat.sub_le _ _) t.isLt⟩ (by show (t.val - 1) % 2 = 0; omega) y]
  unfold downRows
  rw [← sum_two]
  blk_point [iblk, V, i0, i1]

end Cert.Kernel6Ideal.Gen

namespace Cert.Proof

/-- The kernel over machine floats has the same bodies and the same table. -/
theorem bodies6 : Cert.Kernel6.defs₀ (F := Bits) = Cert.Kernel6Ideal.defs₀ (F := Bits) :=
  congrArg Defs.onTc (funext fun ℓ => funext fun a => by obtain ⟨k, h⟩ := ℓ; obtain rfl : k = 0 := Nat.lt_one_iff.1 h; rfl)

theorem table6 : Cert.Kernel6.defs (F := Bits) = Cert.Kernel6Ideal.defs (F := Bits) := congrArg (Pipeline.defs Cert.Kernel6.pcfgs) bodies6

/-- So its frame is the same run. -/
theorem frame6 : Cert.quiescent_Kernel6 := fun m g _ => by
  rw [table6]
  exact Cert.Kernel6Ideal.Gen.frame (F := Bits) m g

/-- The reference ends with its arguments as they were and every counter at zero. -/
theorem reference6_frame [Cert.Reference6Ideal.Facts] : Cert.quiescent_Reference6Ideal := fun m g _ =>
  (θ_run _ _ _).mono (fun r h => ⟨fun c => (h c).2, sem_eq_zero_of_no_sems (by decide) r.2⟩) (Cert.Reference6Ideal.Value.run (F := Ideal) m g)

/-- Both programs' results are the same sums of the arguments' entries. -/
theorem values6 : Cert.algebraic_Kernel6Ideal_Reference6Ideal := by
  intro m g m' g' _ hagree
  refine ⟨fun c i => downRows (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (i 0) (i 1),
    (θ_run _ _ _).mono (fun r h c => ?_) (Cert.Kernel6Ideal.Value.run_blocks (F := Ideal) m g),
    (θ_run _ _ _).mono (fun r h c => ?_) (Cert.Reference6Ideal.Value.run (F := Ideal) m' g')⟩
  · obtain ⟨h0, ha⟩ := h c
    exact ⟨h0.trans (Cert.Kernel6Ideal.Gen.out2 m c), ha⟩
  · obtain ⟨h0, ha⟩ := h c
    refine ⟨(h0.trans (Cert.Reference6Ideal.Read.val_main_v7_eq (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)))).trans (funext fun i => ?_), ha⟩
    rw [(hagree c).1, (hagree c).2]
    exact Cert.Reference6Ideal.downRows_ref _ _ i

end Cert.Proof
-- ==== Proof.Mlp.EntryLast.lean ====
/- The call that computes the last block's projections of the input. -/
module

public import proofs.«01_k».proof.Defs
public import proofs.«01_k».proof.Proof.Mlp.Product
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel7Ideal.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference7Ideal

/-- The reference's product, entry by entry. -/
theorem product_ref (x : S4096x2048.Idx → EReal) (w : S2048x2560.Idx → EReal) (i : S4096x2560.Idx) :
    Read.val_main_v1 (F := Ideal) x w i = product x w (i 0) (i 1) := by
  simp only [Read.val_main_v1_apply, Read.val_main_v0_apply]
  exact Finset.sum_congr rfl fun k _ => congrArg₂ (fun a b => x a * w b) (eq_ix2 (Read.lidx_main_v1 i k)) (eq_ix2 (Read.ridx_main_v1 i k))

end Cert.Reference7Ideal

namespace Cert.Kernel7Ideal.Gen

open Cert.Kernel7Ideal

variable (m : (ℓ : Loc nD τ sig) → Buf (Elt Ideal) ℓ) (c : Dev nD)

/-- Where the windows' blocks lie at a point. -/
theorem idx : ∀ t : Fin cfg0.N, win0_0.index t = ![t.val / 5, 0] ∧ win0_1.index t = ![t.val % 5, 0] ∧ win0_2.index t = ![t.val % 5, 0]
    ∧ win0_3.index t = ![t.val % 5, 0] ∧ win0_4.index t = ![t.val % 5, 0] ∧ win0_5.index t = ![t.val / 5, t.val % 5] :=
  (by decide +kernel : ∀ t : Fin grid0.N, _)

/-- The kernel's product, entry by entry. -/
theorem out5 : (dats m 0 c).arrAt 5 cfg0.N = fun i : S4096x2560.Idx => product (m ((c : Thread nD τ).loc main_arg0)) (m ((c : Thread nD τ).loc main_arg1)) (i 0) (i 1) := by
  refine (dats m 0 c).arrAt_eq_of_covers 5 _ (by decide +kernel) fun t hf y => ?_
  blk_simp [idx t]
  rw [after0_5]
  unfold outsAt0 product
  rw [← sum_four]
  frame_out
  pointwise [k0_pay1]
  blk_point [iblk, V, idx t]

end Cert.Kernel7Ideal.Gen

namespace Cert.Proof

/-- The kernel over machine floats has the same bodies and the same table. -/
theorem bodies7 : Cert.Kernel7.defs₀ (F := Bits) = Cert.Kernel7Ideal.defs₀ (F := Bits) :=
  congrArg Defs.onTc (funext fun ℓ => funext fun a => by obtain ⟨k, h⟩ := ℓ; obtain rfl : k = 0 := Nat.lt_one_iff.1 h; rfl)

theorem table7 : Cert.Kernel7.defs (F := Bits) = Cert.Kernel7Ideal.defs (F := Bits) := congrArg (Pipeline.defs Cert.Kernel7.pcfgs) bodies7

/-- So its frame is the same run. -/
theorem frame7 : Cert.quiescent_Kernel7 := fun m g _ => by
  rw [table7]
  exact Cert.Kernel7Ideal.Gen.frame (F := Bits) m g

/-- The reference ends with its arguments as they were and every counter at zero. -/
theorem reference7_frame [Cert.Reference7Ideal.Facts] : Cert.quiescent_Reference7Ideal := fun m g _ =>
  (θ_run _ _ _).mono (fun r h => ⟨fun c => (h c).2, sem_eq_zero_of_no_sems (by decide) r.2⟩) (Cert.Reference7Ideal.Value.run (F := Ideal) m g)

/-- Both programs' results are the same sums of the arguments' entries. -/
theorem values7 : Cert.algebraic_Kernel7Ideal_Reference7Ideal := by
  intro m g m' g' _ hagree
  refine ⟨fun c i => product (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (i 0) (i 1),
    (θ_run _ _ _).mono (fun r h c => ?_) (Cert.Kernel7Ideal.Value.run_blocks (F := Ideal) m g),
    (θ_run _ _ _).mono (fun r h c => ?_) (Cert.Reference7Ideal.Value.run (F := Ideal) m' g')⟩
  · obtain ⟨h0, ha⟩ := h c
    exact ⟨h0.trans (Cert.Kernel7Ideal.Gen.out5 m c), ha⟩
  · obtain ⟨h0, ha⟩ := h c
    refine ⟨(h0.trans (Cert.Reference7Ideal.Read.val_main_v1_eq (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)))).trans (funext fun i => ?_), ha⟩
    rw [(hagree c).1, (hagree c).2]
    exact Cert.Reference7Ideal.product_ref _ _ i

end Cert.Proof
-- ==== Proof.Mlp.EntryLastWeights.lean ====
/- The call that computes the cotangent of the last projection's weights. -/
module

public import proofs.«01_k».proof.Defs
public import proofs.«01_k».proof.Proof.Mlp.Product
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel8Ideal.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference8Ideal

/-- What the reference computes, entry by entry. -/
theorem downRows_ref (d : S4096x2560.Idx → EReal) (x : S4096x2048.Idx → EReal) (i : S2560x2048.Idx) :
    Read.val_main_v7 (F := Ideal) d x i = downRows d x (i 0) (i 1) := by
  simp only [Read.val_main_v7_apply, Read.val_main_v6_apply, Read.val_main_v5_apply, Read.val_main_v4_apply, Read.val_main_v3_apply, Read.val_main_v1_apply]
  exact Finset.sum_congr rfl fun k _ => congrArg₂ (fun a b => d a * x b)
    (eq_ix2 (Read.lidx_main_v4 (Read.idx_main_v5 (Read.idx_main_v6 i)) k)) (eq_ix2 (Read.ridx_main_v4 (Read.idx_main_v5 (Read.idx_main_v6 i)) k))

end Cert.Reference8Ideal

namespace Cert.Kernel8Ideal.Gen

open Cert.Kernel8Ideal

variable (m : (ℓ : Loc nD τ sig) → Buf (Elt Ideal) ℓ) (c : Dev nD)

/-- Where the windows' blocks lie at a point. -/
theorem idx : ∀ t : Fin cfg0.N, win0_0.index t = ![t.val % 2, t.val / 2] ∧ win0_1.index t = ![t.val % 2, 0] ∧ win0_2.index t = ![t.val / 2, 0] :=
  (by decide +kernel : ∀ t : Fin grid0.N, _)

/-- What the first point of a pair leaves in the accumulator. -/
theorem acc_first (t : Fin cfg0.N) (h : t.val % 2 = 0) (j : S640x2048.Idx) :
    (outsAt0 m c t.val t.isLt).2 j = downRows (iblk m c 0 t : S2048x640.Idx → EReal) (iblk m c 1 t : S2048x2048.Idx → EReal) (j 0) (j 1) := by
  rw [outsAt0_A m c t h (by omega)]
  frame_out
  pointwise [k0_pay1, downRows]

/-- What the second point of a pair leaves for the result. -/
theorem out_second (t : Fin cfg0.N) (h : t.val % 2 = 1) (j : S640x2048.Idx) :
    (outsAt0 m c t.val t.isLt).1 j = (outsAt0 m c (t.val - 1) (Nat.lt_of_le_of_lt (Nat.sub_le _ _) t.isLt)).2 j
      + downRows (iblk m c 0 t : S2048x640.Idx → EReal) (iblk m c 1 t : S2048x2048.Idx → EReal) (j 0) (j 1) := by
  rw [outsAt0_B m c t (by omega) h]
  frame_out
  pointwise [k0_pay3, downRows]
  exact congrArg₂ (fun a b : EReal => a + b) (congrFun ((Memref.isWhole_whole cc0_scratch0).read_unread (outsAt0 m c (t.val - 1) (Nat.lt_of_le_of_lt (Nat.sub_le _ _) t.isLt)).2) j) rfl

/-- The kernel's result, entry by entry. -/
theorem out2 : (dats m 0 c).arrAt 2 cfg0.N = fun i : S2560x2048.Idx => downRows (m ((c : Thread nD τ).loc main_arg0)) (m ((c : Thread nD τ).loc main_arg1)) (i 0) (i 1) := by
  refine (dats m 0 c).arrAt_eq_of_covers 2 _ (by decide +kernel) fun t hf y => ?_
  have ht : t.val % 2 = 1 := (flush0_2 t).mp hf
  have i1 := idx t
  have i0 := idx ⟨t.val - 1, Nat.lt_of_le_of_lt (Nat.sub_le _ _) t.isLt⟩
  blk_simp [i1]
  rw [after0_2]
  refine (out_second m c t ht y).trans ?_
  rw [acc_first m c ⟨t.val - 1, Nat.lt_of_le_of_lt (Nat.sub_le _ _) t.isLt⟩ (by show (t.val - 1) % 2 = 0; omega) y]
  unfold downRows
  rw [← sum_two]
  blk_point [iblk, V, i0, i1]

end Cert.Kernel8Ideal.Gen

namespace Cert.Proof

/-- The kernel over machine floats has the same bodies and the same table. -/
theorem bodies8 : Cert.Kernel8.defs₀ (F := Bits) = Cert.Kernel8Ideal.defs₀ (F := Bits) :=
  congrArg Defs.onTc (funext fun ℓ => funext fun a => by obtain ⟨k, h⟩ := ℓ; obtain rfl : k = 0 := Nat.lt_one_iff.1 h; rfl)

theorem table8 : Cert.Kernel8.defs (F := Bits) = Cert.Kernel8Ideal.defs (F := Bits) := congrArg (Pipeline.defs Cert.Kernel8.pcfgs) bodies8

/-- So its frame is the same run. -/
theorem frame8 : Cert.quiescent_Kernel8 := fun m g _ => by
  rw [table8]
  exact Cert.Kernel8Ideal.Gen.frame (F := Bits) m g

/-- The reference ends with its arguments as they were and every counter at zero. -/
theorem reference8_frame [Cert.Reference8Ideal.Facts] : Cert.quiescent_Reference8Ideal := fun m g _ =>
  (θ_run _ _ _).mono (fun r h => ⟨fun c => (h c).2, sem_eq_zero_of_no_sems (by decide) r.2⟩) (Cert.Reference8Ideal.Value.run (F := Ideal) m g)

/-- Both programs' results are the same sums of the arguments' entries. -/
theorem values8 : Cert.algebraic_Kernel8Ideal_Reference8Ideal := by
  intro m g m' g' _ hagree
  refine ⟨fun c i => downRows (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (i 0) (i 1),
    (θ_run _ _ _).mono (fun r h c => ?_) (Cert.Kernel8Ideal.Value.run_blocks (F := Ideal) m g),
    (θ_run _ _ _).mono (fun r h c => ?_) (Cert.Reference8Ideal.Value.run (F := Ideal) m' g')⟩
  · obtain ⟨h0, ha⟩ := h c
    exact ⟨h0.trans (Cert.Kernel8Ideal.Gen.out2 m c), ha⟩
  · obtain ⟨h0, ha⟩ := h c
    refine ⟨(h0.trans (Cert.Reference8Ideal.Read.val_main_v7_eq (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)))).trans (funext fun i => ?_), ha⟩
    rw [(hagree c).1, (hagree c).2]
    exact Cert.Reference8Ideal.downRows_ref _ _ i

end Cert.Proof
-- ==== Proof.Mlp.EntryLastInput.lean ====
/- The call that computes the last block's share of the cotangent of the input, through its projection. -/
module

public import proofs.«01_k».proof.Defs
public import proofs.«01_k».proof.Proof.Mlp.Product
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel9Ideal.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference9Ideal

/-- What the reference computes, entry by entry. -/
theorem joined_ref (d : S4096x2560.Idx → EReal) (w : S2048x2560.Idx → EReal) (res : S4096x2048.Idx → EReal) (i : S4096x2048.Idx) :
    Read.val_main_v8 (F := Ideal) d w res i = joined d w res (i 0) (i 1) := by
  simp only [Read.val_main_v8_apply, Read.val_main_v7_apply, Read.val_main_v6_apply, Read.val_main_cst_1_apply, Read.val_main_v5_apply, Read.val_main_v4_apply]
  refine congrArg₂ (fun a b : EReal => a + b) (Finset.sum_congr rfl fun k _ => ?_) (congrArg (fun a => alpha * res a) (eq_ix2 i))
  exact congrArg₂ (fun a b => d a * w b) (eq_ix2 (Read.lidx_main_v5 i k)) (eq_ix2 (Read.ridx_main_v5 i k))

end Cert.Reference9Ideal

namespace Cert.Kernel9Ideal.Gen

open Cert.Kernel9Ideal

variable (m : (ℓ : Loc nD τ sig) → Buf (Elt Ideal) ℓ) (c : Dev nD)

/-- Where the blocks of the rows, the residual and the result lie at a point. -/
theorem idx : ∀ t : Fin cfg0.N, win0_0.index t = ![t.val / 4, 0] ∧ win0_5.index t = ![t.val / 4, t.val % 4]
    ∧ win0_6.index t = ![t.val / 4, t.val % 4] :=
  (by decide +kernel : ∀ t : Fin grid0.N, _)

/-- Where the block of the weight piece in use lies at a point: each piece serves one block of columns. -/
theorem idxPiece : ∀ t : Fin cfg0.N, (t.val % 4 = 0 → win0_1.index t = ![0, 0]) ∧ (t.val % 4 = 1 → win0_2.index t = ![0, 0])
    ∧ (t.val % 4 = 2 → win0_3.index t = ![0, 0]) ∧ (t.val % 4 = 3 → win0_4.index t = ![0, 0]) :=
  (by decide +kernel : ∀ t : Fin grid0.N, _)

/-- The kernel's result, entry by entry. -/
theorem out6 : (dats m 0 c).arrAt 6 cfg0.N = fun i : S4096x2048.Idx => joined (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  have j := idx t
  have hp : t.val % 4 = 0 ∨ t.val % 4 = 1 ∨ t.val % 4 = 2 ∨ t.val % 4 = 3 := by omega
  blk_simp [j]
  rw [after0_6]
  unfold joined alongRows alpha
  rcases hp with hp | hp | hp | hp
  · have p := (idxPiece t).1 hp
    rw [outsAt0_A m c t (by omega) (by omega) (by omega) (by omega)]
    frame_out
    pointwise [k0_pay1]
    blk_point [iblk, V, j, p]
  · have p := (idxPiece t).2.1 hp
    rw [outsAt0_B m c t (by omega) (by omega) (by omega) (by omega)]
    frame_out
    pointwise [k0_pay2]
    blk_point [iblk, V, j, p]
  · have p := (idxPiece t).2.2.1 hp
    rw [outsAt0_C m c t (by omega) (by omega) (by omega) (by omega)]
    frame_out
    pointwise [k0_pay3]
    blk_point [iblk, V, j, p]
  · have p := (idxPiece t).2.2.2 hp
    rw [outsAt0_D m c t (by omega) (by omega) (by omega) (by omega)]
    frame_out
    pointwise [k0_pay4]
    blk_point [iblk, V, j, p]

end Cert.Kernel9Ideal.Gen

namespace Cert.Proof

/-- The kernel over machine floats has the same bodies and the same table. -/
theorem bodies9 : Cert.Kernel9.defs₀ (F := Bits) = Cert.Kernel9Ideal.defs₀ (F := Bits) :=
  congrArg Defs.onTc (funext fun ℓ => funext fun a => by obtain ⟨k, h⟩ := ℓ; obtain rfl : k = 0 := Nat.lt_one_iff.1 h; rfl)

theorem table9 : Cert.Kernel9.defs (F := Bits) = Cert.Kernel9Ideal.defs (F := Bits) := congrArg (Pipeline.defs Cert.Kernel9.pcfgs) bodies9

/-- So its frame is the same run. -/
theorem frame9 : Cert.quiescent_Kernel9 := fun m g _ => by
  rw [table9]
  exact Cert.Kernel9Ideal.Gen.frame (F := Bits) m g

/-- The reference ends with its arguments as they were and every counter at zero. -/
theorem reference9_frame [Cert.Reference9Ideal.Facts] : Cert.quiescent_Reference9Ideal := fun m g _ =>
  (θ_run _ _ _).mono (fun r h => ⟨fun c => (h c).2, sem_eq_zero_of_no_sems (by decide) r.2⟩) (Cert.Reference9Ideal.Value.run (F := Ideal) m g)

/-- Both programs' results are the same sums of the arguments' entries. -/
theorem values9 : Cert.algebraic_Kernel9Ideal_Reference9Ideal := by
  intro m g m' g' _ hagree
  refine ⟨fun c i => joined (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (i 0) (i 1),
    (θ_run _ _ _).mono (fun r h c => ?_) (Cert.Kernel9Ideal.Value.run_blocks (F := Ideal) m g),
    (θ_run _ _ _).mono (fun r h c => ?_) (Cert.Reference9Ideal.Value.run (F := Ideal) m' g')⟩
  · obtain ⟨h0, ha⟩ := h c
    exact ⟨h0.trans (Cert.Kernel9Ideal.Gen.out6 m c), ha⟩
  · obtain ⟨h0, ha⟩ := h c
    refine ⟨(h0.trans (Cert.Reference9Ideal.Read.val_main_v8_eq (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)))).trans (funext fun i => ?_), ha⟩
    rw [(hagree c).1, (hagree c).2.1, (hagree c).2.2]
    exact Cert.Reference9Ideal.joined_ref _ _ _ i

end Cert.Proof
-- ==== Proof.Mlp.ExitInput.lean ====
/- The call that computes the cotangent of the mixed rows, through the output projection. -/
module

public import proofs.«01_k».proof.Defs
public import proofs.«01_k».proof.Proof.Mlp.Product
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel10Ideal.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference10Ideal

/-- What the reference computes, entry by entry. -/
theorem alongRows_ref (d : S4096x2048.Idx → EReal) (w : S1536x2048.Idx → EReal) (i : S4096x1536.Idx) :
    Read.val_main_v3 (F := Ideal) d w i = alongRows d w (i 0) (i 1) := by
  simp only [Read.val_main_v3_apply, Read.val_main_v2_apply]
  exact Finset.sum_congr rfl fun k _ => congrArg₂ (fun a b => d a * w b) (eq_ix2 (Read.lidx_main_v3 i k)) (eq_ix2 (Read.ridx_main_v3 i k))

end Cert.Reference10Ideal

namespace Cert.Kernel10Ideal.Gen

open Cert.Kernel10Ideal

variable (m : (ℓ : Loc nD τ sig) → Buf (Elt Ideal) ℓ) (c : Dev nD)

/-- Where the windows' blocks lie at a point. -/
theorem idx : ∀ t : Fin cfg0.N, win0_0.index t = ![t.val / 3, 0] ∧ win0_1.index t = ![0, t.val % 3] ∧ win0_2.index t = ![t.val / 3, t.val % 3] :=
  (by decide +kernel : ∀ t : Fin grid0.N, _)

/-- The kernel's result, entry by entry. -/
theorem out2 : (dats m 0 c).arrAt 2 cfg0.N = fun i : S4096x1536.Idx => alongRows (m ((c : Thread nD τ).loc main_arg0)) (m ((c : Thread nD τ).loc main_arg1)) (i 0) (i 1) := by
  refine (dats m 0 c).arrAt_eq_of_covers 2 _ (by decide +kernel) fun t hf y => ?_
  blk_simp [idx t]
  rw [after0_2]
  unfold outsAt0 alongRows
  frame_out
  pointwise [k0_pay1]
  blk_point [iblk, V, idx t]

end Cert.Kernel10Ideal.Gen

namespace Cert.Proof

/-- The kernel over machine floats has the same bodies and the same table. -/
theorem bodies10 : Cert.Kernel10.defs₀ (F := Bits) = Cert.Kernel10Ideal.defs₀ (F := Bits) :=
  congrArg Defs.onTc (funext fun ℓ => funext fun a => by obtain ⟨k, h⟩ := ℓ; obtain rfl : k = 0 := Nat.lt_one_iff.1 h; rfl)

theorem table10 : Cert.Kernel10.defs (F := Bits) = Cert.Kernel10Ideal.defs (F := Bits) := congrArg (Pipeline.defs Cert.Kernel10.pcfgs) bodies10

/-- So its frame is the same run. -/
theorem frame10 : Cert.quiescent_Kernel10 := fun m g _ => by
  rw [table10]
  exact Cert.Kernel10Ideal.Gen.frame (F := Bits) m g

/-- The reference ends with its arguments as they were and every counter at zero. -/
theorem reference10_frame [Cert.Reference10Ideal.Facts] : Cert.quiescent_Reference10Ideal := fun m g _ =>
  (θ_run _ _ _).mono (fun r h => ⟨fun c => (h c).2, sem_eq_zero_of_no_sems (by decide) r.2⟩) (Cert.Reference10Ideal.Value.run (F := Ideal) m g)

/-- Both programs' results are the same sums of the arguments' entries. -/
theorem values10 : Cert.algebraic_Kernel10Ideal_Reference10Ideal := by
  intro m g m' g' _ hagree
  refine ⟨fun c i => alongRows (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (i 0) (i 1),
    (θ_run _ _ _).mono (fun r h c => ?_) (Cert.Kernel10Ideal.Value.run_blocks (F := Ideal) m g),
    (θ_run _ _ _).mono (fun r h c => ?_) (Cert.Reference10Ideal.Value.run (F := Ideal) m' g')⟩
  · obtain ⟨h0, ha⟩ := h c
    exact ⟨h0.trans (Cert.Kernel10Ideal.Gen.out2 m c), ha⟩
  · obtain ⟨h0, ha⟩ := h c
    refine ⟨(h0.trans (Cert.Reference10Ideal.Read.val_main_v3_eq (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)))).trans (funext fun i => ?_), ha⟩
    rw [(hagree c).1, (hagree c).2]
    exact Cert.Reference10Ideal.alongRows_ref _ _ i

end Cert.Proof
-- ==== Proof.Mlp.ExitWeights.lean ====
/- The call that computes the cotangent of the output projection's weights. -/
module

public import proofs.«01_k».proof.Defs
public import proofs.«01_k».proof.Proof.Mlp.Product
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel11Ideal.Value
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference11Ideal

/-- What the reference computes, entry by entry. -/
theorem downRows_ref (d : S4096x2048.Idx → EReal) (x : S4096x1536.Idx → EReal) (i : S2048x1536.Idx) :
    Read.val_main_v7 (F := Ideal) d x i = downRows d x (i 0) (i 1) := by
  simp only [Read.val_main_v7_apply, Read.val_main_v6_apply, Read.val_main_v5_apply, Read.val_main_v4_apply, Read.val_main_v3_apply, Read.val_main_v1_apply]
  exact Finset.sum_congr rfl fun k _ => congrArg₂ (fun a b => d a * x b)
    (eq_ix2 (Read.lidx_main_v4 (Read.idx_main_v5 (Read.idx_main_v6 i)) k)) (eq_ix2 (Read.ridx_main_v4 (Read.idx_main_v5 (Read.idx_main_v6 i)) k))

end Cert.Reference11Ideal

namespace Cert.Kernel11Ideal.Gen

open Cert.Kernel11Ideal

variable (m : (ℓ : Loc nD τ sig) → Buf (Elt Ideal) ℓ) (c : Dev nD)

/-- Where the windows' blocks lie at a point. -/
theorem idx : ∀ t : Fin cfg0.N, win0_0.index t = ![t.val % 2, t.val / 4] ∧ win0_1.index t = ![t.val % 2, t.val / 2 % 2] ∧ win0_2.index t = ![t.val / 4, t.val / 2 % 2] :=
  (by decide +kernel : ∀ t : Fin grid0.N, _)

/-- What the first point of a pair leaves in the accumulator. -/
theorem acc_first (t : Fin cfg0.N) (h : t.val % 2 = 0) (j : S1024x768.Idx) :
    (outsAt0 m c t.val t.isLt).2 j = downRows (iblk m c 0 t : S2048x1024.Idx → EReal) (iblk m c 1 t : S2048x768.Idx → EReal) (j 0) (j 1) := by
  rw [outsAt0_A m c t h (by omega)]
  frame_out
  pointwise [k0_pay1, downRows]

/-- What the second point of a pair leaves for the result. -/
theorem out_second (t : Fin cfg0.N) (h : t.val % 2 = 1) (j : S1024x768.Idx) :
    (outsAt0 m c t.val t.isLt).1 j = (outsAt0 m c (t.val - 1) (Nat.lt_of_le_of_lt (Nat.sub_le _ _) t.isLt)).2 j
      + downRows (iblk m c 0 t : S2048x1024.Idx → EReal) (iblk m c 1 t : S2048x768.Idx → EReal) (j 0) (j 1) := by
  rw [outsAt0_B m c t (by omega) h]
  frame_out
  pointwise [k0_pay3, downRows]
  exact congrArg₂ (fun a b : EReal => a + b) (congrFun ((Memref.isWhole_whole cc0_scratch0).read_unread (outsAt0 m c (t.val - 1) (Nat.lt_of_le_of_lt (Nat.sub_le _ _) t.isLt)).2) j) rfl

/-- The kernel's result, entry by entry. -/
theorem out2 : (dats m 0 c).arrAt 2 cfg0.N = fun i : S2048x1536.Idx => downRows (m ((c : Thread nD τ).loc main_arg0)) (m ((c : Thread nD τ).loc main_arg1)) (i 0) (i 1) := by
  refine (dats m 0 c).arrAt_eq_of_covers 2 _ (by decide +kernel) fun t hf y => ?_
  have ht : t.val % 2 = 1 := (flush0_2 t).mp hf
  have i1 := idx t
  have i0 := idx ⟨t.val - 1, Nat.lt_of_le_of_lt (Nat.sub_le _ _) t.isLt⟩
  blk_simp [i1]
  rw [after0_2]
  refine (out_second m c t ht y).trans ?_
  rw [acc_first m c ⟨t.val - 1, Nat.lt_of_le_of_lt (Nat.sub_le _ _) t.isLt⟩ (by show (t.val - 1) % 2 = 0; omega) y]
  unfold downRows
  rw [← sum_two]
  blk_point [iblk, V, i0, i1]

end Cert.Kernel11Ideal.Gen

namespace Cert.Proof

/-- The kernel over machine floats has the same bodies and the same table. -/
theorem bodies11 : Cert.Kernel11.defs₀ (F := Bits) = Cert.Kernel11Ideal.defs₀ (F := Bits) :=
  congrArg Defs.onTc (funext fun ℓ => funext fun a => by obtain ⟨k, h⟩ := ℓ; obtain rfl : k = 0 := Nat.lt_one_iff.1 h; rfl)

theorem table11 : Cert.Kernel11.defs (F := Bits) = Cert.Kernel11Ideal.defs (F := Bits) := congrArg (Pipeline.defs Cert.Kernel11.pcfgs) bodies11

/-- So its frame is the same run. -/
theorem frame11 : Cert.quiescent_Kernel11 := fun m g _ => by
  rw [table11]
  exact Cert.Kernel11Ideal.Gen.frame (F := Bits) m g

/-- The reference ends with its arguments as they were and every counter at zero. -/
theorem reference11_frame [Cert.Reference11Ideal.Facts] : Cert.quiescent_Reference11Ideal := fun m g _ =>
  (θ_run _ _ _).mono (fun r h => ⟨fun c => (h c).2, sem_eq_zero_of_no_sems (by decide) r.2⟩) (Cert.Reference11Ideal.Value.run (F := Ideal) m g)

/-- Both programs' results are the same sums of the arguments' entries. -/
theorem values11 : Cert.algebraic_Kernel11Ideal_Reference11Ideal := by
  intro m g m' g' _ hagree
  refine ⟨fun c i => downRows (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (i 0) (i 1),
    (θ_run _ _ _).mono (fun r h c => ?_) (Cert.Kernel11Ideal.Value.run_blocks (F := Ideal) m g),
    (θ_run _ _ _).mono (fun r h c => ?_) (Cert.Reference11Ideal.Value.run (F := Ideal) m' g')⟩
  · obtain ⟨h0, ha⟩ := h c
    exact ⟨h0.trans (Cert.Kernel11Ideal.Gen.out2 m c), ha⟩
  · obtain ⟨h0, ha⟩ := h c
    refine ⟨(h0.trans (Cert.Reference11Ideal.Read.val_main_v7_eq (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)))).trans (funext fun i => ?_), ha⟩
    rw [(hagree c).1, (hagree c).2]
    exact Cert.Reference11Ideal.downRows_ref _ _ i

end Cert.Proof
-- ==== Proof.Mlp.InputRun.lean ====
/- The run of the call that computes the cotangent of the first layer's input: what each point leaves, the body at a point, the launch. -/
module

public import proofs.«01_k».proof.Proof.Gen.Kernel12Ideal.Frame.RunL
public import Idealize.ShloMosaic.Lib.Claim
public import Idealize.ShloMosaic.Lib.Pipeline.ValueKit

@[expose] public section

set_option maxRecDepth 16384

noncomputable section

namespace Cert.Kernel12Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What a point leaves -/

/-- The block of the weight in use at a point: of the piece that holds the point's columns. -/
def used (t : Fin cfg0.N) : Vec F S2048x512 .bf16 :=
  if t.val / 4 % 4 = 0 then iblk m c 1 t else if t.val / 4 % 4 = 1 then iblk m c 2 t else if t.val / 4 % 4 = 2 then iblk m c 3 t else iblk m c 4 t

/-- What the point leaves for the result and in the accumulator, which it found at `xs`: the first of four points stores its
    product, the next two add theirs, the last hands the sum over. -/
def step (t : Fin cfg0.N) (xs : Vec F S1024x512 .f32) : Vec F S1024x512 .f32 × Vec F S1024x512 .f32 :=
  if t.val % 4 = 0 then (VO0_6.read (Elt F) VO0_6.junk, k0_pay1 (iblk m c 0 t) (used m c t))
  else if t.val % 4 = 3 then (k0_pay3 xs (iblk m c 0 t) (used m c t) (iblk m c 5 t), xs)
  else (VO0_6.read (Elt F) VO0_6.junk, k0_pay2 xs (iblk m c 0 t) (used m c t))

/-- The same from the first point on. -/
def outsAt0 : (n : ℕ) → n < cfg0.N → Vec F S1024x512 .f32 × Vec F S1024x512 .f32
  | 0, h => step m c ⟨0, h⟩ (VS0_0.read (Elt F) VS0_0.junk)
  | n + 1, h => step m c ⟨n + 1, h⟩ (outsAt0 n (Nat.lt_of_succ_lt h)).2

/-- The accumulator as the point before left it. -/
def prev (t : Fin cfg0.N) : Vec F S1024x512 .f32 := (outsAt0 m c (t.val - 1) (Nat.lt_of_le_of_lt (Nat.sub_le _ _) t.isLt)).2

theorem outsAt0_pos (t : Fin cfg0.N) (h : t.val ≠ 0) : outsAt0 m c t.val t.isLt = step m c t (prev m c t) := by
  obtain ⟨n, hn⟩ := t
  cases n with
  | zero => exact absurd rfl h
  | succ n => rfl

theorem at_first (t : Fin cfg0.N) (h : t.val % 4 = 0) : (outsAt0 m c t.val t.isLt).2 = k0_pay1 (iblk m c 0 t) (used m c t) := by
  obtain ⟨n, hn⟩ := t
  cases n <;> (unfold outsAt0 step; rw [if_pos h])

theorem at_middle (t : Fin cfg0.N) (h : t.val % 4 = 1 ∨ t.val % 4 = 2) :
    (outsAt0 m c t.val t.isLt).2 = k0_pay2 (prev m c t) (iblk m c 0 t) (used m c t) := by
  rw [outsAt0_pos m c t (by omega), step, if_neg (by omega), if_neg (by omega)]

theorem at_last (t : Fin cfg0.N) (h : t.val % 4 = 3) :
    outsAt0 m c t.val t.isLt = (k0_pay3 (prev m c t) (iblk m c 0 t) (used m c t) (iblk m c 5 t), prev m c t) := by
  rw [outsAt0_pos m c t (by omega), step, if_neg (by omega), if_pos h]

/-! ## The body's runs at the points they are met at -/

theorem metA : ∀ t : Fin cfg0.N, t.val % 16 = 0 → conds0_A (grid0.coords t) :=
  (by decide +kernel : ∀ t : Fin grid0.N, t.val % 16 = 0 → conds0_A (grid0.coords t))

/-- The run at a point of case A. -/
abbrev runA (t : Fin cfg0.N) (h : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metA t h).1 (metA t h).2.1 (metA t h).2.2.1 (metA t h).2.2.2.1 (metA t h).2.2.2.2.1 (metA t h).2.2.2.2.2.1 (metA t h).2.2.2.2.2.2.1 (metA t h).2.2.2.2.2.2.2.1 (metA t h).2.2.2.2.2.2.2.2.1 (metA t h).2.2.2.2.2.2.2.2.2.1 (metA t h).2.2.2.2.2.2.2.2.2.2.1 (metA t h).2.2.2.2.2.2.2.2.2.2.2
    (iblk m c 0 t) (iblk m c 1 t) (iblk m c 2 t) (iblk m c 3 t) (iblk m c 4 t) (iblk m c 5 t)

theorem leavesA (t : Fin cfg0.N) (h : t.val % 16 = 0) :
    VS0_0.read (Elt F) (VS0_0.writes (Elt F) VS0_0.junk (runA m c t h).2.1) = k0_pay1 (iblk m c 0 t) (used m c t) := by
  rw [used, if_pos (by omega)]
  unfold runA
  frame_out
  rfl

theorem metB : ∀ t : Fin cfg0.N, (t.val % 16 = 1 ∨ t.val % 16 = 2) → conds0_B (grid0.coords t) :=
  (by decide +kernel : ∀ t : Fin grid0.N, (t.val % 16 = 1 ∨ t.val % 16 = 2) → conds0_B (grid0.coords t))

/-- The run at a point of case B. -/
abbrev runB (t : Fin cfg0.N) (h : t.val % 16 = 1 ∨ t.val % 16 = 2) (xs : Vec F S1024x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metB t h).1 (metB t h).2.1 (metB t h).2.2.1 (metB t h).2.2.2.1 (metB t h).2.2.2.2.1 (metB t h).2.2.2.2.2.1 (metB t h).2.2.2.2.2.2.1 (metB t h).2.2.2.2.2.2.2.1 (metB t h).2.2.2.2.2.2.2.2.1 (metB t h).2.2.2.2.2.2.2.2.2.1 (metB t h).2.2.2.2.2.2.2.2.2.2.1 (metB t h).2.2.2.2.2.2.2.2.2.2.2
    (iblk m c 0 t) (iblk m c 1 t) (iblk m c 2 t) (iblk m c 3 t) (iblk m c 4 t) (iblk m c 5 t) xs

theorem leavesB (t : Fin cfg0.N) (h : t.val % 16 = 1 ∨ t.val % 16 = 2) (xs : Vec F S1024x512 .f32) :
    VS0_0.read (Elt F) (VS0_0.writes (Elt F) VS0_0.junk (runB m c t h xs).2.1) = k0_pay2 xs (iblk m c 0 t) (used m c t) := by
  rw [used, if_pos (by omega)]
  unfold runB
  frame_out
  exact congrArg (fun a => k0_pay2 a (iblk m c 0 t) (iblk m c 1 t)) ((Memref.isWhole_whole cc0_scratch0).read_unread xs)

theorem metC : ∀ t : Fin cfg0.N, t.val % 16 = 3 → conds0_C (grid0.coords t) :=
  (by decide +kernel : ∀ t : Fin grid0.N, t.val % 16 = 3 → conds0_C (grid0.coords t))

/-- The run at a point of case C. -/
abbrev runC (t : Fin cfg0.N) (h : t.val % 16 = 3) (xs : Vec F S1024x512 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metC t h).1 (metC t h).2.1 (metC t h).2.2.1 (metC t h).2.2.2.1 (metC t h).2.2.2.2.1 (metC t h).2.2.2.2.2.1 (metC t h).2.2.2.2.2.2.1 (metC t h).2.2.2.2.2.2.2.1 (metC t h).2.2.2.2.2.2.2.2.1 (metC t h).2.2.2.2.2.2.2.2.2.1 (metC t h).2.2.2.2.2.2.2.2.2.2.1 (metC t h).2.2.2.2.2.2.2.2.2.2.2
    (iblk m c 0 t) (iblk m c 1 t) (iblk m c 2 t) (iblk m c 3 t) (iblk m c 4 t) (iblk m c 5 t) xs

theorem leavesC (t : Fin cfg0.N) (h : t.val % 16 = 3) (xs : Vec F S1024x512 .f32) :
    VO0_6.read (Elt F) (VO0_6.writes (Elt F) VO0_6.junk (runC m c t h xs).1) = k0_pay3 xs (iblk m c 0 t) (used m c t) (iblk m c 5 t) := by
  rw [used, if_pos (by omega)]
  unfold runC
  frame_out
  exact congrArg (fun a => k0_pay3 a (iblk m c 0 t) (iblk m c 1 t) (iblk m c 5 t)) ((Memref.isWhole_whole cc0_scratch0).read_unread xs)

theorem metD : ∀ t : Fin cfg0.N, t.val % 16 = 4 → conds0_D (grid0.coords t) :=
  (by decide +kernel : ∀ t : Fin grid0.N, t.val % 16 = 4 → conds0_D (grid0.coords t))

/-- The run at a point of case D. -/
abbrev runD (t : Fin cfg0.N) (h : t.val % 16 = 4) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metD t h).1 (metD t h).2.1 (metD t h).2.2.1 (metD t h).2.2.2.1 (metD t h).2.2.2.2.1 (metD t h).2.2.2.2.2.1 (metD t h).2.2.2.2.2.2.1 (metD t h).2.2.2.2.2.2.2.1 (metD t h).2.2.2.2.2.2.2.2.1 (metD t h).2.2.2.2.2.2.2.2.2.1 (metD t h).2.2.2.2.2.2.2.2.2.2.1 (metD t h).2.2.2.2.2.2.2.2.2.2.2
    (iblk m c 0 t) (iblk m c 1 t) (iblk m c 2 t) (iblk m c 3 t) (iblk m c 4 t) (iblk m c 5 t)

theorem leavesD (t : Fin cfg0.N) (h : t.val % 16 = 4) :
    VS0_0.read (Elt F) (VS0_0.writes (Elt F) VS0_0.junk (runD m c t h).2.1) = k0_pay1 (iblk m c 0 t) (used m c t) := by
  rw [used, if_neg (by omega), if_pos (by omega)]
  unfold runD
  frame_out
  rfl

theorem metE : ∀ t : Fin cfg0.N, (t.val % 16 = 5 ∨ t.val % 16 = 6) → conds0_E (grid0.coords t) :=
  (by decide +kernel : ∀ t : Fin grid0.N, (t.val % 16 = 5 ∨ t.val % 16 = 6) → conds0_E (grid0.coords t))

/-- The run at a point of case E. -/
abbrev runE (t : Fin cfg0.N) (h : t.val % 16 = 5 ∨ t.val % 16 = 6) (xs : Vec F S1024x512 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metE t h).1 (metE t h).2.1 (metE t h).2.2.1 (metE t h).2.2.2.1 (metE t h).2.2.2.2.1 (metE t h).2.2.2.2.2.1 (metE t h).2.2.2.2.2.2.1 (metE t h).2.2.2.2.2.2.2.1 (metE t h).2.2.2.2.2.2.2.2.1 (metE t h).2.2.2.2.2.2.2.2.2.1 (metE t h).2.2.2.2.2.2.2.2.2.2.1 (metE t h).2.2.2.2.2.2.2.2.2.2.2
    (iblk m c 0 t) (iblk m c 1 t) (iblk m c 2 t) (iblk m c 3 t) (iblk m c 4 t) (iblk m c 5 t) xs

theorem leavesE (t : Fin cfg0.N) (h : t.val % 16 = 5 ∨ t.val % 16 = 6) (xs : Vec F S1024x512 .f32) :
    VS0_0.read (Elt F) (VS0_0.writes (Elt F) VS0_0.junk (runE m c t h xs).2.1) = k0_pay2 xs (iblk m c 0 t) (used m c t) := by
  rw [used, if_neg (by omega), if_pos (by omega)]
  unfold runE
  frame_out
  exact congrArg (fun a => k0_pay2 a (iblk m c 0 t) (iblk m c 2 t)) ((Memref.isWhole_whole cc0_scratch0).read_unread xs)

theorem metF : ∀ t : Fin cfg0.N, t.val % 16 = 7 → conds0_F (grid0.coords t) :=
  (by decide +kernel : ∀ t : Fin grid0.N, t.val % 16 = 7 → conds0_F (grid0.coords t))

/-- The run at a point of case F. -/
abbrev runF (t : Fin cfg0.N) (h : t.val % 16 = 7) (xs : Vec F S1024x512 .f32) :=
  kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metF t h).1 (metF t h).2.1 (metF t h).2.2.1 (metF t h).2.2.2.1 (metF t h).2.2.2.2.1 (metF t h).2.2.2.2.2.1 (metF t h).2.2.2.2.2.2.1 (metF t h).2.2.2.2.2.2.2.1 (metF t h).2.2.2.2.2.2.2.2.1 (metF t h).2.2.2.2.2.2.2.2.2.1 (metF t h).2.2.2.2.2.2.2.2.2.2.1 (metF t h).2.2.2.2.2.2.2.2.2.2.2
    (iblk m c 0 t) (iblk m c 1 t) (iblk m c 2 t) (iblk m c 3 t) (iblk m c 4 t) (iblk m c 5 t) xs

theorem leavesF (t : Fin cfg0.N) (h : t.val % 16 = 7) (xs : Vec F S1024x512 .f32) :
    VO0_6.read (Elt F) (VO0_6.writes (Elt F) VO0_6.junk (runF m c t h xs).1) = k0_pay3 xs (iblk m c 0 t) (used m c t) (iblk m c 5 t) := by
  rw [used, if_neg (by omega), if_pos (by omega)]
  unfold runF
  frame_out
  exact congrArg (fun a => k0_pay3 a (iblk m c 0 t) (iblk m c 2 t) (iblk m c 5 t)) ((Memref.isWhole_whole cc0_scratch0).read_unread xs)

theorem metG : ∀ t : Fin cfg0.N, t.val % 16 = 8 → conds0_G (grid0.coords t) :=
  (by decide +kernel : ∀ t : Fin grid0.N, t.val % 16 = 8 → conds0_G (grid0.coords t))

/-- The run at a point of case G. -/
abbrev runG (t : Fin cfg0.N) (h : t.val % 16 = 8) :=
  kernelRun0_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metG t h).1 (metG t h).2.1 (metG t h).2.2.1 (metG t h).2.2.2.1 (metG t h).2.2.2.2.1 (metG t h).2.2.2.2.2.1 (metG t h).2.2.2.2.2.2.1 (metG t h).2.2.2.2.2.2.2.1 (metG t h).2.2.2.2.2.2.2.2.1 (metG t h).2.2.2.2.2.2.2.2.2.1 (metG t h).2.2.2.2.2.2.2.2.2.2.1 (metG t h).2.2.2.2.2.2.2.2.2.2.2
    (iblk m c 0 t) (iblk m c 1 t) (iblk m c 2 t) (iblk m c 3 t) (iblk m c 4 t) (iblk m c 5 t)

theorem leavesG (t : Fin cfg0.N) (h : t.val % 16 = 8) :
    VS0_0.read (Elt F) (VS0_0.writes (Elt F) VS0_0.junk (runG m c t h).2.1) = k0_pay1 (iblk m c 0 t) (used m c t) := by
  rw [used, if_neg (by omega), if_neg (by omega), if_pos (by omega)]
  unfold runG
  frame_out
  rfl

theorem metH : ∀ t : Fin cfg0.N, (t.val % 16 = 9 ∨ t.val % 16 = 10) → conds0_H (grid0.coords t) :=
  (by decide +kernel : ∀ t : Fin grid0.N, (t.val % 16 = 9 ∨ t.val % 16 = 10) → conds0_H (grid0.coords t))

/-- The run at a point of case H. -/
abbrev runH (t : Fin cfg0.N) (h : t.val % 16 = 9 ∨ t.val % 16 = 10) (xs : Vec F S1024x512 .f32) :=
  kernelRun0_H c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metH t h).1 (metH t h).2.1 (metH t h).2.2.1 (metH t h).2.2.2.1 (metH t h).2.2.2.2.1 (metH t h).2.2.2.2.2.1 (metH t h).2.2.2.2.2.2.1 (metH t h).2.2.2.2.2.2.2.1 (metH t h).2.2.2.2.2.2.2.2.1 (metH t h).2.2.2.2.2.2.2.2.2.1 (metH t h).2.2.2.2.2.2.2.2.2.2.1 (metH t h).2.2.2.2.2.2.2.2.2.2.2
    (iblk m c 0 t) (iblk m c 1 t) (iblk m c 2 t) (iblk m c 3 t) (iblk m c 4 t) (iblk m c 5 t) xs

theorem leavesH (t : Fin cfg0.N) (h : t.val % 16 = 9 ∨ t.val % 16 = 10) (xs : Vec F S1024x512 .f32) :
    VS0_0.read (Elt F) (VS0_0.writes (Elt F) VS0_0.junk (runH m c t h xs).2.1) = k0_pay2 xs (iblk m c 0 t) (used m c t) := by
  rw [used, if_neg (by omega), if_neg (by omega), if_pos (by omega)]
  unfold runH
  frame_out
  exact congrArg (fun a => k0_pay2 a (iblk m c 0 t) (iblk m c 3 t)) ((Memref.isWhole_whole cc0_scratch0).read_unread xs)

theorem metI : ∀ t : Fin cfg0.N, t.val % 16 = 11 → conds0_I (grid0.coords t) :=
  (by decide +kernel : ∀ t : Fin grid0.N, t.val % 16 = 11 → conds0_I (grid0.coords t))

/-- The run at a point of case I. -/
abbrev runI (t : Fin cfg0.N) (h : t.val % 16 = 11) (xs : Vec F S1024x512 .f32) :=
  kernelRun0_I c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metI t h).1 (metI t h).2.1 (metI t h).2.2.1 (metI t h).2.2.2.1 (metI t h).2.2.2.2.1 (metI t h).2.2.2.2.2.1 (metI t h).2.2.2.2.2.2.1 (metI t h).2.2.2.2.2.2.2.1 (metI t h).2.2.2.2.2.2.2.2.1 (metI t h).2.2.2.2.2.2.2.2.2.1 (metI t h).2.2.2.2.2.2.2.2.2.2.1 (metI t h).2.2.2.2.2.2.2.2.2.2.2
    (iblk m c 0 t) (iblk m c 1 t) (iblk m c 2 t) (iblk m c 3 t) (iblk m c 4 t) (iblk m c 5 t) xs

theorem leavesI (t : Fin cfg0.N) (h : t.val % 16 = 11) (xs : Vec F S1024x512 .f32) :
    VO0_6.read (Elt F) (VO0_6.writes (Elt F) VO0_6.junk (runI m c t h xs).1) = k0_pay3 xs (iblk m c 0 t) (used m c t) (iblk m c 5 t) := by
  rw [used, if_neg (by omega), if_neg (by omega), if_pos (by omega)]
  unfold runI
  frame_out
  exact congrArg (fun a => k0_pay3 a (iblk m c 0 t) (iblk m c 3 t) (iblk m c 5 t)) ((Memref.isWhole_whole cc0_scratch0).read_unread xs)

theorem metJ : ∀ t : Fin cfg0.N, t.val % 16 = 12 → conds0_J (grid0.coords t) :=
  (by decide +kernel : ∀ t : Fin grid0.N, t.val % 16 = 12 → conds0_J (grid0.coords t))

/-- The run at a point of case J. -/
abbrev runJ (t : Fin cfg0.N) (h : t.val % 16 = 12) :=
  kernelRun0_J c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metJ t h).1 (metJ t h).2.1 (metJ t h).2.2.1 (metJ t h).2.2.2.1 (metJ t h).2.2.2.2.1 (metJ t h).2.2.2.2.2.1 (metJ t h).2.2.2.2.2.2.1 (metJ t h).2.2.2.2.2.2.2.1 (metJ t h).2.2.2.2.2.2.2.2.1 (metJ t h).2.2.2.2.2.2.2.2.2.1 (metJ t h).2.2.2.2.2.2.2.2.2.2.1 (metJ t h).2.2.2.2.2.2.2.2.2.2.2
    (iblk m c 0 t) (iblk m c 1 t) (iblk m c 2 t) (iblk m c 3 t) (iblk m c 4 t) (iblk m c 5 t)

theorem leavesJ (t : Fin cfg0.N) (h : t.val % 16 = 12) :
    VS0_0.read (Elt F) (VS0_0.writes (Elt F) VS0_0.junk (runJ m c t h).2.1) = k0_pay1 (iblk m c 0 t) (used m c t) := by
  rw [used, if_neg (by omega), if_neg (by omega), if_neg (by omega)]
  unfold runJ
  frame_out

theorem metK : ∀ t : Fin cfg0.N, (t.val % 16 = 13 ∨ t.val % 16 = 14) → conds0_K (grid0.coords t) :=
  (by decide +kernel : ∀ t : Fin grid0.N, (t.val % 16 = 13 ∨ t.val % 16 = 14) → conds0_K (grid0.coords t))

/-- The run at a point of case K. -/
abbrev runK (t : Fin cfg0.N) (h : t.val % 16 = 13 ∨ t.val % 16 = 14) (xs : Vec F S1024x512 .f32) :=
  kernelRun0_K c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metK t h).1 (metK t h).2.1 (metK t h).2.2.1 (metK t h).2.2.2.1 (metK t h).2.2.2.2.1 (metK t h).2.2.2.2.2.1 (metK t h).2.2.2.2.2.2.1 (metK t h).2.2.2.2.2.2.2.1 (metK t h).2.2.2.2.2.2.2.2.1 (metK t h).2.2.2.2.2.2.2.2.2.1 (metK t h).2.2.2.2.2.2.2.2.2.2.1 (metK t h).2.2.2.2.2.2.2.2.2.2.2
    (iblk m c 0 t) (iblk m c 1 t) (iblk m c 2 t) (iblk m c 3 t) (iblk m c 4 t) (iblk m c 5 t) xs

theorem leavesK (t : Fin cfg0.N) (h : t.val % 16 = 13 ∨ t.val % 16 = 14) (xs : Vec F S1024x512 .f32) :
    VS0_0.read (Elt F) (VS0_0.writes (Elt F) VS0_0.junk (runK m c t h xs).2.1) = k0_pay2 xs (iblk m c 0 t) (used m c t) := by
  rw [used, if_neg (by omega), if_neg (by omega), if_neg (by omega)]
  unfold runK
  frame_out
  exact congrArg (fun a => k0_pay2 a (iblk m c 0 t) (iblk m c 4 t)) ((Memref.isWhole_whole cc0_scratch0).read_unread xs)

theorem metL : ∀ t : Fin cfg0.N, t.val % 16 = 15 → conds0_L (grid0.coords t) :=
  (by decide +kernel : ∀ t : Fin grid0.N, t.val % 16 = 15 → conds0_L (grid0.coords t))

/-- The run at a point of case L. -/
abbrev runL (t : Fin cfg0.N) (h : t.val % 16 = 15) (xs : Vec F S1024x512 .f32) :=
  kernelRun0_L c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metL t h).1 (metL t h).2.1 (metL t h).2.2.1 (metL t h).2.2.2.1 (metL t h).2.2.2.2.1 (metL t h).2.2.2.2.2.1 (metL t h).2.2.2.2.2.2.1 (metL t h).2.2.2.2.2.2.2.1 (metL t h).2.2.2.2.2.2.2.2.1 (metL t h).2.2.2.2.2.2.2.2.2.1 (metL t h).2.2.2.2.2.2.2.2.2.2.1 (metL t h).2.2.2.2.2.2.2.2.2.2.2
    (iblk m c 0 t) (iblk m c 1 t) (iblk m c 2 t) (iblk m c 3 t) (iblk m c 4 t) (iblk m c 5 t) xs

theorem leavesL (t : Fin cfg0.N) (h : t.val % 16 = 15) (xs : Vec F S1024x512 .f32) :
    VO0_6.read (Elt F) (VO0_6.writes (Elt F) VO0_6.junk (runL m c t h xs).1) = k0_pay3 xs (iblk m c 0 t) (used m c t) (iblk m c 5 t) := by
  rw [used, if_neg (by omega), if_neg (by omega), if_neg (by omega)]
  unfold runL
  frame_out
  exact congrArg (fun a => k0_pay3 a (iblk m c 0 t) (iblk m c 4 t) (iblk m c 5 t)) ((Memref.isWhole_whole cc0_scratch0).read_unread xs)

/-! ## The pipeline's proof data -/

/-- The invariant before a point: the accumulator at what the point before left, at anything before the first. -/
def PhiS (c : Dev nD) : (n : ℕ) → n ≤ cfg0.N → sProp 𝕄
  | 0, _ => Pipeline.ΦA spec0 c
  | n + 1, hn => iprop(owns (c : Thread nD τ) scM0_0 fullShare ((outsAt0 m c n hn).2) ∗ (∃ r, prngReg c r))

theorem PhiS_zero (n : ℕ) (h : n ≤ cfg0.N) (hz : n = 0) : PhiS m c n h = Pipeline.ΦA spec0 c := by
  subst hz; rfl

theorem PhiS_pos (n : ℕ) (h : n ≤ cfg0.N) (hz : n ≠ 0) :
    PhiS m c n h = iprop(owns (c : Thread nD τ) scM0_0 fullShare ((outsAt0 m c (n - 1) (by omega)).2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = (outsAt0 m c t.val t.isLt).1 := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d

/-! ## The body at a point -/

/-- What the body is called with at point `t`, window by window, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem idleAt (t : Fin cfg0.N) (h : t.val % 4 ≠ 3) : cfg0.idle 6 (grid0.coords t) = true :=
  (by decide +kernel : ∀ t : Fin grid0.N, t.val % 4 ≠ 3 → cfg0.idle 6 (grid0.coords t) = true) t h

theorem liveAt (t : Fin cfg0.N) (h : t.val % 4 = 3) : cfg0.idle 6 (grid0.coords t) = false :=
  (by decide +kernel : ∀ t : Fin grid0.N, t.val % 4 = 3 → cfg0.idle 6 (grid0.coords t) = false) t h

theorem noFlush (t : Fin cfg0.N) (h : t.val % 4 ≠ 3) : (cfg0.win 6).flush t = false :=
  Bool.eq_false_iff.mpr fun hf => h ((flush0_6 t).mp hf)

set_option maxHeartbeats 1600000 in
/-- A point that only stores into the accumulator, whatever it asks of it (`P`): from a run that leaves the pieces `LS` there. -/
theorem body_stores (t : Fin cfg0.N) (h : t.val % 4 ≠ 3) (P : sProp 𝕄) (hP : PhiS m c t.val (Nat.le_of_lt t.isLt) ⊢ iprop(P ∗ (∃ r, prngReg c r)))
    (LS : List (View.Piece (Elt F) S1024x512 .f32)) (cover : ∀ y, ∃ pc ∈ LS, y ∈ pc.1.set)
    (leaves : VS0_0.read (Elt F) (VS0_0.writes (Elt F) VS0_0.junk LS) = (outsAt0 m c t.val t.isLt).2)
    (run : ∀ (x : Vec F S1024x512 .f32) (E : Set ℕ) (K : PUnit → sProp 𝕄),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare x ∗ P
          ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare x ∗ (∃ f, scM0_0.view.loc (c : Thread nD τ) ↦[scM0_0.view.set]{fullShare} scM0_0.view.writes (Elt F) f LS)) -∗ K ⟨⟩))
        ⊢ wp frame (wpE (defs₀ (F := F)) Variants.none c none) E (bodyAt0 t) K) :
    bodyPre m c t ⊢ wp frame (wpE (defs₀ (F := F)) Variants.none c none) Set.univ (bodyAt0 t) (fun _ => bodyPost m c t) := by
  unfold bodyPre bodyPost
  rw [PhiS_castSucc m c t]
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt t h) (noFlush t h)]
  iintro ⟨HI, Ho, ⟨%d0, H0⟩, ⟨%d1, H1⟩, ⟨%d2, H2⟩, ⟨%d3, H3⟩, ⟨%d4, H4⟩, ⟨%d5, H5⟩, ⟨%d6, H6⟩⟩
  icases hP $$ HI with ⟨HP, Hg⟩
  iapply (run _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · iexact HP
  iintro ⟨H0, H1, H2, H3, H4, H5, H6, ⟨%es, HS⟩⟩
  isplitl [HS Hg]
  · isplitl [HS]
    · unfold owns; iexists _; isplitr
      swap; · iexact HS
      ipureintro; exact (View.read_writes_of_cover _ _ _ _ _ cover).trans leaves
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 1600000 in
/-- The last of four points, which reads the accumulator and stores the result: from a run that leaves the pieces `L` there. -/
theorem body_hands (t : Fin cfg0.N) (h : t.val % 4 = 3)
    (L : List (View.Piece (Elt F) S1024x512 .f32)) (cover : ∀ y, ∃ pc ∈ L, y ∈ pc.1.set)
    (leaves : VO0_6.read (Elt F) (VO0_6.writes (Elt F) VO0_6.junk L) = k0_pay3 (prev m c t) (iblk m c 0 t) (used m c t) (iblk m c 5 t))
    (run : ∀ (E : Set ℕ) (K : PUnit → sProp 𝕄),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ (∃ d, owns (c : Thread nD τ) (ms0_6 t) fullShare d) ∗ owns (c : Thread nD τ) scM0_0 fullShare (prev m c t)
          ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ (∃ f, (ms0_6 t).view.loc (c : Thread nD τ) ↦[(ms0_6 t).view.set]{fullShare} (ms0_6 t).view.writes (Elt F) f L) ∗ owns (c : Thread nD τ) scM0_0 fullShare (prev m c t)) -∗ K ⟨⟩))
        ⊢ wp frame (wpE (defs₀ (F := F)) Variants.none c none) E (bodyAt0 t) K) :
    bodyPre m c t ⊢ wp frame (wpE (defs₀ (F := F)) Variants.none c none) Set.univ (bodyAt0 t) (fun _ => bodyPost m c t) := by
  unfold bodyPre bodyPost
  rw [PhiS_castSucc m c t, PhiS_pos m c _ _ (by omega)]
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt t h], after0_6]
  rw [show (outsAt0 m c (t.val + 1 - 1) t.isLt) = _ from at_last m c t h, at_last m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, ⟨%e, H6⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact (View.read_writes_of_cover _ _ _ _ _ cover).trans leaves

/-- The accumulator before a point, its contents forgotten. -/
theorem accAny (t : Fin cfg0.N) : PhiS m c t.val (Nat.le_of_lt t.isLt) ⊢ iprop((∃ d, owns (c : Thread nD τ) scM0_0 fullShare d) ∗ (∃ r, prngReg c r)) := by
  by_cases hz : t.val = 0
  · rw [PhiS_zero m c _ _ hz, PhiA0_eq]
    try exact Idealize.SL.BI.Entails.refl _
  · rw [PhiS_pos m c _ _ hz]
    iintro ⟨HS, Hg⟩
    isplitl [HS]
    · iexists _; iexact HS
    iexact Hg

/-- The accumulator before a point that is not the first. -/
theorem accPrev (t : Fin cfg0.N) (h : t.val ≠ 0) : PhiS m c t.val (Nat.le_of_lt t.isLt) ⊢ iprop(owns (c : Thread nD τ) scM0_0 fullShare (prev m c t) ∗ (∃ r, prngReg c r)) := by
  rw [PhiS_pos m c _ _ h]
  exact Idealize.SL.BI.Entails.refl _

/-- The body at any point: which run is met is read off the point's place in its sixteen. -/
theorem sound_body (t : Fin cfg0.N) : bodyPre m c t ⊢ wp frame (wpE (defs₀ (F := F)) Variants.none c none) Set.univ (bodyAt0 t) (fun _ => bodyPost m c t) := by
  have h : t.val % 16 = 0 ∨ (t.val % 16 = 1 ∨ t.val % 16 = 2) ∨ t.val % 16 = 3 ∨ t.val % 16 = 4 ∨ (t.val % 16 = 5 ∨ t.val % 16 = 6) ∨ t.val % 16 = 7 ∨ t.val % 16 = 8 ∨ (t.val % 16 = 9 ∨ t.val % 16 = 10) ∨ t.val % 16 = 11 ∨ t.val % 16 = 12 ∨ (t.val % 16 = 13 ∨ t.val % 16 = 14) ∨ t.val % 16 = 15 := by omega
  rcases h with h | h | h | h | h | h | h | h | h | h | h | h
  · exact body_stores m c t (by omega) _ (accAny m c t) (runA m c t h).2.1 (View.cover_of_tiledL _ S1024x512.size (by sl_kernel_rfl))
      ((leavesA m c t h).trans (at_first m c t (by omega)).symm) (runA m c t h).2.2
  · exact body_stores m c t (by omega) _ (accPrev m c t (by omega)) (runB m c t h (prev m c t)).2.1 (View.cover_of_tiledL _ S1024x512.size (by sl_kernel_rfl))
      ((leavesB m c t h _).trans (at_middle m c t (by omega)).symm) (runB m c t h (prev m c t)).2.2
  · exact body_hands m c t (by omega) (runC m c t h (prev m c t)).1 (View.cover_of_tiledL _ S1024x512.size (by sl_kernel_rfl))
      (leavesC m c t h _) (runC m c t h (prev m c t)).2.2
  · exact body_stores m c t (by omega) _ (accAny m c t) (runD m c t h).2.1 (View.cover_of_tiledL _ S1024x512.size (by sl_kernel_rfl))
      ((leavesD m c t h).trans (at_first m c t (by omega)).symm) (runD m c t h).2.2
  · exact body_stores m c t (by omega) _ (accPrev m c t (by omega)) (runE m c t h (prev m c t)).2.1 (View.cover_of_tiledL _ S1024x512.size (by sl_kernel_rfl))
      ((leavesE m c t h _).trans (at_middle m c t (by omega)).symm) (runE m c t h (prev m c t)).2.2
  · exact body_hands m c t (by omega) (runF m c t h (prev m c t)).1 (View.cover_of_tiledL _ S1024x512.size (by sl_kernel_rfl))
      (leavesF m c t h _) (runF m c t h (prev m c t)).2.2
  · exact body_stores m c t (by omega) _ (accAny m c t) (runG m c t h).2.1 (View.cover_of_tiledL _ S1024x512.size (by sl_kernel_rfl))
      ((leavesG m c t h).trans (at_first m c t (by omega)).symm) (runG m c t h).2.2
  · exact body_stores m c t (by omega) _ (accPrev m c t (by omega)) (runH m c t h (prev m c t)).2.1 (View.cover_of_tiledL _ S1024x512.size (by sl_kernel_rfl))
      ((leavesH m c t h _).trans (at_middle m c t (by omega)).symm) (runH m c t h (prev m c t)).2.2
  · exact body_hands m c t (by omega) (runI m c t h (prev m c t)).1 (View.cover_of_tiledL _ S1024x512.size (by sl_kernel_rfl))
      (leavesI m c t h _) (runI m c t h (prev m c t)).2.2
  · exact body_stores m c t (by omega) _ (accAny m c t) (runJ m c t h).2.1 (View.cover_of_tiledL _ S1024x512.size (by sl_kernel_rfl))
      ((leavesJ m c t h).trans (at_first m c t (by omega)).symm) (runJ m c t h).2.2
  · exact body_stores m c t (by omega) _ (accPrev m c t (by omega)) (runK m c t h (prev m c t)).2.1 (View.cover_of_tiledL _ S1024x512.size (by sl_kernel_rfl))
      ((leavesK m c t h _).trans (at_middle m c t (by omega)).symm) (runK m c t h (prev m c t)).2.2
  · exact body_hands m c t (by omega) (runL m c t h (prev m c t)).1 (View.cover_of_tiledL _ S1024x512.size (by sl_kernel_rfl))
      (leavesL m c t h _) (runL m c t h (prev m c t)).2.2

/-! ## The launch -/

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout : (dats m 0 c).Φ (Fin.last cfg0.N) ⊢ Pipeline.ΦA spec0 c := by
  rw [show (dats m 0 c).Φ (Fin.last cfg0.N) = PhiS m c cfg0.N le_rfl from rfl, PhiS_pos m c _ _ (by rw [show cfg0.N = 64 from N_0]; decide), PhiA0_eq]
  iintro ⟨HS, Hg⟩
  isplitl [HS]
  · iexists _; iexact HS
  iexact Hg

set_option backward.isDefEq.respectTransparency.types false in
/-- The launch: every array of the pipeline ends at what the proof data computes, every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  frame_of m ρ (dats m) (A_eq m) (run_main m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_all m ρ))

/-- The result ends at the array the points wrote back, the arguments as launched. -/
theorem run_blocks : θ_run defs (onTc (τ := τ) (main (F := F))) ⟨m, fun _ => 0, ρ⟩ fun r => ∀ c : Dev nD,
      r.2.mem ((c : Thread nD τ).loc main_v6) = (dats m 0 c).arrAt 6 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun _ h c => ⟨(h.1 c).1 6, h.2 c⟩) (θ_run_and (run_main m ρ) (unchanged m ρ))

end Cert.Kernel12Ideal.Gen
-- ==== Proof.Mlp.FirstLayerInput.lean ====
/- The call that computes the cotangent of the first layer's input. -/
module

public import proofs.«01_k».proof.Defs
public import proofs.«01_k».proof.Proof.Mlp.Product
public import proofs.«01_k».proof.Proof.Gen.Kernel12
public import proofs.«01_k».proof.Proof.Gen.Kernel12Ideal
public import proofs.«01_k».proof.Proof.Gen.Reference12Ideal
public import proofs.«01_k».proof.Proof.Gen.Reference12Ideal.Run
public import proofs.«01_k».proof.Proof.Gen.Reference12Ideal.Read
public import proofs.«01_k».proof.Proof.Mlp.InputRun
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference12Ideal

/-- What the reference computes, entry by entry. -/
theorem joined_ref (d : S4096x8192.Idx → EReal) (w : S2048x8192.Idx → EReal) (res : S4096x2048.Idx → EReal) (i : S4096x2048.Idx) :
    Read.val_main_v8 (F := Ideal) d w res i = joined d w res (i 0) (i 1) := by
  simp only [Read.val_main_v8_apply, Read.val_main_v7_apply, Read.val_main_v6_apply, Read.val_main_cst_1_apply, Read.val_main_v5_apply, Read.val_main_v4_apply]
  refine congrArg₂ (fun a b : EReal => a + b) (Finset.sum_congr rfl fun k _ => ?_) (congrArg (fun a => alpha * res a) (eq_ix2 i))
  exact congrArg₂ (fun a b => d a * w b) (eq_ix2 (Read.lidx_main_v5 i k)) (eq_ix2 (Read.ridx_main_v5 i k))

end Cert.Reference12Ideal

namespace Cert.Kernel12Ideal.Gen

open Cert.Kernel12Ideal

variable (m : (ℓ : Loc nD τ sig) → Buf (Elt Ideal) ℓ) (c : Dev nD)

/-- Where the blocks of the rows, the residual and the result lie at a point. -/
theorem idx : ∀ t : Fin cfg0.N, win0_0.index t = ![t.val / 16, t.val % 4] ∧ win0_5.index t = ![t.val / 16, t.val / 4 % 4] ∧ win0_6.index t = ![t.val / 16, t.val / 4 % 4] :=
  (by decide +kernel : ∀ t : Fin grid0.N, _)

/-- Where the block of the weight piece in use lies at a point: each piece serves one block of columns. -/
theorem idxPiece : ∀ t : Fin cfg0.N, (t.val / 4 % 4 = 0 → win0_1.index t = ![t.val % 4, 0]) ∧ (t.val / 4 % 4 = 1 → win0_2.index t = ![t.val % 4, 0])
    ∧ (t.val / 4 % 4 = 2 → win0_3.index t = ![t.val % 4, 0]) ∧ (t.val / 4 % 4 = 3 → win0_4.index t = ![t.val % 4, 0]) :=
  (by decide +kernel : ∀ t : Fin grid0.N, _)

/-- The row of the whole result an entry of a point's block is in, and its column. -/
def row (t : Fin cfg0.N) (j : S1024x512.Idx) : Fin 4096 :=
  ⟨t.val / 16 * 1024 + (j 0).val, by have := lt_of_lt_of_eq t.isLt (show cfg0.N = 64 from N_0); have := ValueIdx.idx2_lt0 j; omega⟩

def col (t : Fin cfg0.N) (j : S1024x512.Idx) : Fin 2048 :=
  ⟨t.val / 4 % 4 * 512 + (j 1).val, by have := ValueIdx.idx2_lt1 j; omega⟩

/-- One quarter of the sum at row `r` and column `n`. -/
def quarter (r : Fin 4096) (n : Fin 2048) (q : Fin 4) : EReal :=
  alongQuarter 2048 (by decide) (m ((c : Thread nD τ).loc main_arg0)) (m ((c : Thread nD τ).loc main_arg1)) r n q

/-- The product of a point's blocks is the quarter of its place among four. -/
theorem blocks (t : Fin cfg0.N) (j : S1024x512.Idx) :
    product (iblk m c 0 t : S1024x2048.Idx → EReal) (used m c t : S2048x512.Idx → EReal) (j 0) (j 1)
      = quarter m c (row t j) (col t j) ⟨t.val % 4, Nat.mod_lt _ (by decide)⟩ := by
  have i := idx t
  have p := idxPiece t
  have hp : t.val / 4 % 4 = 0 ∨ t.val / 4 % 4 = 1 ∨ t.val / 4 % 4 = 2 ∨ t.val / 4 % 4 = 3 := by omega
  unfold product quarter alongQuarter row col
  rcases hp with hp | hp | hp | hp
  · have w := p.1 hp
    have e : used m c t = iblk m c 1 t := by unfold used; rw [if_pos hp]
    rw [e]
    simp only [hp]
    blk_point [iblk, V, i, w]
  · have w := p.2.1 hp
    have e : used m c t = iblk m c 2 t := by unfold used; rw [if_neg (by omega), if_pos hp]
    rw [e]
    simp only [hp]
    blk_point [iblk, V, i, w]
  · have w := p.2.2.1 hp
    have e : used m c t = iblk m c 3 t := by unfold used; rw [if_neg (by omega), if_neg (by omega), if_pos hp]
    rw [e]
    simp only [hp]
    blk_point [iblk, V, i, w]
  · have w := p.2.2.2 hp
    have e : used m c t = iblk m c 4 t := by unfold used; rw [if_neg (by omega), if_neg (by omega), if_neg (by omega)]
    rw [e]
    simp only [hp]
    blk_point [iblk, V, i, w]

/-- What the first of four points leaves in the accumulator. -/
theorem first (t : Fin cfg0.N) (h : t.val % 4 = 0) (j : S1024x512.Idx) :
    (outsAt0 m c t.val t.isLt).2 j = quarter m c (row t j) (col t j) 0 := by
  rw [at_first m c t h]
  refine Eq.trans ?_ ((blocks m c t j).trans (congrArg (quarter m c (row t j) (col t j)) (Fin.ext h)))
  generalize used m c t = w
  pointwise [k0_pay1, product]

/-- What a middle point adds to it. -/
theorem middle (t : Fin cfg0.N) (h : t.val % 4 = 1 ∨ t.val % 4 = 2) (j : S1024x512.Idx) :
    (outsAt0 m c t.val t.isLt).2 j = prev m c t j + quarter m c (row t j) (col t j) ⟨t.val % 4, Nat.mod_lt _ (by decide)⟩ := by
  rw [at_middle m c t h, ← blocks m c t j]
  generalize used m c t = w
  generalize prev m c t = x
  pointwise [k0_pay2, product]

/-- What the last hands over. -/
theorem last (t : Fin cfg0.N) (h : t.val % 4 = 3) (j : S1024x512.Idx) :
    (outsAt0 m c t.val t.isLt).1 j = (prev m c t j + quarter m c (row t j) (col t j) 3)
      + alpha * (iblk m c 5 t : S1024x512.Idx → EReal) j := by
  rw [at_last m c t h, show quarter m c (row t j) (col t j) 3 = _ from (congrArg (quarter m c (row t j) (col t j)) (Fin.ext h.symm)).trans (blocks m c t j).symm]
  generalize used m c t = w
  generalize prev m c t = x
  pointwise [k0_pay3, product, alpha]

/-- The four quarters, as the four points add them, are the whole sum. -/
theorem whole (t : Fin cfg0.N) (h : t.val % 4 = 3) (j : S1024x512.Idx) :
    (outsAt0 m c t.val t.isLt).1 j = alongRows (m ((c : Thread nD τ).loc main_arg0)) (m ((c : Thread nD τ).loc main_arg1)) (row t j) (col t j)
      + alpha * (iblk m c 5 t : S1024x512.Idx → EReal) j := by
  have before : ∀ s, t.val - s < cfg0.N := fun s => Nat.lt_of_le_of_lt (Nat.sub_le _ _) t.isLt
  have same : ∀ s (hs : s ≤ 3) (q : Fin 4), quarter m c (row ⟨t.val - s, before s⟩ j) (col ⟨t.val - s, before s⟩ j) q = quarter m c (row t j) (col t j) q :=
    fun s hs q => congrArg₂ (fun r n => quarter m c r n q) (Fin.ext (by show (t.val - s) / 16 * 1024 + _ = t.val / 16 * 1024 + _; omega))
      (Fin.ext (by show (t.val - s) / 4 % 4 * 512 + _ = t.val / 4 % 4 * 512 + _; omega))
  have e2 : prev m c t j = _ := middle m c ⟨t.val - 1, before 1⟩ (by show (t.val - 1) % 4 = 1 ∨ (t.val - 1) % 4 = 2; omega) j
  have e1 : prev m c ⟨t.val - 1, before 1⟩ j = _ := middle m c ⟨t.val - 2, before 2⟩ (by show (t.val - 2) % 4 = 1 ∨ (t.val - 2) % 4 = 2; omega) j
  have e0 : prev m c ⟨t.val - 2, before 2⟩ j = _ := first m c ⟨t.val - 3, before 3⟩ (by show (t.val - 3) % 4 = 0; omega) j
  have q2 : (⟨(t.val - 1) % 4, Nat.mod_lt _ (by decide)⟩ : Fin 4) = 2 := Fin.ext (by show (t.val - 1) % 4 = 2; omega)
  have q1 : (⟨(t.val - 2) % 4, Nat.mod_lt _ (by decide)⟩ : Fin 4) = 1 := Fin.ext (by show (t.val - 2) % 4 = 1; omega)
  rw [last m c t h j, e2, e1, e0, same 1 (by omega), same 2 (by omega), same 3 (by omega)]
  dsimp only
  rw [q2, q1]
  exact congrArg (fun a : EReal => a + alpha * (iblk m c 5 t : S1024x512.Idx → EReal) j) (alongRows_quarters 2048 (by decide) (m ((c : Thread nD τ).loc main_arg0)) (m ((c : Thread nD τ).loc main_arg1)) (row t j) (col t j))

/-- The kernel's result, entry by entry. -/
theorem out6 : (dats m 0 c).arrAt 6 cfg0.N = fun i : S4096x2048.Idx => joined (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  have ht : t.val % 4 = 3 := (flush0_6 t).mp hf
  have i := idx t
  rw [after0_6]
  refine (whole m c t ht y).trans ?_
  blk_simp [i]
  unfold joined row col
  blk_point [iblk, V, i]

end Cert.Kernel12Ideal.Gen

namespace Cert.Proof

/-- The kernel over machine floats has the same bodies and the same table. -/
theorem bodies12 : Cert.Kernel12.defs₀ (F := Bits) = Cert.Kernel12Ideal.defs₀ (F := Bits) :=
  congrArg Defs.onTc (funext fun ℓ => funext fun a => by obtain ⟨k, h⟩ := ℓ; obtain rfl : k = 0 := Nat.lt_one_iff.1 h; rfl)

theorem table12 : Cert.Kernel12.defs (F := Bits) = Cert.Kernel12Ideal.defs (F := Bits) := congrArg (Pipeline.defs Cert.Kernel12.pcfgs) bodies12

/-- So its frame is the same run. -/
theorem frame12 : Cert.quiescent_Kernel12 := fun m g _ => by
  rw [table12]
  exact Cert.Kernel12Ideal.Gen.frame (F := Bits) m g

/-- The reference ends with its arguments as they were and every counter at zero. -/
theorem reference12_frame [Cert.Reference12Ideal.Facts] : Cert.quiescent_Reference12Ideal := fun m g _ =>
  (θ_run _ _ _).mono (fun r h => ⟨fun c => (h c).2, sem_eq_zero_of_no_sems (by decide) r.2⟩) (Cert.Reference12Ideal.Value.run (F := Ideal) m g)

/-- Both programs' results are the same sums of the arguments' entries. -/
theorem values12 : Cert.algebraic_Kernel12Ideal_Reference12Ideal := by
  intro m g m' g' _ hagree
  refine ⟨fun c i => joined (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (i 0) (i 1),
    (θ_run _ _ _).mono (fun r h c => ?_) (Cert.Kernel12Ideal.Gen.run_blocks (F := Ideal) m g),
    (θ_run _ _ _).mono (fun r h c => ?_) (Cert.Reference12Ideal.Value.run (F := Ideal) m' g')⟩
  · obtain ⟨h0, ha⟩ := h c
    exact ⟨h0.trans (Cert.Kernel12Ideal.Gen.out6 m c), ha⟩
  · obtain ⟨h0, ha⟩ := h c
    refine ⟨(h0.trans (Cert.Reference12Ideal.Read.val_main_v8_eq (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)))).trans (funext fun i => ?_), ha⟩
    rw [(hagree c).1, (hagree c).2.1, (hagree c).2.2]
    exact Cert.Reference12Ideal.joined_ref _ _ _ i

end Cert.Proof
-- ==== Proof.Mlp.EntryRun.lean ====
/- The run of the call that computes the first projection's share of the cotangent of a block's input: what each point leaves, the body at a point, the launch. -/
module

public import proofs.«01_k».proof.Proof.Gen.Kernel13Ideal.Frame.RunL
public import Idealize.ShloMosaic.Lib.Claim
public import Idealize.ShloMosaic.Lib.Pipeline.ValueKit

@[expose] public section

set_option maxRecDepth 16384

noncomputable section

namespace Cert.Kernel13Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What a point leaves -/

/-- The block of the weight in use at a point: of the piece that holds the point's columns. -/
def used (t : Fin cfg0.N) : Vec F S2432x512 .bf16 :=
  if t.val / 4 % 4 = 0 then iblk m c 1 t else if t.val / 4 % 4 = 1 then iblk m c 2 t else if t.val / 4 % 4 = 2 then iblk m c 3 t else iblk m c 4 t

/-- What the point leaves for the result and in the accumulator, which it found at `xs`: the first of four points stores its
    product, the next two add theirs, the last hands the sum over. -/
def step (t : Fin cfg0.N) (xs : Vec F S1024x512 .f32) : Vec F S1024x512 .f32 × Vec F S1024x512 .f32 :=
  if t.val % 4 = 0 then (VO0_6.read (Elt F) VO0_6.junk, k0_pay1 (iblk m c 0 t) (used m c t))
  else if t.val % 4 = 3 then (k0_pay3 xs (iblk m c 0 t) (used m c t) (iblk m c 5 t), xs)
  else (VO0_6.read (Elt F) VO0_6.junk, k0_pay2 xs (iblk m c 0 t) (used m c t))

/-- The same from the first point on. -/
def outsAt0 : (n : ℕ) → n < cfg0.N → Vec F S1024x512 .f32 × Vec F S1024x512 .f32
  | 0, h => step m c ⟨0, h⟩ (VS0_0.read (Elt F) VS0_0.junk)
  | n + 1, h => step m c ⟨n + 1, h⟩ (outsAt0 n (Nat.lt_of_succ_lt h)).2

/-- The accumulator as the point before left it. -/
def prev (t : Fin cfg0.N) : Vec F S1024x512 .f32 := (outsAt0 m c (t.val - 1) (Nat.lt_of_le_of_lt (Nat.sub_le _ _) t.isLt)).2

theorem outsAt0_pos (t : Fin cfg0.N) (h : t.val ≠ 0) : outsAt0 m c t.val t.isLt = step m c t (prev m c t) := by
  obtain ⟨n, hn⟩ := t
  cases n with
  | zero => exact absurd rfl h
  | succ n => rfl

theorem at_first (t : Fin cfg0.N) (h : t.val % 4 = 0) : (outsAt0 m c t.val t.isLt).2 = k0_pay1 (iblk m c 0 t) (used m c t) := by
  obtain ⟨n, hn⟩ := t
  cases n <;> (unfold outsAt0 step; rw [if_pos h])

theorem at_middle (t : Fin cfg0.N) (h : t.val % 4 = 1 ∨ t.val % 4 = 2) :
    (outsAt0 m c t.val t.isLt).2 = k0_pay2 (prev m c t) (iblk m c 0 t) (used m c t) := by
  rw [outsAt0_pos m c t (by omega), step, if_neg (by omega), if_neg (by omega)]

theorem at_last (t : Fin cfg0.N) (h : t.val % 4 = 3) :
    outsAt0 m c t.val t.isLt = (k0_pay3 (prev m c t) (iblk m c 0 t) (used m c t) (iblk m c 5 t), prev m c t) := by
  rw [outsAt0_pos m c t (by omega), step, if_neg (by omega), if_pos h]

/-! ## The body's runs at the points they are met at -/

theorem metA : ∀ t : Fin cfg0.N, t.val % 16 = 0 → conds0_A (grid0.coords t) :=
  (by decide +kernel : ∀ t : Fin grid0.N, t.val % 16 = 0 → conds0_A (grid0.coords t))

/-- The run at a point of case A. -/
abbrev runA (t : Fin cfg0.N) (h : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metA t h).1 (metA t h).2.1 (metA t h).2.2.1 (metA t h).2.2.2.1 (metA t h).2.2.2.2.1 (metA t h).2.2.2.2.2.1 (metA t h).2.2.2.2.2.2.1 (metA t h).2.2.2.2.2.2.2.1 (metA t h).2.2.2.2.2.2.2.2.1 (metA t h).2.2.2.2.2.2.2.2.2.1 (metA t h).2.2.2.2.2.2.2.2.2.2.1 (metA t h).2.2.2.2.2.2.2.2.2.2.2
    (iblk m c 0 t) (iblk m c 1 t) (iblk m c 2 t) (iblk m c 3 t) (iblk m c 4 t) (iblk m c 5 t)

theorem leavesA (t : Fin cfg0.N) (h : t.val % 16 = 0) :
    VS0_0.read (Elt F) (VS0_0.writes (Elt F) VS0_0.junk (runA m c t h).2.1) = k0_pay1 (iblk m c 0 t) (used m c t) := by
  rw [used, if_pos (by omega)]
  unfold runA
  frame_out
  rfl

theorem metB : ∀ t : Fin cfg0.N, (t.val % 16 = 1 ∨ t.val % 16 = 2) → conds0_B (grid0.coords t) :=
  (by decide +kernel : ∀ t : Fin grid0.N, (t.val % 16 = 1 ∨ t.val % 16 = 2) → conds0_B (grid0.coords t))

/-- The run at a point of case B. -/
abbrev runB (t : Fin cfg0.N) (h : t.val % 16 = 1 ∨ t.val % 16 = 2) (xs : Vec F S1024x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metB t h).1 (metB t h).2.1 (metB t h).2.2.1 (metB t h).2.2.2.1 (metB t h).2.2.2.2.1 (metB t h).2.2.2.2.2.1 (metB t h).2.2.2.2.2.2.1 (metB t h).2.2.2.2.2.2.2.1 (metB t h).2.2.2.2.2.2.2.2.1 (metB t h).2.2.2.2.2.2.2.2.2.1 (metB t h).2.2.2.2.2.2.2.2.2.2.1 (metB t h).2.2.2.2.2.2.2.2.2.2.2
    (iblk m c 0 t) (iblk m c 1 t) (iblk m c 2 t) (iblk m c 3 t) (iblk m c 4 t) (iblk m c 5 t) xs

theorem leavesB (t : Fin cfg0.N) (h : t.val % 16 = 1 ∨ t.val % 16 = 2) (xs : Vec F S1024x512 .f32) :
    VS0_0.read (Elt F) (VS0_0.writes (Elt F) VS0_0.junk (runB m c t h xs).2.1) = k0_pay2 xs (iblk m c 0 t) (used m c t) := by
  rw [used, if_pos (by omega)]
  unfold runB
  frame_out
  exact congrArg (fun a => k0_pay2 a (iblk m c 0 t) (iblk m c 1 t)) ((Memref.isWhole_whole cc0_scratch0).read_unread xs)

theorem metC : ∀ t : Fin cfg0.N, t.val % 16 = 3 → conds0_C (grid0.coords t) :=
  (by decide +kernel : ∀ t : Fin grid0.N, t.val % 16 = 3 → conds0_C (grid0.coords t))

/-- The run at a point of case C. -/
abbrev runC (t : Fin cfg0.N) (h : t.val % 16 = 3) (xs : Vec F S1024x512 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metC t h).1 (metC t h).2.1 (metC t h).2.2.1 (metC t h).2.2.2.1 (metC t h).2.2.2.2.1 (metC t h).2.2.2.2.2.1 (metC t h).2.2.2.2.2.2.1 (metC t h).2.2.2.2.2.2.2.1 (metC t h).2.2.2.2.2.2.2.2.1 (metC t h).2.2.2.2.2.2.2.2.2.1 (metC t h).2.2.2.2.2.2.2.2.2.2.1 (metC t h).2.2.2.2.2.2.2.2.2.2.2
    (iblk m c 0 t) (iblk m c 1 t) (iblk m c 2 t) (iblk m c 3 t) (iblk m c 4 t) (iblk m c 5 t) xs

theorem leavesC (t : Fin cfg0.N) (h : t.val % 16 = 3) (xs : Vec F S1024x512 .f32) :
    VO0_6.read (Elt F) (VO0_6.writes (Elt F) VO0_6.junk (runC m c t h xs).1) = k0_pay3 xs (iblk m c 0 t) (used m c t) (iblk m c 5 t) := by
  rw [used, if_pos (by omega)]
  unfold runC
  frame_out
  exact congrArg (fun a => k0_pay3 a (iblk m c 0 t) (iblk m c 1 t) (iblk m c 5 t)) ((Memref.isWhole_whole cc0_scratch0).read_unread xs)

theorem metD : ∀ t : Fin cfg0.N, t.val % 16 = 4 → conds0_D (grid0.coords t) :=
  (by decide +kernel : ∀ t : Fin grid0.N, t.val % 16 = 4 → conds0_D (grid0.coords t))

/-- The run at a point of case D. -/
abbrev runD (t : Fin cfg0.N) (h : t.val % 16 = 4) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metD t h).1 (metD t h).2.1 (metD t h).2.2.1 (metD t h).2.2.2.1 (metD t h).2.2.2.2.1 (metD t h).2.2.2.2.2.1 (metD t h).2.2.2.2.2.2.1 (metD t h).2.2.2.2.2.2.2.1 (metD t h).2.2.2.2.2.2.2.2.1 (metD t h).2.2.2.2.2.2.2.2.2.1 (metD t h).2.2.2.2.2.2.2.2.2.2.1 (metD t h).2.2.2.2.2.2.2.2.2.2.2
    (iblk m c 0 t) (iblk m c 1 t) (iblk m c 2 t) (iblk m c 3 t) (iblk m c 4 t) (iblk m c 5 t)

theorem leavesD (t : Fin cfg0.N) (h : t.val % 16 = 4) :
    VS0_0.read (Elt F) (VS0_0.writes (Elt F) VS0_0.junk (runD m c t h).2.1) = k0_pay1 (iblk m c 0 t) (used m c t) := by
  rw [used, if_neg (by omega), if_pos (by omega)]
  unfold runD
  frame_out
  rfl

theorem metE : ∀ t : Fin cfg0.N, (t.val % 16 = 5 ∨ t.val % 16 = 6) → conds0_E (grid0.coords t) :=
  (by decide +kernel : ∀ t : Fin grid0.N, (t.val % 16 = 5 ∨ t.val % 16 = 6) → conds0_E (grid0.coords t))

/-- The run at a point of case E. -/
abbrev runE (t : Fin cfg0.N) (h : t.val % 16 = 5 ∨ t.val % 16 = 6) (xs : Vec F S1024x512 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metE t h).1 (metE t h).2.1 (metE t h).2.2.1 (metE t h).2.2.2.1 (metE t h).2.2.2.2.1 (metE t h).2.2.2.2.2.1 (metE t h).2.2.2.2.2.2.1 (metE t h).2.2.2.2.2.2.2.1 (metE t h).2.2.2.2.2.2.2.2.1 (metE t h).2.2.2.2.2.2.2.2.2.1 (metE t h).2.2.2.2.2.2.2.2.2.2.1 (metE t h).2.2.2.2.2.2.2.2.2.2.2
    (iblk m c 0 t) (iblk m c 1 t) (iblk m c 2 t) (iblk m c 3 t) (iblk m c 4 t) (iblk m c 5 t) xs

theorem leavesE (t : Fin cfg0.N) (h : t.val % 16 = 5 ∨ t.val % 16 = 6) (xs : Vec F S1024x512 .f32) :
    VS0_0.read (Elt F) (VS0_0.writes (Elt F) VS0_0.junk (runE m c t h xs).2.1) = k0_pay2 xs (iblk m c 0 t) (used m c t) := by
  rw [used, if_neg (by omega), if_pos (by omega)]
  unfold runE
  frame_out
  exact congrArg (fun a => k0_pay2 a (iblk m c 0 t) (iblk m c 2 t)) ((Memref.isWhole_whole cc0_scratch0).read_unread xs)

theorem metF : ∀ t : Fin cfg0.N, t.val % 16 = 7 → conds0_F (grid0.coords t) :=
  (by decide +kernel : ∀ t : Fin grid0.N, t.val % 16 = 7 → conds0_F (grid0.coords t))

/-- The run at a point of case F. -/
abbrev runF (t : Fin cfg0.N) (h : t.val % 16 = 7) (xs : Vec F S1024x512 .f32) :=
  kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metF t h).1 (metF t h).2.1 (metF t h).2.2.1 (metF t h).2.2.2.1 (metF t h).2.2.2.2.1 (metF t h).2.2.2.2.2.1 (metF t h).2.2.2.2.2.2.1 (metF t h).2.2.2.2.2.2.2.1 (metF t h).2.2.2.2.2.2.2.2.1 (metF t h).2.2.2.2.2.2.2.2.2.1 (metF t h).2.2.2.2.2.2.2.2.2.2.1 (metF t h).2.2.2.2.2.2.2.2.2.2.2
    (iblk m c 0 t) (iblk m c 1 t) (iblk m c 2 t) (iblk m c 3 t) (iblk m c 4 t) (iblk m c 5 t) xs

theorem leavesF (t : Fin cfg0.N) (h : t.val % 16 = 7) (xs : Vec F S1024x512 .f32) :
    VO0_6.read (Elt F) (VO0_6.writes (Elt F) VO0_6.junk (runF m c t h xs).1) = k0_pay3 xs (iblk m c 0 t) (used m c t) (iblk m c 5 t) := by
  rw [used, if_neg (by omega), if_pos (by omega)]
  unfold runF
  frame_out
  exact congrArg (fun a => k0_pay3 a (iblk m c 0 t) (iblk m c 2 t) (iblk m c 5 t)) ((Memref.isWhole_whole cc0_scratch0).read_unread xs)

theorem metG : ∀ t : Fin cfg0.N, t.val % 16 = 8 → conds0_G (grid0.coords t) :=
  (by decide +kernel : ∀ t : Fin grid0.N, t.val % 16 = 8 → conds0_G (grid0.coords t))

/-- The run at a point of case G. -/
abbrev runG (t : Fin cfg0.N) (h : t.val % 16 = 8) :=
  kernelRun0_G c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metG t h).1 (metG t h).2.1 (metG t h).2.2.1 (metG t h).2.2.2.1 (metG t h).2.2.2.2.1 (metG t h).2.2.2.2.2.1 (metG t h).2.2.2.2.2.2.1 (metG t h).2.2.2.2.2.2.2.1 (metG t h).2.2.2.2.2.2.2.2.1 (metG t h).2.2.2.2.2.2.2.2.2.1 (metG t h).2.2.2.2.2.2.2.2.2.2.1 (metG t h).2.2.2.2.2.2.2.2.2.2.2
    (iblk m c 0 t) (iblk m c 1 t) (iblk m c 2 t) (iblk m c 3 t) (iblk m c 4 t) (iblk m c 5 t)

theorem leavesG (t : Fin cfg0.N) (h : t.val % 16 = 8) :
    VS0_0.read (Elt F) (VS0_0.writes (Elt F) VS0_0.junk (runG m c t h).2.1) = k0_pay1 (iblk m c 0 t) (used m c t) := by
  rw [used, if_neg (by omega), if_neg (by omega), if_pos (by omega)]
  unfold runG
  frame_out
  rfl

theorem metH : ∀ t : Fin cfg0.N, (t.val % 16 = 9 ∨ t.val % 16 = 10) → conds0_H (grid0.coords t) :=
  (by decide +kernel : ∀ t : Fin grid0.N, (t.val % 16 = 9 ∨ t.val % 16 = 10) → conds0_H (grid0.coords t))

/-- The run at a point of case H. -/
abbrev runH (t : Fin cfg0.N) (h : t.val % 16 = 9 ∨ t.val % 16 = 10) (xs : Vec F S1024x512 .f32) :=
  kernelRun0_H c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metH t h).1 (metH t h).2.1 (metH t h).2.2.1 (metH t h).2.2.2.1 (metH t h).2.2.2.2.1 (metH t h).2.2.2.2.2.1 (metH t h).2.2.2.2.2.2.1 (metH t h).2.2.2.2.2.2.2.1 (metH t h).2.2.2.2.2.2.2.2.1 (metH t h).2.2.2.2.2.2.2.2.2.1 (metH t h).2.2.2.2.2.2.2.2.2.2.1 (metH t h).2.2.2.2.2.2.2.2.2.2.2
    (iblk m c 0 t) (iblk m c 1 t) (iblk m c 2 t) (iblk m c 3 t) (iblk m c 4 t) (iblk m c 5 t) xs

theorem leavesH (t : Fin cfg0.N) (h : t.val % 16 = 9 ∨ t.val % 16 = 10) (xs : Vec F S1024x512 .f32) :
    VS0_0.read (Elt F) (VS0_0.writes (Elt F) VS0_0.junk (runH m c t h xs).2.1) = k0_pay2 xs (iblk m c 0 t) (used m c t) := by
  rw [used, if_neg (by omega), if_neg (by omega), if_pos (by omega)]
  unfold runH
  frame_out
  exact congrArg (fun a => k0_pay2 a (iblk m c 0 t) (iblk m c 3 t)) ((Memref.isWhole_whole cc0_scratch0).read_unread xs)

theorem metI : ∀ t : Fin cfg0.N, t.val % 16 = 11 → conds0_I (grid0.coords t) :=
  (by decide +kernel : ∀ t : Fin grid0.N, t.val % 16 = 11 → conds0_I (grid0.coords t))

/-- The run at a point of case I. -/
abbrev runI (t : Fin cfg0.N) (h : t.val % 16 = 11) (xs : Vec F S1024x512 .f32) :=
  kernelRun0_I c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metI t h).1 (metI t h).2.1 (metI t h).2.2.1 (metI t h).2.2.2.1 (metI t h).2.2.2.2.1 (metI t h).2.2.2.2.2.1 (metI t h).2.2.2.2.2.2.1 (metI t h).2.2.2.2.2.2.2.1 (metI t h).2.2.2.2.2.2.2.2.1 (metI t h).2.2.2.2.2.2.2.2.2.1 (metI t h).2.2.2.2.2.2.2.2.2.2.1 (metI t h).2.2.2.2.2.2.2.2.2.2.2
    (iblk m c 0 t) (iblk m c 1 t) (iblk m c 2 t) (iblk m c 3 t) (iblk m c 4 t) (iblk m c 5 t) xs

theorem leavesI (t : Fin cfg0.N) (h : t.val % 16 = 11) (xs : Vec F S1024x512 .f32) :
    VO0_6.read (Elt F) (VO0_6.writes (Elt F) VO0_6.junk (runI m c t h xs).1) = k0_pay3 xs (iblk m c 0 t) (used m c t) (iblk m c 5 t) := by
  rw [used, if_neg (by omega), if_neg (by omega), if_pos (by omega)]
  unfold runI
  frame_out
  exact congrArg (fun a => k0_pay3 a (iblk m c 0 t) (iblk m c 3 t) (iblk m c 5 t)) ((Memref.isWhole_whole cc0_scratch0).read_unread xs)

theorem metJ : ∀ t : Fin cfg0.N, t.val % 16 = 12 → conds0_J (grid0.coords t) :=
  (by decide +kernel : ∀ t : Fin grid0.N, t.val % 16 = 12 → conds0_J (grid0.coords t))

/-- The run at a point of case J. -/
abbrev runJ (t : Fin cfg0.N) (h : t.val % 16 = 12) :=
  kernelRun0_J c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metJ t h).1 (metJ t h).2.1 (metJ t h).2.2.1 (metJ t h).2.2.2.1 (metJ t h).2.2.2.2.1 (metJ t h).2.2.2.2.2.1 (metJ t h).2.2.2.2.2.2.1 (metJ t h).2.2.2.2.2.2.2.1 (metJ t h).2.2.2.2.2.2.2.2.1 (metJ t h).2.2.2.2.2.2.2.2.2.1 (metJ t h).2.2.2.2.2.2.2.2.2.2.1 (metJ t h).2.2.2.2.2.2.2.2.2.2.2
    (iblk m c 0 t) (iblk m c 1 t) (iblk m c 2 t) (iblk m c 3 t) (iblk m c 4 t) (iblk m c 5 t)

theorem leavesJ (t : Fin cfg0.N) (h : t.val % 16 = 12) :
    VS0_0.read (Elt F) (VS0_0.writes (Elt F) VS0_0.junk (runJ m c t h).2.1) = k0_pay1 (iblk m c 0 t) (used m c t) := by
  rw [used, if_neg (by omega), if_neg (by omega), if_neg (by omega)]
  unfold runJ
  frame_out

theorem metK : ∀ t : Fin cfg0.N, (t.val % 16 = 13 ∨ t.val % 16 = 14) → conds0_K (grid0.coords t) :=
  (by decide +kernel : ∀ t : Fin grid0.N, (t.val % 16 = 13 ∨ t.val % 16 = 14) → conds0_K (grid0.coords t))

/-- The run at a point of case K. -/
abbrev runK (t : Fin cfg0.N) (h : t.val % 16 = 13 ∨ t.val % 16 = 14) (xs : Vec F S1024x512 .f32) :=
  kernelRun0_K c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metK t h).1 (metK t h).2.1 (metK t h).2.2.1 (metK t h).2.2.2.1 (metK t h).2.2.2.2.1 (metK t h).2.2.2.2.2.1 (metK t h).2.2.2.2.2.2.1 (metK t h).2.2.2.2.2.2.2.1 (metK t h).2.2.2.2.2.2.2.2.1 (metK t h).2.2.2.2.2.2.2.2.2.1 (metK t h).2.2.2.2.2.2.2.2.2.2.1 (metK t h).2.2.2.2.2.2.2.2.2.2.2
    (iblk m c 0 t) (iblk m c 1 t) (iblk m c 2 t) (iblk m c 3 t) (iblk m c 4 t) (iblk m c 5 t) xs

theorem leavesK (t : Fin cfg0.N) (h : t.val % 16 = 13 ∨ t.val % 16 = 14) (xs : Vec F S1024x512 .f32) :
    VS0_0.read (Elt F) (VS0_0.writes (Elt F) VS0_0.junk (runK m c t h xs).2.1) = k0_pay2 xs (iblk m c 0 t) (used m c t) := by
  rw [used, if_neg (by omega), if_neg (by omega), if_neg (by omega)]
  unfold runK
  frame_out
  exact congrArg (fun a => k0_pay2 a (iblk m c 0 t) (iblk m c 4 t)) ((Memref.isWhole_whole cc0_scratch0).read_unread xs)

theorem metL : ∀ t : Fin cfg0.N, t.val % 16 = 15 → conds0_L (grid0.coords t) :=
  (by decide +kernel : ∀ t : Fin grid0.N, t.val % 16 = 15 → conds0_L (grid0.coords t))

/-- The run at a point of case L. -/
abbrev runL (t : Fin cfg0.N) (h : t.val % 16 = 15) (xs : Vec F S1024x512 .f32) :=
  kernelRun0_L c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _)
    (metL t h).1 (metL t h).2.1 (metL t h).2.2.1 (metL t h).2.2.2.1 (metL t h).2.2.2.2.1 (metL t h).2.2.2.2.2.1 (metL t h).2.2.2.2.2.2.1 (metL t h).2.2.2.2.2.2.2.1 (metL t h).2.2.2.2.2.2.2.2.1 (metL t h).2.2.2.2.2.2.2.2.2.1 (metL t h).2.2.2.2.2.2.2.2.2.2.1 (metL t h).2.2.2.2.2.2.2.2.2.2.2
    (iblk m c 0 t) (iblk m c 1 t) (iblk m c 2 t) (iblk m c 3 t) (iblk m c 4 t) (iblk m c 5 t) xs

theorem leavesL (t : Fin cfg0.N) (h : t.val % 16 = 15) (xs : Vec F S1024x512 .f32) :
    VO0_6.read (Elt F) (VO0_6.writes (Elt F) VO0_6.junk (runL m c t h xs).1) = k0_pay3 xs (iblk m c 0 t) (used m c t) (iblk m c 5 t) := by
  rw [used, if_neg (by omega), if_neg (by omega), if_neg (by omega)]
  unfold runL
  frame_out
  exact congrArg (fun a => k0_pay3 a (iblk m c 0 t) (iblk m c 4 t) (iblk m c 5 t)) ((Memref.isWhole_whole cc0_scratch0).read_unread xs)

/-! ## The pipeline's proof data -/

/-- The invariant before a point: the accumulator at what the point before left, at anything before the first. -/
def PhiS (c : Dev nD) : (n : ℕ) → n ≤ cfg0.N → sProp 𝕄
  | 0, _ => Pipeline.ΦA spec0 c
  | n + 1, hn => iprop(owns (c : Thread nD τ) scM0_0 fullShare ((outsAt0 m c n hn).2) ∗ (∃ r, prngReg c r))

theorem PhiS_zero (n : ℕ) (h : n ≤ cfg0.N) (hz : n = 0) : PhiS m c n h = Pipeline.ΦA spec0 c := by
  subst hz; rfl

theorem PhiS_pos (n : ℕ) (h : n ≤ cfg0.N) (hz : n ≠ 0) :
    PhiS m c n h = iprop(owns (c : Thread nD τ) scM0_0 fullShare ((outsAt0 m c (n - 1) (by omega)).2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = iblk m c 5 t := by dsimp only [dats]
theorem after0_6 (t : Fin cfg0.N) : (dats m 0 c).after 6 t = (outsAt0 m c t.val t.isLt).1 := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d
theorem before0_5 (t : Fin cfg0.N) (d) : (dats m 0 c).before 5 t d = iblk m c 5 t :=
  before0_5_of m (dats m 0 c) (A_eq m c 5) (after0_5 m c) t d

/-! ## The body at a point -/

/-- What the body is called with at point `t`, window by window, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem idleAt (t : Fin cfg0.N) (h : t.val % 4 ≠ 3) : cfg0.idle 6 (grid0.coords t) = true :=
  (by decide +kernel : ∀ t : Fin grid0.N, t.val % 4 ≠ 3 → cfg0.idle 6 (grid0.coords t) = true) t h

theorem liveAt (t : Fin cfg0.N) (h : t.val % 4 = 3) : cfg0.idle 6 (grid0.coords t) = false :=
  (by decide +kernel : ∀ t : Fin grid0.N, t.val % 4 = 3 → cfg0.idle 6 (grid0.coords t) = false) t h

theorem noFlush (t : Fin cfg0.N) (h : t.val % 4 ≠ 3) : (cfg0.win 6).flush t = false :=
  Bool.eq_false_iff.mpr fun hf => h ((flush0_6 t).mp hf)

set_option maxHeartbeats 1600000 in
/-- A point that only stores into the accumulator, whatever it asks of it (`P`): from a run that leaves the pieces `LS` there. -/
theorem body_stores (t : Fin cfg0.N) (h : t.val % 4 ≠ 3) (P : sProp 𝕄) (hP : PhiS m c t.val (Nat.le_of_lt t.isLt) ⊢ iprop(P ∗ (∃ r, prngReg c r)))
    (LS : List (View.Piece (Elt F) S1024x512 .f32)) (cover : ∀ y, ∃ pc ∈ LS, y ∈ pc.1.set)
    (leaves : VS0_0.read (Elt F) (VS0_0.writes (Elt F) VS0_0.junk LS) = (outsAt0 m c t.val t.isLt).2)
    (run : ∀ (x : Vec F S1024x512 .f32) (E : Set ℕ) (K : PUnit → sProp 𝕄),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare x ∗ P
          ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare x ∗ (∃ f, scM0_0.view.loc (c : Thread nD τ) ↦[scM0_0.view.set]{fullShare} scM0_0.view.writes (Elt F) f LS)) -∗ K ⟨⟩))
        ⊢ wp frame (wpE (defs₀ (F := F)) Variants.none c none) E (bodyAt0 t) K) :
    bodyPre m c t ⊢ wp frame (wpE (defs₀ (F := F)) Variants.none c none) Set.univ (bodyAt0 t) (fun _ => bodyPost m c t) := by
  unfold bodyPre bodyPost
  rw [PhiS_castSucc m c t]
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [Dat.leavesExact_idle (dats m 0 c) 6 t (idleAt t h) (noFlush t h)]
  iintro ⟨HI, Ho, ⟨%d0, H0⟩, ⟨%d1, H1⟩, ⟨%d2, H2⟩, ⟨%d3, H3⟩, ⟨%d4, H4⟩, ⟨%d5, H5⟩, ⟨%d6, H6⟩⟩
  icases hP $$ HI with ⟨HP, Hg⟩
  iapply (run _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HP]; · iexact HP
  iintro ⟨H0, H1, H2, H3, H4, H5, H6, ⟨%es, HS⟩⟩
  isplitl [HS Hg]
  · isplitl [HS]
    · unfold owns; iexists _; isplitr
      swap; · iexact HS
      ipureintro; exact (View.read_writes_of_cover _ _ _ _ _ cover).trans leaves
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; iexact H6

set_option maxHeartbeats 1600000 in
/-- The last of four points, which reads the accumulator and stores the result: from a run that leaves the pieces `L` there. -/
theorem body_hands (t : Fin cfg0.N) (h : t.val % 4 = 3)
    (L : List (View.Piece (Elt F) S1024x512 .f32)) (cover : ∀ y, ∃ pc ∈ L, y ∈ pc.1.set)
    (leaves : VO0_6.read (Elt F) (VO0_6.writes (Elt F) VO0_6.junk L) = k0_pay3 (prev m c t) (iblk m c 0 t) (used m c t) (iblk m c 5 t))
    (run : ∀ (E : Set ℕ) (K : PUnit → sProp 𝕄),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ (∃ d, owns (c : Thread nD τ) (ms0_6 t) fullShare d) ∗ owns (c : Thread nD τ) scM0_0 fullShare (prev m c t)
          ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ (∃ f, (ms0_6 t).view.loc (c : Thread nD τ) ↦[(ms0_6 t).view.set]{fullShare} (ms0_6 t).view.writes (Elt F) f L) ∗ owns (c : Thread nD τ) scM0_0 fullShare (prev m c t)) -∗ K ⟨⟩))
        ⊢ wp frame (wpE (defs₀ (F := F)) Variants.none c none) E (bodyAt0 t) K) :
    bodyPre m c t ⊢ wp frame (wpE (defs₀ (F := F)) Variants.none c none) Set.univ (bodyAt0 t) (fun _ => bodyPost m c t) := by
  unfold bodyPre bodyPost
  rw [PhiS_castSucc m c t, PhiS_pos m c _ _ (by omega)]
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt t h], after0_6]
  rw [show (outsAt0 m c (t.val + 1 - 1) t.isLt) = _ from at_last m c t h, at_last m c t h]
  iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  iintro ⟨H0, H1, H2, H3, H4, H5, ⟨%e, H6⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact (View.read_writes_of_cover _ _ _ _ _ cover).trans leaves

/-- The accumulator before a point, its contents forgotten. -/
theorem accAny (t : Fin cfg0.N) : PhiS m c t.val (Nat.le_of_lt t.isLt) ⊢ iprop((∃ d, owns (c : Thread nD τ) scM0_0 fullShare d) ∗ (∃ r, prngReg c r)) := by
  by_cases hz : t.val = 0
  · rw [PhiS_zero m c _ _ hz, PhiA0_eq]
    try exact Idealize.SL.BI.Entails.refl _
  · rw [PhiS_pos m c _ _ hz]
    iintro ⟨HS, Hg⟩
    isplitl [HS]
    · iexists _; iexact HS
    iexact Hg

/-- The accumulator before a point that is not the first. -/
theorem accPrev (t : Fin cfg0.N) (h : t.val ≠ 0) : PhiS m c t.val (Nat.le_of_lt t.isLt) ⊢ iprop(owns (c : Thread nD τ) scM0_0 fullShare (prev m c t) ∗ (∃ r, prngReg c r)) := by
  rw [PhiS_pos m c _ _ h]
  exact Idealize.SL.BI.Entails.refl _

/-- The body at any point: which run is met is read off the point's place in its sixteen. -/
theorem sound_body (t : Fin cfg0.N) : bodyPre m c t ⊢ wp frame (wpE (defs₀ (F := F)) Variants.none c none) Set.univ (bodyAt0 t) (fun _ => bodyPost m c t) := by
  have h : t.val % 16 = 0 ∨ (t.val % 16 = 1 ∨ t.val % 16 = 2) ∨ t.val % 16 = 3 ∨ t.val % 16 = 4 ∨ (t.val % 16 = 5 ∨ t.val % 16 = 6) ∨ t.val % 16 = 7 ∨ t.val % 16 = 8 ∨ (t.val % 16 = 9 ∨ t.val % 16 = 10) ∨ t.val % 16 = 11 ∨ t.val % 16 = 12 ∨ (t.val % 16 = 13 ∨ t.val % 16 = 14) ∨ t.val % 16 = 15 := by omega
  rcases h with h | h | h | h | h | h | h | h | h | h | h | h
  · exact body_stores m c t (by omega) _ (accAny m c t) (runA m c t h).2.1 (View.cover_of_tiledL _ S1024x512.size (by sl_kernel_rfl))
      ((leavesA m c t h).trans (at_first m c t (by omega)).symm) (runA m c t h).2.2
  · exact body_stores m c t (by omega) _ (accPrev m c t (by omega)) (runB m c t h (prev m c t)).2.1 (View.cover_of_tiledL _ S1024x512.size (by sl_kernel_rfl))
      ((leavesB m c t h _).trans (at_middle m c t (by omega)).symm) (runB m c t h (prev m c t)).2.2
  · exact body_hands m c t (by omega) (runC m c t h (prev m c t)).1 (View.cover_of_tiledL _ S1024x512.size (by sl_kernel_rfl))
      (leavesC m c t h _) (runC m c t h (prev m c t)).2.2
  · exact body_stores m c t (by omega) _ (accAny m c t) (runD m c t h).2.1 (View.cover_of_tiledL _ S1024x512.size (by sl_kernel_rfl))
      ((leavesD m c t h).trans (at_first m c t (by omega)).symm) (runD m c t h).2.2
  · exact body_stores m c t (by omega) _ (accPrev m c t (by omega)) (runE m c t h (prev m c t)).2.1 (View.cover_of_tiledL _ S1024x512.size (by sl_kernel_rfl))
      ((leavesE m c t h _).trans (at_middle m c t (by omega)).symm) (runE m c t h (prev m c t)).2.2
  · exact body_hands m c t (by omega) (runF m c t h (prev m c t)).1 (View.cover_of_tiledL _ S1024x512.size (by sl_kernel_rfl))
      (leavesF m c t h _) (runF m c t h (prev m c t)).2.2
  · exact body_stores m c t (by omega) _ (accAny m c t) (runG m c t h).2.1 (View.cover_of_tiledL _ S1024x512.size (by sl_kernel_rfl))
      ((leavesG m c t h).trans (at_first m c t (by omega)).symm) (runG m c t h).2.2
  · exact body_stores m c t (by omega) _ (accPrev m c t (by omega)) (runH m c t h (prev m c t)).2.1 (View.cover_of_tiledL _ S1024x512.size (by sl_kernel_rfl))
      ((leavesH m c t h _).trans (at_middle m c t (by omega)).symm) (runH m c t h (prev m c t)).2.2
  · exact body_hands m c t (by omega) (runI m c t h (prev m c t)).1 (View.cover_of_tiledL _ S1024x512.size (by sl_kernel_rfl))
      (leavesI m c t h _) (runI m c t h (prev m c t)).2.2
  · exact body_stores m c t (by omega) _ (accAny m c t) (runJ m c t h).2.1 (View.cover_of_tiledL _ S1024x512.size (by sl_kernel_rfl))
      ((leavesJ m c t h).trans (at_first m c t (by omega)).symm) (runJ m c t h).2.2
  · exact body_stores m c t (by omega) _ (accPrev m c t (by omega)) (runK m c t h (prev m c t)).2.1 (View.cover_of_tiledL _ S1024x512.size (by sl_kernel_rfl))
      ((leavesK m c t h _).trans (at_middle m c t (by omega)).symm) (runK m c t h (prev m c t)).2.2
  · exact body_hands m c t (by omega) (runL m c t h (prev m c t)).1 (View.cover_of_tiledL _ S1024x512.size (by sl_kernel_rfl))
      (leavesL m c t h _) (runL m c t h (prev m c t)).2.2

/-! ## The launch -/

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout : (dats m 0 c).Φ (Fin.last cfg0.N) ⊢ Pipeline.ΦA spec0 c := by
  rw [show (dats m 0 c).Φ (Fin.last cfg0.N) = PhiS m c cfg0.N le_rfl from rfl, PhiS_pos m c _ _ (by rw [show cfg0.N = 64 from N_0]; decide), PhiA0_eq]
  iintro ⟨HS, Hg⟩
  isplitl [HS]
  · iexists _; iexact HS
  iexact Hg

set_option backward.isDefEq.respectTransparency.types false in
/-- The launch: every array of the pipeline ends at what the proof data computes, every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) :=
  frame_of m ρ (dats m) (A_eq m) (run_main m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2)) ∧ r.2.sem = fun _ => 0) :=
  θ_run_and (unchanged m ρ) ((θ_run defs _ _).mono (fun _ h => h.2) (run_all m ρ))

/-- The result ends at the array the points wrote back, the arguments as launched. -/
theorem run_blocks : θ_run defs (onTc (τ := τ) (main (F := F))) ⟨m, fun _ => 0, ρ⟩ fun r => ∀ c : Dev nD,
      r.2.mem ((c : Thread nD τ).loc main_v6) = (dats m 0 c).arrAt 6 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) :=
  (θ_run defs _ _).mono (fun _ h c => ⟨(h.1 c).1 6, h.2 c⟩) (θ_run_and (run_main m ρ) (unchanged m ρ))

end Cert.Kernel13Ideal.Gen
-- ==== Proof.Mlp.EntryFirstInput.lean ====
/- The call that computes the first four blocks' share of the cotangent of the input, through their projections. -/
module

public import proofs.«01_k».proof.Defs
public import proofs.«01_k».proof.Proof.Mlp.Product
public import proofs.«01_k».proof.Proof.Gen.Kernel13
public import proofs.«01_k».proof.Proof.Gen.Kernel13Ideal
public import proofs.«01_k».proof.Proof.Gen.Reference13Ideal
public import proofs.«01_k».proof.Proof.Gen.Reference13Ideal.Run
public import proofs.«01_k».proof.Proof.Gen.Reference13Ideal.Read
public import proofs.«01_k».proof.Proof.Mlp.EntryRun
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference13Ideal

/-- What the reference computes, entry by entry. -/
theorem joined_ref (d : S4096x9728.Idx → EReal) (w : S2048x9728.Idx → EReal) (res : S4096x2048.Idx → EReal) (i : S4096x2048.Idx) :
    Read.val_main_v8 (F := Ideal) d w res i = joined d w res (i 0) (i 1) := by
  simp only [Read.val_main_v8_apply, Read.val_main_v7_apply, Read.val_main_v6_apply, Read.val_main_cst_1_apply, Read.val_main_v5_apply, Read.val_main_v4_apply]
  refine congrArg₂ (fun a b : EReal => a + b) (Finset.sum_congr rfl fun k _ => ?_) (congrArg (fun a => alpha * res a) (eq_ix2 i))
  exact congrArg₂ (fun a b => d a * w b) (eq_ix2 (Read.lidx_main_v5 i k)) (eq_ix2 (Read.ridx_main_v5 i k))

end Cert.Reference13Ideal

namespace Cert.Kernel13Ideal.Gen

open Cert.Kernel13Ideal

variable (m : (ℓ : Loc nD τ sig) → Buf (Elt Ideal) ℓ) (c : Dev nD)

/-- Where the blocks of the rows, the residual and the result lie at a point. -/
theorem idx : ∀ t : Fin cfg0.N, win0_0.index t = ![t.val / 16, t.val % 4] ∧ win0_5.index t = ![t.val / 16, t.val / 4 % 4] ∧ win0_6.index t = ![t.val / 16, t.val / 4 % 4] :=
  (by decide +kernel : ∀ t : Fin grid0.N, _)

/-- Where the block of the weight piece in use lies at a point: each piece serves one block of columns. -/
theorem idxPiece : ∀ t : Fin cfg0.N, (t.val / 4 % 4 = 0 → win0_1.index t = ![t.val % 4, 0]) ∧ (t.val / 4 % 4 = 1 → win0_2.index t = ![t.val % 4, 0])
    ∧ (t.val / 4 % 4 = 2 → win0_3.index t = ![t.val % 4, 0]) ∧ (t.val / 4 % 4 = 3 → win0_4.index t = ![t.val % 4, 0]) :=
  (by decide +kernel : ∀ t : Fin grid0.N, _)

/-- The row of the whole result an entry of a point's block is in, and its column. -/
def row (t : Fin cfg0.N) (j : S1024x512.Idx) : Fin 4096 :=
  ⟨t.val / 16 * 1024 + (j 0).val, by have := lt_of_lt_of_eq t.isLt (show cfg0.N = 64 from N_0); have := ValueIdx.idx2_lt0 j; omega⟩

def col (t : Fin cfg0.N) (j : S1024x512.Idx) : Fin 2048 :=
  ⟨t.val / 4 % 4 * 512 + (j 1).val, by have := ValueIdx.idx2_lt1 j; omega⟩

/-- One quarter of the sum at row `r` and column `n`. -/
def quarter (r : Fin 4096) (n : Fin 2048) (q : Fin 4) : EReal :=
  alongQuarter 2432 (by decide) (m ((c : Thread nD τ).loc main_arg0)) (m ((c : Thread nD τ).loc main_arg1)) r n q

/-- The product of a point's blocks is the quarter of its place among four. -/
theorem blocks (t : Fin cfg0.N) (j : S1024x512.Idx) :
    product (iblk m c 0 t : S1024x2432.Idx → EReal) (used m c t : S2432x512.Idx → EReal) (j 0) (j 1)
      = quarter m c (row t j) (col t j) ⟨t.val % 4, Nat.mod_lt _ (by decide)⟩ := by
  have i := idx t
  have p := idxPiece t
  have hp : t.val / 4 % 4 = 0 ∨ t.val / 4 % 4 = 1 ∨ t.val / 4 % 4 = 2 ∨ t.val / 4 % 4 = 3 := by omega
  unfold product quarter alongQuarter row col
  rcases hp with hp | hp | hp | hp
  · have w := p.1 hp
    have e : used m c t = iblk m c 1 t := by unfold used; rw [if_pos hp]
    rw [e]
    simp only [hp]
    blk_point [iblk, V, i, w]
  · have w := p.2.1 hp
    have e : used m c t = iblk m c 2 t := by unfold used; rw [if_neg (by omega), if_pos hp]
    rw [e]
    simp only [hp]
    blk_point [iblk, V, i, w]
  · have w := p.2.2.1 hp
    have e : used m c t = iblk m c 3 t := by unfold used; rw [if_neg (by omega), if_neg (by omega), if_pos hp]
    rw [e]
    simp only [hp]
    blk_point [iblk, V, i, w]
  · have w := p.2.2.2 hp
    have e : used m c t = iblk m c 4 t := by unfold used; rw [if_neg (by omega), if_neg (by omega), if_neg (by omega)]
    rw [e]
    simp only [hp]
    blk_point [iblk, V, i, w]

/-- What the first of four points leaves in the accumulator. -/
theorem first (t : Fin cfg0.N) (h : t.val % 4 = 0) (j : S1024x512.Idx) :
    (outsAt0 m c t.val t.isLt).2 j = quarter m c (row t j) (col t j) 0 := by
  rw [at_first m c t h]
  refine Eq.trans ?_ ((blocks m c t j).trans (congrArg (quarter m c (row t j) (col t j)) (Fin.ext h)))
  generalize used m c t = w
  pointwise [k0_pay1, product]

/-- What a middle point adds to it. -/
theorem middle (t : Fin cfg0.N) (h : t.val % 4 = 1 ∨ t.val % 4 = 2) (j : S1024x512.Idx) :
    (outsAt0 m c t.val t.isLt).2 j = prev m c t j + quarter m c (row t j) (col t j) ⟨t.val % 4, Nat.mod_lt _ (by decide)⟩ := by
  rw [at_middle m c t h, ← blocks m c t j]
  generalize used m c t = w
  generalize prev m c t = x
  pointwise [k0_pay2, product]

/-- What the last hands over. -/
theorem last (t : Fin cfg0.N) (h : t.val % 4 = 3) (j : S1024x512.Idx) :
    (outsAt0 m c t.val t.isLt).1 j = (prev m c t j + quarter m c (row t j) (col t j) 3)
      + alpha * (iblk m c 5 t : S1024x512.Idx → EReal) j := by
  rw [at_last m c t h, show quarter m c (row t j) (col t j) 3 = _ from (congrArg (quarter m c (row t j) (col t j)) (Fin.ext h.symm)).trans (blocks m c t j).symm]
  generalize used m c t = w
  generalize prev m c t = x
  pointwise [k0_pay3, product, alpha]

/-- The four quarters, as the four points add them, are the whole sum. -/
theorem whole (t : Fin cfg0.N) (h : t.val % 4 = 3) (j : S1024x512.Idx) :
    (outsAt0 m c t.val t.isLt).1 j = alongRows (m ((c : Thread nD τ).loc main_arg0)) (m ((c : Thread nD τ).loc main_arg1)) (row t j) (col t j)
      + alpha * (iblk m c 5 t : S1024x512.Idx → EReal) j := by
  have before : ∀ s, t.val - s < cfg0.N := fun s => Nat.lt_of_le_of_lt (Nat.sub_le _ _) t.isLt
  have same : ∀ s (hs : s ≤ 3) (q : Fin 4), quarter m c (row ⟨t.val - s, before s⟩ j) (col ⟨t.val - s, before s⟩ j) q = quarter m c (row t j) (col t j) q :=
    fun s hs q => congrArg₂ (fun r n => quarter m c r n q) (Fin.ext (by show (t.val - s) / 16 * 1024 + _ = t.val / 16 * 1024 + _; omega))
      (Fin.ext (by show (t.val - s) / 4 % 4 * 512 + _ = t.val / 4 % 4 * 512 + _; omega))
  have e2 : prev m c t j = _ := middle m c ⟨t.val - 1, before 1⟩ (by show (t.val - 1) % 4 = 1 ∨ (t.val - 1) % 4 = 2; omega) j
  have e1 : prev m c ⟨t.val - 1, before 1⟩ j = _ := middle m c ⟨t.val - 2, before 2⟩ (by show (t.val - 2) % 4 = 1 ∨ (t.val - 2) % 4 = 2; omega) j
  have e0 : prev m c ⟨t.val - 2, before 2⟩ j = _ := first m c ⟨t.val - 3, before 3⟩ (by show (t.val - 3) % 4 = 0; omega) j
  have q2 : (⟨(t.val - 1) % 4, Nat.mod_lt _ (by decide)⟩ : Fin 4) = 2 := Fin.ext (by show (t.val - 1) % 4 = 2; omega)
  have q1 : (⟨(t.val - 2) % 4, Nat.mod_lt _ (by decide)⟩ : Fin 4) = 1 := Fin.ext (by show (t.val - 2) % 4 = 1; omega)
  rw [last m c t h j, e2, e1, e0, same 1 (by omega), same 2 (by omega), same 3 (by omega)]
  dsimp only
  rw [q2, q1]
  exact congrArg (fun a : EReal => a + alpha * (iblk m c 5 t : S1024x512.Idx → EReal) j) (alongRows_quarters 2432 (by decide) (m ((c : Thread nD τ).loc main_arg0)) (m ((c : Thread nD τ).loc main_arg1)) (row t j) (col t j))

/-- The kernel's result, entry by entry. -/
theorem out6 : (dats m 0 c).arrAt 6 cfg0.N = fun i : S4096x2048.Idx => joined (m ((c : Thread nD τ).loc main_arg0)) (m ((c : Thread nD τ).loc main_arg1)) (m ((c : Thread nD τ).loc main_arg2)) (i 0) (i 1) := by
  refine (dats m 0 c).arrAt_eq_of_covers 6 _ (by decide +kernel) fun t hf y => ?_
  have ht : t.val % 4 = 3 := (flush0_6 t).mp hf
  have i := idx t
  rw [after0_6]
  refine (whole m c t ht y).trans ?_
  blk_simp [i]
  unfold joined row col
  blk_point [iblk, V, i]

end Cert.Kernel13Ideal.Gen

namespace Cert.Proof

/-- The kernel over machine floats has the same bodies and the same table. -/
theorem bodies13 : Cert.Kernel13.defs₀ (F := Bits) = Cert.Kernel13Ideal.defs₀ (F := Bits) :=
  congrArg Defs.onTc (funext fun ℓ => funext fun a => by obtain ⟨k, h⟩ := ℓ; obtain rfl : k = 0 := Nat.lt_one_iff.1 h; rfl)

theorem table13 : Cert.Kernel13.defs (F := Bits) = Cert.Kernel13Ideal.defs (F := Bits) := congrArg (Pipeline.defs Cert.Kernel13.pcfgs) bodies13

/-- So its frame is the same run. -/
theorem frame13 : Cert.quiescent_Kernel13 := fun m g _ => by
  rw [table13]
  exact Cert.Kernel13Ideal.Gen.frame (F := Bits) m g

/-- The reference ends with its arguments as they were and every counter at zero. -/
theorem reference13_frame [Cert.Reference13Ideal.Facts] : Cert.quiescent_Reference13Ideal := fun m g _ =>
  (θ_run _ _ _).mono (fun r h => ⟨fun c => (h c).2, sem_eq_zero_of_no_sems (by decide) r.2⟩) (Cert.Reference13Ideal.Value.run (F := Ideal) m g)

/-- Both programs' results are the same sums of the arguments' entries. -/
theorem values13 : Cert.algebraic_Kernel13Ideal_Reference13Ideal := by
  intro m g m' g' _ hagree
  refine ⟨fun c i => joined (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (i 0) (i 1),
    (θ_run _ _ _).mono (fun r h c => ?_) (Cert.Kernel13Ideal.Gen.run_blocks (F := Ideal) m g),
    (θ_run _ _ _).mono (fun r h c => ?_) (Cert.Reference13Ideal.Value.run (F := Ideal) m' g')⟩
  · obtain ⟨h0, ha⟩ := h c
    exact ⟨h0.trans (Cert.Kernel13Ideal.Gen.out6 m c), ha⟩
  · obtain ⟨h0, ha⟩ := h c
    refine ⟨(h0.trans (Cert.Reference13Ideal.Read.val_main_v8_eq (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)))).trans (funext fun i => ?_), ha⟩
    rw [(hagree c).1, (hagree c).2.1, (hagree c).2.2]
    exact Cert.Reference13Ideal.joined_ref _ _ _ i

end Cert.Proof
-- ==== Proof.Mlp.OutputRun.lean ====
/- The run of the call that computes the second layer: what each point leaves, the body at a point, the launch. -/
module

public import proofs.«01_k».proof.Proof.Gen.Kernel14Ideal.Frame.RunL
public import Idealize.ShloMosaic.Lib.Claim
public import Idealize.ShloMosaic.Lib.Pipeline.ValueKit

@[expose] public section

set_option maxRecDepth 16384

noncomputable section

namespace Cert.Kernel14Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ## What a point leaves -/

/-- The block of the weight in use at a point: of the piece that holds the point's columns. -/
def used (t : Fin cfg0.N) : Vec F S2048x512 .bf16 :=
  if t.val / 4 % 4 = 0 then iblk m c 1 t else if t.val / 4 % 4 = 1 then iblk m c 2 t else if t.val / 4 % 4 = 2 then iblk m c 3 t else iblk m c 4 t

/-- What the point leaves for the result and in the accumulator, which it found at `xs`: the first of four points stores its
    product, the next two add theirs, the last hands the sum over. -/
def step (t : Fin cfg0.N) (xs : Vec F S1024x512 .f32) : Vec F S1024x512 .f32 × Vec F S1024x512 .f32 :=
  if t.val % 4 = 0 then (VO0_5.read (Elt F) VO0_5.junk, k0_pay1 (iblk m c 0 t) (used m c t))
  else if t.val % 4 = 3 then (k0_pay3 xs (iblk m c 0 t) (used m c t), xs)
  else (VO0_5.read (Elt F) VO0_5.junk, k0_pay2 xs (iblk m c 0 t) (used m c t))

/-- The same from the first point on. -/
def outsAt0 : (n : ℕ) → n < cfg0.N → Vec F S1024x512 .f32 × Vec F S1024x512 .f32
  | 0, h => step m c ⟨0, h⟩ (VS0_0.read (Elt F) VS0_0.junk)
  | n + 1, h => step m c ⟨n + 1, h⟩ (outsAt0 n (Nat.lt_of_succ_lt h)).2

/-- The accumulator as the point before left it. -/
def prev (t : Fin cfg0.N) : Vec F S1024x512 .f32 := (outsAt0 m c (t.val - 1) (Nat.lt_of_le_of_lt (Nat.sub_le _ _) t.isLt)).2

theorem outsAt0_pos (t : Fin cfg0.N) (h : t.val ≠ 0) : outsAt0 m c t.val t.isLt = step m c t (prev m c t) := by
  obtain ⟨n, hn⟩ := t
  cases n with
  | zero => exact absurd rfl h
  | succ n => rfl

theorem at_first (t : Fin cfg0.N) (h : t.val % 4 = 0) : (outsAt0 m c t.val t.isLt).2 = k0_pay1 (iblk m c 0 t) (used m c t) := by
  obtain ⟨n, hn⟩ := t
  cases n <;> (unfold outsAt0 step; rw [if_pos h])

theorem at_middle (t : Fin cfg0.N) (h : t.val % 4 = 1 ∨ t.val % 4 = 2) :
    (outsAt0 m c t.val t.isLt).2 = k0_pay2 (prev m c t) (iblk m c 0 t) (used m c t) := by
  rw [outsAt0_pos m c t (by omega), step, if_neg (by omega), if_neg (by omega)]

theorem at_last (t : Fin cfg0.N) (h : t.val % 4 = 3) :
    outsAt0 m c t.val t.isLt = (k0_pay3 (prev m c t) (iblk m c 0 t) (used m c t), prev m c t) := by
  rw [outsAt0_pos m c t (by omega), step, if_neg (by omega), if_pos h]

/-! ## The body's runs at the points they are met at -/

theorem metA : ∀ t : Fin cfg0.N, t.val % 16 = 0 → conds0_A (grid0.coords t) :=
  (by decide +kernel : ∀ t : Fin grid0.N, t.val % 16 = 0 → conds0_A (grid0.coords t))

/-- The run at a point of case A. -/
abbrev runA (t : Fin cfg0.N) (h : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metA t h).1 (metA t h).2.1 (metA t h).2.2.1 (metA t h).2.2.2.1 (metA t h).2.2.2.2.1 (metA t h).2.2.2.2.2.1 (metA t h).2.2.2.2.2.2.1 (metA t h).2.2.2.2.2.2.2.1 (metA t h).2.2.2.2.2.2.2.2.1 (metA t h).2.2.2.2.2.2.2.2.2.1 (metA t h).2.2.2.2.2.2.2.2.2.2.1 (metA t h).2.2.2.2.2.2.2.2.2.2.2
    (iblk m c 0 t) (iblk m c 1 t) (iblk m c 2 t) (iblk m c 3 t) (iblk m c 4 t)

theorem leavesA (t : Fin cfg0.N) (h : t.val % 16 = 0) :
    VS0_0.read (Elt F) (VS0_0.writes (Elt F) VS0_0.junk (runA m c t h).2.1) = k0_pay1 (iblk m c 0 t) (used m c t) := by
  rw [used, if_pos (by omega)]
  unfold runA
  frame_out
  rfl

theorem metB : ∀ t : Fin cfg0.N, (t.val % 16 = 1 ∨ t.val % 16 = 2) → conds0_B (grid0.coords t) :=
  (by decide +kernel : ∀ t : Fin grid0.N, (t.val % 16 = 1 ∨ t.val % 16 = 2) → conds0_B (grid0.coords t))

/-- The run at a point of case B. -/
abbrev runB (t : Fin cfg0.N) (h : t.val % 16 = 1 ∨ t.val % 16 = 2) (xs : Vec F S1024x512 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metB t h).1 (metB t h).2.1 (metB t h).2.2.1 (metB t h).2.2.2.1 (metB t h).2.2.2.2.1 (metB t h).2.2.2.2.2.1 (metB t h).2.2.2.2.2.2.1 (metB t h).2.2.2.2.2.2.2.1 (metB t h).2.2.2.2.2.2.2.2.1 (metB t h).2.2.2.2.2.2.2.2.2.1 (metB t h).2.2.2.2.2.2.2.2.2.2.1 (metB t h).2.2.2.2.2.2.2.2.2.2.2
    (iblk m c 0 t) (iblk m c 1 t) (iblk m c 2 t) (iblk m c 3 t) (iblk m c 4 t) xs

theorem leavesB (t : Fin cfg0.N) (h : t.val % 16 = 1 ∨ t.val % 16 = 2) (xs : Vec F S1024x512 .f32) :
    VS0_0.read (Elt F) (VS0_0.writes (Elt F) VS0_0.junk (runB m c t h xs).2.1) = k0_pay2 xs (iblk m c 0 t) (used m c t) := by
  rw [used, if_pos (by omega)]
  unfold runB
  frame_out
  exact congrArg (fun a => k0_pay2 a (iblk m c 0 t) (iblk m c 1 t)) ((Memref.isWhole_whole cc0_scratch0).read_unread xs)

theorem metC : ∀ t : Fin cfg0.N, t.val % 16 = 3 → conds0_C (grid0.coords t) :=
  (by decide +kernel : ∀ t : Fin grid0.N, t.val % 16 = 3 → conds0_C (grid0.coords t))

/-- The run at a point of case C. -/
abbrev runC (t : Fin cfg0.N) (h : t.val % 16 = 3) (xs : Vec F S1024x512 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metC t h).1 (metC t h).2.1 (metC t h).2.2.1 (metC t h).2.2.2.1 (metC t h).2.2.2.2.1 (metC t h).2.2.2.2.2.1 (metC t h).2.2.2.2.2.2.1 (metC t h).2.2.2.2.2.2.2.1 (metC t h).2.2.2.2.2.2.2.2.1 (metC t h).2.2.2.2.2.2.2.2.2.1 (metC t h).2.2.2.2.2.2.2.2.2.2.1 (metC t h).2.2.2.2.2.2.2.2.2.2.2
    (iblk m c 0 t) (iblk m c 1 t) (iblk m c 2 t) (iblk m c 3 t) (iblk m c 4 t) xs

theorem leavesC (t : Fin cfg0.N) (h : t.val % 16 = 3) (xs : Vec F S1024x512 .f32) :
    VO0_5.read (Elt F) (VO0_5.writes (Elt F) VO0_5.junk (runC m c t h xs).1) = k0_pay3 xs (iblk m c 0 t) (used m c t) := by
  rw [used, if_pos (by omega)]
  unfold runC
  frame_out
  exact congrArg (fun a => k0_pay3 a (iblk m c 0 t) (iblk m c 1 t)) ((Memref.isWhole_whole cc0_scratch0).read_unread xs)

theorem metD : ∀ t : Fin cfg0.N, t.val % 16 = 4 → conds0_D (grid0.coords t) :=
  (by decide +kernel : ∀ t : Fin grid0.N, t.val % 16 = 4 → conds0_D (grid0.coords t))

/-- The run at a point of case D. -/
abbrev runD (t : Fin cfg0.N) (h : t.val % 16 = 4) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metD t h).1 (metD t h).2.1 (metD t h).2.2.1 (metD t h).2.2.2.1 (metD t h).2.2.2.2.1 (metD t h).2.2.2.2.2.1 (metD t h).2.2.2.2.2.2.1 (metD t h).2.2.2.2.2.2.2.1 (metD t h).2.2.2.2.2.2.2.2.1 (metD t h).2.2.2.2.2.2.2.2.2.1 (metD t h).2.2.2.2.2.2.2.2.2.2.1 (metD t h).2.2.2.2.2.2.2.2.2.2.2
    (iblk m c 0 t) (iblk m c 1 t) (iblk m c 2 t) (iblk m c 3 t) (iblk m c 4 t)

theorem leavesD (t : Fin cfg0.N) (h : t.val % 16 = 4) :
    VS0_0.read (Elt F) (VS0_0.writes (Elt F) VS0_0.junk (runD m c t h).2.1) = k0_pay1 (iblk m c 0 t) (used m c t) := by
  rw [used, if_neg (by omega), if_pos (by omega)]
  unfold runD
  frame_out
  rfl

theorem metE : ∀ t : Fin cfg0.N, (t.val % 16 = 5 ∨ t.val % 16 = 6) → conds0_E (grid0.coords t) :=
  (by decide +kernel : ∀ t : Fin grid0.N, (t.val % 16 = 5 ∨ t.val % 16 = 6) → conds0_E (grid0.coords t))

/-- The run at a point of case E. -/
abbrev runE (t : Fin cfg0.N) (h : t.val % 16 = 5 ∨ t.val % 16 = 6) (xs : Vec F S1024x512 .f32) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metE t h).1 (metE t h).2.1 (metE t h).2.2.1 (metE t h).2.2.2.1 (metE t h).2.2.2.2.1 (metE t h).2.2.2.2.2.1 (metE t h).2.2.2.2.2.2.1 (metE t h).2.2.2.2.2.2.2.1 (metE t h).2.2.2.2.2.2.2.2.1 (metE t h).2.2.2.2.2.2.2.2.2.1 (metE t h).2.2.2.2.2.2.2.2.2.2.1 (metE t h).2.2.2.2.2.2.2.2.2.2.2
    (iblk m c 0 t) (iblk m c 1 t) (iblk m c 2 t) (iblk m c 3 t) (iblk m c 4 t) xs

theorem leavesE (t : Fin cfg0.N) (h : t.val % 16 = 5 ∨ t.val % 16 = 6) (xs : Vec F S1024x512 .f32) :
    VS0_0.read (Elt F) (VS0_0.writes (Elt F) VS0_0.junk (runE m c t h xs).2.1) = k0_pay2 xs (iblk m c 0 t) (used m c t) := by
  rw [used, if_neg (by omega), if_pos (by omega)]
  unfold runE
  frame_out
  exact congrArg (fun a => k0_pay2 a (iblk m c 0 t) (iblk m c 2 t)) ((Memref.isWhole_whole cc0_scratch0).read_unread xs)

theorem metF : ∀ t : Fin cfg0.N, t.val % 16 = 7 → conds0_F (grid0.coords t) :=
  (by decide +kernel : ∀ t : Fin grid0.N, t.val % 16 = 7 → conds0_F (grid0.coords t))

/-- The run at a point of case F. -/
abbrev runF (t : Fin cfg0.N) (h : t.val % 16 = 7) (xs : Vec F S1024x512 .f32) :=
  kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metF t h).1 (metF t h).2.1 (metF t h).2.2.1 (metF t h).2.2.2.1 (metF t h).2.2.2.2.1 (metF t h).2.2.2.2.2.1 (metF t h).2.2.2.2.2.2.1 (metF t h).2.2.2.2.2.2.2.1 (metF t h).2.2.2.2.2.2.2.2.1 (metF t h).2.2.2.2.2.2.2.2.2.1 (metF t h).2.2.2.2.2.2.2.2.2.2.1 (metF t h).2.2.2.2.2.2.2.2.2.2.2
    (iblk m c 0 t) (iblk m c 1 t) (iblk m c 2 t) (iblk m c 3 t) (iblk m c 4 t) xs

theorem leavesF (t : Fin cfg0.N) (h : t.val % 16 = 7) (xs : Vec F S1024x512 .f32) :
    VO0_5.read (Elt F) (VO0_5.writes (Elt F) VO0_5.junk (runF m c t h xs).1) = k0_pay3 xs (iblk m c 0 t) (used m c t) := by
  rw [used, if_neg (by omega), if_pos (by omega)]
  unfold runF
  frame_out
  exact congrArg (fun a => k0_pay3 a (iblk m c 0 t) (iblk m c 2 t)) ((Memref.isWhole_whole cc0_scratch0).read_unread xs)

theorem metG : ∀ t : Fin cfg0.N, t.val % 16 = 8 → conds0_G (grid0.coords t) :=
  (by decide +kernel : ∀ t : Fin grid0.N, t.val % 16 = 8 → conds0_G (grid0.coords t))

/-- The run at a point of case G. -/
abbrev runG (t : Fin cfg0.N) (h : t.val % 16 = 8) :=
  kernelRun0_G c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metG t h).1 (metG t h).2.1 (metG t h).2.2.1 (metG t h).2.2.2.1 (metG t h).2.2.2.2.1 (metG t h).2.2.2.2.2.1 (metG t h).2.2.2.2.2.2.1 (metG t h).2.2.2.2.2.2.2.1 (metG t h).2.2.2.2.2.2.2.2.1 (metG t h).2.2.2.2.2.2.2.2.2.1 (metG t h).2.2.2.2.2.2.2.2.2.2.1 (metG t h).2.2.2.2.2.2.2.2.2.2.2
    (iblk m c 0 t) (iblk m c 1 t) (iblk m c 2 t) (iblk m c 3 t) (iblk m c 4 t)

theorem leavesG (t : Fin cfg0.N) (h : t.val % 16 = 8) :
    VS0_0.read (Elt F) (VS0_0.writes (Elt F) VS0_0.junk (runG m c t h).2.1) = k0_pay1 (iblk m c 0 t) (used m c t) := by
  rw [used, if_neg (by omega), if_neg (by omega), if_pos (by omega)]
  unfold runG
  frame_out
  rfl

theorem metH : ∀ t : Fin cfg0.N, (t.val % 16 = 9 ∨ t.val % 16 = 10) → conds0_H (grid0.coords t) :=
  (by decide +kernel : ∀ t : Fin grid0.N, (t.val % 16 = 9 ∨ t.val % 16 = 10) → conds0_H (grid0.coords t))

/-- The run at a point of case H. -/
abbrev runH (t : Fin cfg0.N) (h : t.val % 16 = 9 ∨ t.val % 16 = 10) (xs : Vec F S1024x512 .f32) :=
  kernelRun0_H c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metH t h).1 (metH t h).2.1 (metH t h).2.2.1 (metH t h).2.2.2.1 (metH t h).2.2.2.2.1 (metH t h).2.2.2.2.2.1 (metH t h).2.2.2.2.2.2.1 (metH t h).2.2.2.2.2.2.2.1 (metH t h).2.2.2.2.2.2.2.2.1 (metH t h).2.2.2.2.2.2.2.2.2.1 (metH t h).2.2.2.2.2.2.2.2.2.2.1 (metH t h).2.2.2.2.2.2.2.2.2.2.2
    (iblk m c 0 t) (iblk m c 1 t) (iblk m c 2 t) (iblk m c 3 t) (iblk m c 4 t) xs

theorem leavesH (t : Fin cfg0.N) (h : t.val % 16 = 9 ∨ t.val % 16 = 10) (xs : Vec F S1024x512 .f32) :
    VS0_0.read (Elt F) (VS0_0.writes (Elt F) VS0_0.junk (runH m c t h xs).2.1) = k0_pay2 xs (iblk m c 0 t) (used m c t) := by
  rw [used, if_neg (by omega), if_neg (by omega), if_pos (by omega)]
  unfold runH
  frame_out
  exact congrArg (fun a => k0_pay2 a (iblk m c 0 t) (iblk m c 3 t)) ((Memref.isWhole_whole cc0_scratch0).read_unread xs)

theorem metI : ∀ t : Fin cfg0.N, t.val % 16 = 11 → conds0_I (grid0.coords t) :=
  (by decide +kernel : ∀ t : Fin grid0.N, t.val % 16 = 11 → conds0_I (grid0.coords t))

/-- The run at a point of case I. -/
abbrev runI (t : Fin cfg0.N) (h : t.val % 16 = 11) (xs : Vec F S1024x512 .f32) :=
  kernelRun0_I c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metI t h).1 (metI t h).2.1 (metI t h).2.2.1 (metI t h).2.2.2.1 (metI t h).2.2.2.2.1 (metI t h).2.2.2.2.2.1 (metI t h).2.2.2.2.2.2.1 (metI t h).2.2.2.2.2.2.2.1 (metI t h).2.2.2.2.2.2.2.2.1 (metI t h).2.2.2.2.2.2.2.2.2.1 (metI t h).2.2.2.2.2.2.2.2.2.2.1 (metI t h).2.2.2.2.2.2.2.2.2.2.2
    (iblk m c 0 t) (iblk m c 1 t) (iblk m c 2 t) (iblk m c 3 t) (iblk m c 4 t) xs

theorem leavesI (t : Fin cfg0.N) (h : t.val % 16 = 11) (xs : Vec F S1024x512 .f32) :
    VO0_5.read (Elt F) (VO0_5.writes (Elt F) VO0_5.junk (runI m c t h xs).1) = k0_pay3 xs (iblk m c 0 t) (used m c t) := by
  rw [used, if_neg (by omega), if_neg (by omega), if_pos (by omega)]
  unfold runI
  frame_out
  exact congrArg (fun a => k0_pay3 a (iblk m c 0 t) (iblk m c 3 t)) ((Memref.isWhole_whole cc0_scratch0).read_unread xs)

theorem metJ : ∀ t : Fin cfg0.N, t.val % 16 = 12 → conds0_J (grid0.coords t) :=
  (by decide +kernel : ∀ t : Fin grid0.N, t.val % 16 = 12 → conds0_J (grid0.coords t))

/-- The run at a point of case J. -/
abbrev runJ (t : Fin cfg0.N) (h : t.val % 16 = 12) :=
  kernelRun0_J c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metJ t h).1 (metJ t h).2.1 (metJ t h).2.2.1 (metJ t h).2.2.2.1 (metJ t h).2.2.2.2.1 (metJ t h).2.2.2.2.2.1 (metJ t h).2.2.2.2.2.2.1 (metJ t h).2.2.2.2.2.2.2.1 (metJ t h).2.2.2.2.2.2.2.2.1 (metJ t h).2.2.2.2.2.2.2.2.2.1 (metJ t h).2.2.2.2.2.2.2.2.2.2.1 (metJ t h).2.2.2.2.2.2.2.2.2.2.2
    (iblk m c 0 t) (iblk m c 1 t) (iblk m c 2 t) (iblk m c 3 t) (iblk m c 4 t)

theorem leavesJ (t : Fin cfg0.N) (h : t.val % 16 = 12) :
    VS0_0.read (Elt F) (VS0_0.writes (Elt F) VS0_0.junk (runJ m c t h).2.1) = k0_pay1 (iblk m c 0 t) (used m c t) := by
  rw [used, if_neg (by omega), if_neg (by omega), if_neg (by omega)]
  unfold runJ
  frame_out

theorem metK : ∀ t : Fin cfg0.N, (t.val % 16 = 13 ∨ t.val % 16 = 14) → conds0_K (grid0.coords t) :=
  (by decide +kernel : ∀ t : Fin grid0.N, (t.val % 16 = 13 ∨ t.val % 16 = 14) → conds0_K (grid0.coords t))

/-- The run at a point of case K. -/
abbrev runK (t : Fin cfg0.N) (h : t.val % 16 = 13 ∨ t.val % 16 = 14) (xs : Vec F S1024x512 .f32) :=
  kernelRun0_K c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metK t h).1 (metK t h).2.1 (metK t h).2.2.1 (metK t h).2.2.2.1 (metK t h).2.2.2.2.1 (metK t h).2.2.2.2.2.1 (metK t h).2.2.2.2.2.2.1 (metK t h).2.2.2.2.2.2.2.1 (metK t h).2.2.2.2.2.2.2.2.1 (metK t h).2.2.2.2.2.2.2.2.2.1 (metK t h).2.2.2.2.2.2.2.2.2.2.1 (metK t h).2.2.2.2.2.2.2.2.2.2.2
    (iblk m c 0 t) (iblk m c 1 t) (iblk m c 2 t) (iblk m c 3 t) (iblk m c 4 t) xs

theorem leavesK (t : Fin cfg0.N) (h : t.val % 16 = 13 ∨ t.val % 16 = 14) (xs : Vec F S1024x512 .f32) :
    VS0_0.read (Elt F) (VS0_0.writes (Elt F) VS0_0.junk (runK m c t h xs).2.1) = k0_pay2 xs (iblk m c 0 t) (used m c t) := by
  rw [used, if_neg (by omega), if_neg (by omega), if_neg (by omega)]
  unfold runK
  frame_out
  exact congrArg (fun a => k0_pay2 a (iblk m c 0 t) (iblk m c 4 t)) ((Memref.isWhole_whole cc0_scratch0).read_unread xs)

theorem metL : ∀ t : Fin cfg0.N, t.val % 16 = 15 → conds0_L (grid0.coords t) :=
  (by decide +kernel : ∀ t : Fin grid0.N, t.val % 16 = 15 → conds0_L (grid0.coords t))

/-- The run at a point of case L. -/
abbrev runL (t : Fin cfg0.N) (h : t.val % 16 = 15) (xs : Vec F S1024x512 .f32) :=
  kernelRun0_L c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
    (metL t h).1 (metL t h).2.1 (metL t h).2.2.1 (metL t h).2.2.2.1 (metL t h).2.2.2.2.1 (metL t h).2.2.2.2.2.1 (metL t h).2.2.2.2.2.2.1 (metL t h).2.2.2.2.2.2.2.1 (metL t h).2.2.2.2.2.2.2.2.1 (metL t h).2.2.2.2.2.2.2.2.2.1 (metL t h).2.2.2.2.2.2.2.2.2.2.1 (metL t h).2.2.2.2.2.2.2.2.2.2.2
    (iblk m c 0 t) (iblk m c 1 t) (iblk m c 2 t) (iblk m c 3 t) (iblk m c 4 t) xs

theorem leavesL (t : Fin cfg0.N) (h : t.val % 16 = 15) (xs : Vec F S1024x512 .f32) :
    VO0_5.read (Elt F) (VO0_5.writes (Elt F) VO0_5.junk (runL m c t h xs).1) = k0_pay3 xs (iblk m c 0 t) (used m c t) := by
  rw [used, if_neg (by omega), if_neg (by omega), if_neg (by omega)]
  unfold runL
  frame_out
  exact congrArg (fun a => k0_pay3 a (iblk m c 0 t) (iblk m c 4 t)) ((Memref.isWhole_whole cc0_scratch0).read_unread xs)

/-! ## The pipeline's proof data -/

/-- The invariant before a point: the accumulator at what the point before left, at anything before the first. -/
def PhiS (c : Dev nD) : (n : ℕ) → n ≤ cfg0.N → sProp 𝕄
  | 0, _ => Pipeline.ΦA spec0 c
  | n + 1, hn => iprop(owns (c : Thread nD τ) scM0_0 fullShare ((outsAt0 m c n hn).2) ∗ (∃ r, prngReg c r))

theorem PhiS_zero (n : ℕ) (h : n ≤ cfg0.N) (hz : n = 0) : PhiS m c n h = Pipeline.ΦA spec0 c := by
  subst hz; rfl

theorem PhiS_pos (n : ℕ) (h : n ≤ cfg0.N) (hz : n ≠ 0) :
    PhiS m c n h = iprop(owns (c : Thread nD τ) scM0_0 fullShare ((outsAt0 m c (n - 1) (by omega)).2) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (t : Fin cfg0.N) : (dats m 0 c).Φ t.castSucc = PhiS m c t.val (Nat.le_of_lt t.isLt) := by
  dsimp only [dats]; exact Pipeline.Dat.Φ_castSucc (PhiS m c) t

theorem after0_0 (t : Fin cfg0.N) : (dats m 0 c).after 0 t = iblk m c 0 t := by dsimp only [dats]
theorem after0_1 (t : Fin cfg0.N) : (dats m 0 c).after 1 t = iblk m c 1 t := by dsimp only [dats]
theorem after0_2 (t : Fin cfg0.N) : (dats m 0 c).after 2 t = iblk m c 2 t := by dsimp only [dats]
theorem after0_3 (t : Fin cfg0.N) : (dats m 0 c).after 3 t = iblk m c 3 t := by dsimp only [dats]
theorem after0_4 (t : Fin cfg0.N) : (dats m 0 c).after 4 t = iblk m c 4 t := by dsimp only [dats]
theorem after0_5 (t : Fin cfg0.N) : (dats m 0 c).after 5 t = (outsAt0 m c t.val t.isLt).1 := by dsimp only [dats]

theorem before0_0 (t : Fin cfg0.N) (d) : (dats m 0 c).before 0 t d = iblk m c 0 t :=
  before0_0_of m (dats m 0 c) (A_eq m c 0) (after0_0 m c) t d
theorem before0_1 (t : Fin cfg0.N) (d) : (dats m 0 c).before 1 t d = iblk m c 1 t :=
  before0_1_of m (dats m 0 c) (A_eq m c 1) (after0_1 m c) t d
theorem before0_2 (t : Fin cfg0.N) (d) : (dats m 0 c).before 2 t d = iblk m c 2 t :=
  before0_2_of m (dats m 0 c) (A_eq m c 2) (after0_2 m c) t d
theorem before0_3 (t : Fin cfg0.N) (d) : (dats m 0 c).before 3 t d = iblk m c 3 t :=
  before0_3_of m (dats m 0 c) (A_eq m c 3) (after0_3 m c) t d
theorem before0_4 (t : Fin cfg0.N) (d) : (dats m 0 c).before 4 t d = iblk m c 4 t :=
  before0_4_of m (dats m 0 c) (A_eq m c 4) (after0_4 m c) t d

/-! ## The body at a point -/

/-- What the body is called with at point `t`, window by window, -/
def bodyPre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

theorem idleAt (t : Fin cfg0.N) (h : t.val % 4 ≠ 3) : cfg0.idle 5 (grid0.coords t) = true :=
  (by decide +kernel : ∀ t : Fin grid0.N, t.val % 4 ≠ 3 → cfg0.idle 5 (grid0.coords t) = true) t h

theorem liveAt (t : Fin cfg0.N) (h : t.val % 4 = 3) : cfg0.idle 5 (grid0.coords t) = false :=
  (by decide +kernel : ∀ t : Fin grid0.N, t.val % 4 = 3 → cfg0.idle 5 (grid0.coords t) = false) t h

theorem noFlush (t : Fin cfg0.N) (h : t.val % 4 ≠ 3) : (cfg0.win 5).flush t = false :=
  Bool.eq_false_iff.mpr fun hf => h ((flush0_5 t).mp hf)

set_option maxHeartbeats 1600000 in
/-- A point that only stores into the accumulator, whatever it asks of it (`P`): from a run that leaves the pieces `LS` there. -/
theorem body_stores (t : Fin cfg0.N) (h : t.val % 4 ≠ 3) (P : sProp 𝕄) (hP : PhiS m c t.val (Nat.le_of_lt t.isLt) ⊢ iprop(P ∗ (∃ r, prngReg c r)))
    (LS : List (View.Piece (Elt F) S1024x512 .f32)) (cover : ∀ y, ∃ pc ∈ LS, y ∈ pc.1.set)
    (leaves : VS0_0.read (Elt F) (VS0_0.writes (Elt F) VS0_0.junk LS) = (outsAt0 m c t.val t.isLt).2)
    (run : ∀ (x : Vec F S1024x512 .f32) (E : Set ℕ) (K : PUnit → sProp 𝕄),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare x ∗ P
          ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare x ∗ (∃ f, scM0_0.view.loc (c : Thread nD τ) ↦[scM0_0.view.set]{fullShare} scM0_0.view.writes (Elt F) f LS)) -∗ K ⟨⟩))
        ⊢ wp frame (wpE (defs₀ (F := F)) Variants.none c none) E (bodyAt0 t) K) :
    bodyPre m c t ⊢ wp frame (wpE (defs₀ (F := F)) Variants.none c none) Set.univ (bodyAt0 t) (fun _ => bodyPost m c t) := by
  unfold bodyPre bodyPost
  rw [PhiS_castSucc m c t]
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [Dat.leavesExact_idle (dats m 0 c) 5 t (idleAt t h) (noFlush t h)]
  iintro ⟨HI, Ho, ⟨%d0, H0⟩, ⟨%d1, H1⟩, ⟨%d2, H2⟩, ⟨%d3, H3⟩, ⟨%d4, H4⟩, ⟨%d5, H5⟩⟩
  icases hP $$ HI with ⟨HP, Hg⟩
  iapply (run _ Set.univ _)
  isplitl [H0]; · iexact H0
  isplitl [H1]; · iexact H1
  isplitl [H2]; · iexact H2
  isplitl [H3]; · iexact H3
  isplitl [H4]; · iexact H4
  isplitl [H5]; · iexact H5
  isplitl [HP]; · iexact HP
  iintro ⟨H0, H1, H2, H3, H4, H5, ⟨%es, HS⟩⟩
  isplitl [HS Hg]
  · isplitl [HS]
    · unfold owns; iexists _; isplitr
      swap; · iexact HS
      ipureintro; exact (View.read_writes_of_cover _ _ _ _ _ cover).trans leaves
    iexact Hg
  isplitl [Ho]; · iexact Ho
  isplitl [H0]; · iexact H0
  isplitl [H1]; · iexact H1
  isplitl [H2]; · iexact H2
  isplitl [H3]; · iexact H3
  isplitl [H4]; · iexact H4
  iexists _; iexact H5

set_option maxHeartbeats 1600000 in
/-- The last of four points, which reads the accumulator and stores the result: from a run that leaves the pieces `L` there. -/
theorem body_hands (t : Fin cfg0.N) (h : t.val % 4 = 3)
    (L : List (View.Piece (Elt F) S1024x512 .f32)) (cover : ∀ y, ∃ pc ∈ L, y ∈ pc.1.set)
    (leaves : VO0_5.read (Elt F) (VO0_5.writes (Elt F) VO0_5.junk L) = k0_pay3 (prev m c t) (iblk m c 0 t) (used m c t))
    (run : ∀ (E : Set ℕ) (K : PUnit → sProp 𝕄),
      iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ d, owns (c : Thread nD τ) (ms0_5 t) fullShare d) ∗ owns (c : Thread nD τ) scM0_0 fullShare (prev m c t)
          ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ (∃ f, (ms0_5 t).view.loc (c : Thread nD τ) ↦[(ms0_5 t).view.set]{fullShare} (ms0_5 t).view.writes (Elt F) f L) ∗ owns (c : Thread nD τ) scM0_0 fullShare (prev m c t)) -∗ K ⟨⟩))
        ⊢ wp frame (wpE (defs₀ (F := F)) Variants.none c none) E (bodyAt0 t) K) :
    bodyPre m c t ⊢ wp frame (wpE (defs₀ (F := F)) Variants.none c none) Set.univ (bodyAt0 t) (fun _ => bodyPost m c t) := by
  unfold bodyPre bodyPost
  rw [PhiS_castSucc m c t, PhiS_pos m c _ _ (by omega)]
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt t h], after0_5]
  rw [show (outsAt0 m c (t.val + 1 - 1) t.isLt) = _ from at_last m c t h, at_last m c t h]
  iintro ⟨⟨HS, Hg⟩, Ho, ⟨%d0, H0⟩, ⟨%d1, H1⟩, ⟨%d2, H2⟩, ⟨%d3, H3⟩, ⟨%d4, H4⟩, ⟨%d5, H5⟩⟩
  iapply (run Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, ⟨%e, H5⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact (View.read_writes_of_cover _ _ _ _ _ cover).trans leaves

/-- The accumulator before a point, its contents forgotten. -/
theorem accAny (t : Fin cfg0.N) : PhiS m c t.val (Nat.le_of_lt t.isLt) ⊢ iprop((∃ d, owns (c : Thread nD τ) scM0_0 fullShare d) ∗ (∃ r, prngReg c r)) := by
  by_cases hz : t.val = 0
  · rw [PhiS_zero m c _ _ hz, PhiA0_eq]
    try exact Idealize.SL.BI.Entails.refl _
  · rw [PhiS_pos m c _ _ hz]
    iintro ⟨HS, Hg⟩
    isplitl [HS]
    · iexists _; iexact HS
    iexact Hg

/-- The accumulator before a point that is not the first. -/
theorem accPrev (t : Fin cfg0.N) (h : t.val ≠ 0) : PhiS m c t.val (Nat.le_of_lt t.isLt) ⊢ iprop(owns (c : Thread nD τ) scM0_0 fullShare (prev m c t) ∗ (∃ r, prngReg c r)) := by
  rw [PhiS_pos m c _ _ h]
  exact Idealize.SL.BI.Entails.refl _

/-- The body at any point: which run is met is read off the point's place in its sixteen. -/
theorem sound_body (t : Fin cfg0.N) : bodyPre m c t ⊢ wp frame (wpE (defs₀ (F := F)) Variants.none c none) Set.univ (bodyAt0 t) (fun _ => bodyPost m c t) := by
  have h : t.val % 16 = 0 ∨ (t.val % 16 = 1 ∨ t.val % 16 = 2) ∨ t.val % 16 = 3 ∨ t.val % 16 = 4 ∨ (t.val % 16 = 5 ∨ t.val % 16 = 6) ∨ t.val % 16 = 7 ∨ t.val % 16 = 8 ∨ (t.val % 16 = 9 ∨ t.val % 16 = 10) ∨ t.val % 16 = 11 ∨ t.val % 16 = 12 ∨ (t.val % 16 = 13 ∨ t.val % 16 = 14) ∨ t.val % 16 = 15 := by omega
  rcases h with h | h | h | h | h | h | h | h | h | h | h | h
  · exact body_stores m c t (by omega) _ (accAny m c t) (runA m c t h).2.1 (View.cover_of_tiledL _ S1024x512.size (by sl_kernel_rfl))
      ((leavesA m c t h).trans (at_first m c t (by omega)).symm) (runA m c t h).2.2
  · exact body_stores m c t (by omega) _ (accPrev m c t (by omega)) (runB m c t h (prev m c t)).2.1 (View.cover_of_tiledL _ S1024x512.size (by sl_kernel_rfl))
      ((leavesB m c t h _).trans (at_middle m c t (by omega)).symm) (runB m c t h (prev m c t)).2.2
  · exact body_hands m c t (by omega) (runC m c t h (prev m c t)).1 (View.cover_of_tiledL _ S1024x512.size (by sl_kernel_rfl))
      (leavesC m c t h _) (runC m c t h (prev m c t)).2.2
  · exact body_stores m c t (by omega) _ (accAny m c t) (runD m c t h).2.1 (View.cover_of_tiledL _ S1024x512.size (by sl_kernel_rfl))
      ((leavesD m c t h).trans (at_first m c t (by omega)).symm) (runD m c t h).2.2
  · exact body_stores m c t (by omega) _ (accPrev m c t (by omega)) (runE m c t h (prev m c t)).2.1 (View.cover_of_tiledL _ S1024x512.size (by sl_kernel_rfl))
      ((leavesE m c t h _).trans (at_middle m c t (by omega)).symm) (runE m c t h (prev m c t)).2.2
  · exact body_hands m c t (by omega) (runF m c t h (prev m c t)).1 (View.cover_of_tiledL _ S1024x512.size (by sl_kernel_rfl))
      (leavesF m c t h _) (runF m c t h (prev m c t)).2.2
  · exact body_stores m c t (by omega) _ (accAny m c t) (runG m c t h).2.1 (View.cover_of_tiledL _ S1024x512.size (by sl_kernel_rfl))
      ((leavesG m c t h).trans (at_first m c t (by omega)).symm) (runG m c t h).2.2
  · exact body_stores m c t (by omega) _ (accPrev m c t (by omega)) (runH m c t h (prev m c t)).2.1 (View.cover_of_tiledL _ S1024x512.size (by sl_kernel_rfl))
      ((leavesH m c t h _).trans (at_middle m c t (by omega)).symm) (runH m c t h (prev m c t)).2.2
  · exact body_hands m c t (by omega) (runI m c t h (prev m c t)).1 (View.cover_of_tiledL _ S1024x512.size (by sl_kernel_rfl))
      (leavesI m c t h _) (runI m c t h (prev m c t)).2.2
  · exact body_stores m c t (by omega) _ (accAny m c t) (runJ m c t h).2.1 (View.cover_of_tiledL _ S1024x512.size (by sl_kernel_rfl))
      ((leavesJ m c t h).trans (at_first m c t (by omega)).symm) (runJ m c t h).2.2
  · exact body_stores m c t (by omega) _ (accPrev m c t (by omega)) (runK m c t h (prev m c t)).2.1 (View.cover_of_tiledL _ S1024x512.size (by sl_kernel_rfl))
      ((leavesK m c t h _).trans (at_middle m c t (by omega)).symm) (runK m c t h (prev m c t)).2.2
  · exact body_hands m c t (by omega) (runL m c t h (prev m c t)).1 (View.cover_of_tiledL _ S1024x512.size (by sl_kernel_rfl))
      (leavesL m c t h _) (runL m c t h (prev m c t)).2.2

/-! ## The launch -/

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

theorem hin : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout : (dats m 0 c).Φ (Fin.last cfg0.N) ⊢ Pipeline.ΦA spec0 c := by
  rw [show (dats m 0 c).Φ (Fin.last cfg0.N) = PhiS m c cfg0.N le_rfl from rfl, PhiS_pos m c _ _ (by rw [show cfg0.N = 64 from N_0]; decide), PhiA0_eq]
  iintro ⟨HS, Hg⟩
  isplitl [HS]
  · iexists _; iexact HS
  iexact Hg

set_option backward.isDefEq.respectTransparency.types false in
/-- The launch: every array of the pipeline ends at what the proof data computes, every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The arguments end as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)) :=
  frame_of m ρ (dats m) (A_eq m) (run_main m ρ)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1)) ∧ r.2.sem = fun _ => 0) :=
  θ_run_and (unchanged m ρ) ((θ_run defs _ _).mono (fun _ h => h.2) (run_all m ρ))

/-- The result ends at the array the points wrote back, the arguments as launched. -/
theorem run_blocks : θ_run defs (onTc (τ := τ) (main (F := F))) ⟨m, fun _ => 0, ρ⟩ fun r => ∀ c : Dev nD,
      r.2.mem ((c : Thread nD τ).loc main_v5) = (dats m 0 c).arrAt 5 cfg0.N
      ∧ r.2.mem ((c.tc : Thread nD τ).loc main_arg0) = m ((c.tc : Thread nD τ).loc main_arg0) ∧ r.2.mem ((c.tc : Thread nD τ).loc main_arg1) = m ((c.tc : Thread nD τ).loc main_arg1) :=
  (θ_run defs _ _).mono (fun _ h c => ⟨(h.1 c).1 5, h.2 c⟩) (θ_run_and (run_main m ρ) (unchanged m ρ))

end Cert.Kernel14Ideal.Gen
-- ==== Proof.Mlp.SecondLayer.lean ====
/- The call that computes the second layer. -/
module

public import proofs.«01_k».proof.Defs
public import proofs.«01_k».proof.Proof.Mlp.Product
public import proofs.«01_k».proof.Proof.Gen.Kernel14
public import proofs.«01_k».proof.Proof.Gen.Kernel14Ideal
public import proofs.«01_k».proof.Proof.Gen.Reference14Ideal
public import proofs.«01_k».proof.Proof.Gen.Reference14Ideal.Run
public import proofs.«01_k».proof.Proof.Gen.Reference14Ideal.Read
public import proofs.«01_k».proof.Proof.Mlp.OutputRun
public import Idealize.ShloMosaic.Lib.Claim
public import Idealize.ShloMosaic.Lib.Quiescent

@[expose] public section

set_option maxRecDepth 16384
set_option maxHeartbeats 1000000

noncomputable section

open Idealize.ShloMosaic Idealize.ShloMosaic.TcCoe Idealize.SL.Sem
open Idealize.ShloMosaic.Pipeline (Dat)
open Cert.Mlp

namespace Cert.Reference14Ideal

/-- The reference's product, entry by entry. -/
theorem product_ref (x : S4096x8192.Idx → EReal) (w : S8192x2048.Idx → EReal) (i : S4096x2048.Idx) :
    Read.val_main_v1 (F := Ideal) x w i = product x w (i 0) (i 1) := by
  simp only [Read.val_main_v1_apply, Read.val_main_v0_apply]
  exact Finset.sum_congr rfl fun k _ => congrArg₂ (fun a b => x a * w b) (eq_ix2 (Read.lidx_main_v1 i k)) (eq_ix2 (Read.ridx_main_v1 i k))

end Cert.Reference14Ideal

namespace Cert.Kernel14Ideal.Gen

open Cert.Kernel14Ideal

variable (m : (ℓ : Loc nD τ sig) → Buf (Elt Ideal) ℓ) (c : Dev nD)

/-- Where the blocks of the rows and the result lie at a point. -/
theorem idx : ∀ t : Fin cfg0.N, win0_0.index t = ![t.val / 16, t.val % 4] ∧ win0_5.index t = ![t.val / 16, t.val / 4 % 4] :=
  (by decide +kernel : ∀ t : Fin grid0.N, _)

/-- Where the block of the weight piece in use lies at a point: each piece serves one block of columns. -/
theorem idxPiece : ∀ t : Fin cfg0.N, (t.val / 4 % 4 = 0 → win0_1.index t = ![t.val % 4, 0]) ∧ (t.val / 4 % 4 = 1 → win0_2.index t = ![t.val % 4, 0])
    ∧ (t.val / 4 % 4 = 2 → win0_3.index t = ![t.val % 4, 0]) ∧ (t.val / 4 % 4 = 3 → win0_4.index t = ![t.val % 4, 0]) :=
  (by decide +kernel : ∀ t : Fin grid0.N, _)

/-- The row of the whole result an entry of a point's block is in, and its column. -/
def row (t : Fin cfg0.N) (j : S1024x512.Idx) : Fin 4096 :=
  ⟨t.val / 16 * 1024 + (j 0).val, by have := lt_of_lt_of_eq t.isLt (show cfg0.N = 64 from N_0); have := ValueIdx.idx2_lt0 j; omega⟩

def col (t : Fin cfg0.N) (j : S1024x512.Idx) : Fin 2048 :=
  ⟨t.val / 4 % 4 * 512 + (j 1).val, by have := ValueIdx.idx2_lt1 j; omega⟩

/-- One quarter of the sum at row `r` and column `n`. -/
def quarter (r : Fin 4096) (n : Fin 2048) (q : Fin 4) : EReal :=
  productQuarter 2048 (by decide) (m ((c : Thread nD τ).loc main_arg0)) (m ((c : Thread nD τ).loc main_arg1)) r n q

/-- The product of a point's blocks is the quarter of its place among four. -/
theorem blocks (t : Fin cfg0.N) (j : S1024x512.Idx) :
    product (iblk m c 0 t : S1024x2048.Idx → EReal) (used m c t : S2048x512.Idx → EReal) (j 0) (j 1)
      = quarter m c (row t j) (col t j) ⟨t.val % 4, Nat.mod_lt _ (by decide)⟩ := by
  have i := idx t
  have p := idxPiece t
  have hp : t.val / 4 % 4 = 0 ∨ t.val / 4 % 4 = 1 ∨ t.val / 4 % 4 = 2 ∨ t.val / 4 % 4 = 3 := by omega
  unfold product quarter productQuarter row col
  rcases hp with hp | hp | hp | hp
  · have w := p.1 hp
    have e : used m c t = iblk m c 1 t := by unfold used; rw [if_pos hp]
    rw [e]
    simp only [hp]
    blk_point [iblk, V, i, w]
  · have w := p.2.1 hp
    have e : used m c t = iblk m c 2 t := by unfold used; rw [if_neg (by omega), if_pos hp]
    rw [e]
    simp only [hp]
    blk_point [iblk, V, i, w]
  · have w := p.2.2.1 hp
    have e : used m c t = iblk m c 3 t := by unfold used; rw [if_neg (by omega), if_neg (by omega), if_pos hp]
    rw [e]
    simp only [hp]
    blk_point [iblk, V, i, w]
  · have w := p.2.2.2 hp
    have e : used m c t = iblk m c 4 t := by unfold used; rw [if_neg (by omega), if_neg (by omega), if_neg (by omega)]
    rw [e]
    simp only [hp]
    blk_point [iblk, V, i, w]

/-- What the first of four points leaves in the accumulator. -/
theorem first (t : Fin cfg0.N) (h : t.val % 4 = 0) (j : S1024x512.Idx) :
    (outsAt0 m c t.val t.isLt).2 j = quarter m c (row t j) (col t j) 0 := by
  rw [at_first m c t h]
  refine Eq.trans ?_ ((blocks m c t j).trans (congrArg (quarter m c (row t j) (col t j)) (Fin.ext h)))
  generalize used m c t = w
  pointwise [k0_pay1, product]

/-- What a middle point adds to it. -/
theorem middle (t : Fin cfg0.N) (h : t.val % 4 = 1 ∨ t.val % 4 = 2) (j : S1024x512.Idx) :
    (outsAt0 m c t.val t.isLt).2 j = prev m c t j + quarter m c (row t j) (col t j) ⟨t.val % 4, Nat.mod_lt _ (by decide)⟩ := by
  rw [at_middle m c t h, ← blocks m c t j]
  generalize used m c t = w
  generalize prev m c t = x
  pointwise [k0_pay2, product]

/-- What the last hands over. -/
theorem last (t : Fin cfg0.N) (h : t.val % 4 = 3) (j : S1024x512.Idx) :
    (outsAt0 m c t.val t.isLt).1 j = (prev m c t j + quarter m c (row t j) (col t j) 3) := by
  rw [at_last m c t h, show quarter m c (row t j) (col t j) 3 = _ from (congrArg (quarter m c (row t j) (col t j)) (Fin.ext h.symm)).trans (blocks m c t j).symm]
  generalize used m c t = w
  generalize prev m c t = x
  pointwise [k0_pay3, product]

/-- The four quarters, as the four points add them, are the whole sum. -/
theorem whole (t : Fin cfg0.N) (h : t.val % 4 = 3) (j : S1024x512.Idx) :
    (outsAt0 m c t.val t.isLt).1 j = product (m ((c : Thread nD τ).loc main_arg0)) (m ((c : Thread nD τ).loc main_arg1)) (row t j) (col t j) := by
  have before : ∀ s, t.val - s < cfg0.N := fun s => Nat.lt_of_le_of_lt (Nat.sub_le _ _) t.isLt
  have same : ∀ s (hs : s ≤ 3) (q : Fin 4), quarter m c (row ⟨t.val - s, before s⟩ j) (col ⟨t.val - s, before s⟩ j) q = quarter m c (row t j) (col t j) q :=
    fun s hs q => congrArg₂ (fun r n => quarter m c r n q) (Fin.ext (by show (t.val - s) / 16 * 1024 + _ = t.val / 16 * 1024 + _; omega))
      (Fin.ext (by show (t.val - s) / 4 % 4 * 512 + _ = t.val / 4 % 4 * 512 + _; omega))
  have e2 : prev m c t j = _ := middle m c ⟨t.val - 1, before 1⟩ (by show (t.val - 1) % 4 = 1 ∨ (t.val - 1) % 4 = 2; omega) j
  have e1 : prev m c ⟨t.val - 1, before 1⟩ j = _ := middle m c ⟨t.val - 2, before 2⟩ (by show (t.val - 2) % 4 = 1 ∨ (t.val - 2) % 4 = 2; omega) j
  have e0 : prev m c ⟨t.val - 2, before 2⟩ j = _ := first m c ⟨t.val - 3, before 3⟩ (by show (t.val - 3) % 4 = 0; omega) j
  have q2 : (⟨(t.val - 1) % 4, Nat.mod_lt _ (by decide)⟩ : Fin 4) = 2 := Fin.ext (by show (t.val - 1) % 4 = 2; omega)
  have q1 : (⟨(t.val - 2) % 4, Nat.mod_lt _ (by decide)⟩ : Fin 4) = 1 := Fin.ext (by show (t.val - 2) % 4 = 1; omega)
  rw [last m c t h j, e2, e1, e0, same 1 (by omega), same 2 (by omega), same 3 (by omega)]
  dsimp only
  rw [q2, q1]
  exact congrArg (fun a : EReal => a) (product_quarters 2048 (by decide) (m ((c : Thread nD τ).loc main_arg0)) (m ((c : Thread nD τ).loc main_arg1)) (row t j) (col t j))

/-- The kernel's result, entry by entry. -/
theorem out5 : (dats m 0 c).arrAt 5 cfg0.N = fun i : S4096x2048.Idx => product (m ((c : Thread nD τ).loc main_arg0)) (m ((c : Thread nD τ).loc main_arg1)) (i 0) (i 1) := by
  refine (dats m 0 c).arrAt_eq_of_covers 5 _ (by decide +kernel) fun t hf y => ?_
  have ht : t.val % 4 = 3 := (flush0_5 t).mp hf
  have i := idx t
  rw [after0_5]
  refine (whole m c t ht y).trans ?_
  blk_simp [i]
  unfold row col
  blk_point [iblk, V, i]

end Cert.Kernel14Ideal.Gen

namespace Cert.Proof

/-- The kernel over machine floats has the same bodies and the same table. -/
theorem bodies14 : Cert.Kernel14.defs₀ (F := Bits) = Cert.Kernel14Ideal.defs₀ (F := Bits) :=
  congrArg Defs.onTc (funext fun ℓ => funext fun a => by obtain ⟨k, h⟩ := ℓ; obtain rfl : k = 0 := Nat.lt_one_iff.1 h; rfl)

theorem table14 : Cert.Kernel14.defs (F := Bits) = Cert.Kernel14Ideal.defs (F := Bits) := congrArg (Pipeline.defs Cert.Kernel14.pcfgs) bodies14

/-- So its frame is the same run. -/
theorem frame14 : Cert.quiescent_Kernel14 := fun m g _ => by
  rw [table14]
  exact Cert.Kernel14Ideal.Gen.frame (F := Bits) m g

/-- The reference ends with its arguments as they were and every counter at zero. -/
theorem reference14_frame [Cert.Reference14Ideal.Facts] : Cert.quiescent_Reference14Ideal := fun m g _ =>
  (θ_run _ _ _).mono (fun r h => ⟨fun c => (h c).2, sem_eq_zero_of_no_sems (by decide) r.2⟩) (Cert.Reference14Ideal.Value.run (F := Ideal) m g)

/-- Both programs' results are the same sums of the arguments' entries. -/
theorem values14 : Cert.algebraic_Kernel14Ideal_Reference14Ideal := by
  intro m g m' g' _ hagree
  refine ⟨fun c i => product (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (i 0) (i 1),
    (θ_run _ _ _).mono (fun r h c => ?_) (Cert.Kernel14Ideal.Gen.run_blocks (F := Ideal) m g),
    (θ_run _ _ _).mono (fun r h c => ?_) (Cert.Reference14Ideal.Value.run (F := Ideal) m' g')⟩
  · obtain ⟨h0, ha⟩ := h c
    exact ⟨h0.trans (Cert.Kernel14Ideal.Gen.out5 m c), ha⟩
  · obtain ⟨h0, ha⟩ := h c
    refine ⟨(h0.trans (Cert.Reference14Ideal.Read.val_main_v1_eq (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)))).trans (funext fun i => ?_), ha⟩
    rw [(hagree c).1, (hagree c).2]
    exact Cert.Reference14Ideal.product_ref _ _ i

end Cert.Proof
-- ==== Proof.lean ====
/- The claims put together. For the gated mixer's backward call the frames are the generated runs, the renamings are the two
   named constants, and both programs' six results are the same real numbers entry by entry; the products' claims are their own modules. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gate.Value
public import proofs.«01_k».proof.Proof.Gate.Ref
public import proofs.«01_k».proof.Proof.Gate.Finite
public import proofs.«01_k».proof.Proof.Mlp.HiddenClaims
public import proofs.«01_k».proof.Proof.Norm.Ln
public import proofs.«01_k».proof.Proof.Norm.Out
public import proofs.«01_k».proof.Proof.Norm.BackClaim
public import proofs.«01_k».proof.Proof.Mlp.WeightClaims
public import proofs.«01_k».proof.Proof.Mlp.FirstLayer
public import proofs.«01_k».proof.Proof.Mlp.EntryFirst
public import proofs.«01_k».proof.Proof.Mlp.EntryFirstWeights
public import proofs.«01_k».proof.Proof.Mlp.EntryLast
public import proofs.«01_k».proof.Proof.Mlp.EntryLastWeights
public import proofs.«01_k».proof.Proof.Mlp.EntryLastInput
public import proofs.«01_k».proof.Proof.Mlp.ExitInput
public import proofs.«01_k».proof.Proof.Mlp.ExitWeights
public import proofs.«01_k».proof.Proof.Mlp.FirstLayerInput
public import proofs.«01_k».proof.Proof.Mlp.EntryFirstInput
public import proofs.«01_k».proof.Proof.Mlp.SecondLayer
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference ends with its arguments as they were and every counter at zero. -/
theorem reference_frame [Cert.ReferenceIdeal.Facts] : Cert.quiescent_ReferenceIdeal := fun m g _ =>
  (θ_run _ _ _).mono (fun r h => ⟨fun c => (h c).2.2.2.2.2.2, sem_eq_zero_of_no_sems (by decide) r.2⟩) (Cert.ReferenceIdeal.Value.run (F := Ideal) m g)

/-- Both programs' six results are the real-valued gradients of the gated mixer at the arguments' numbers. -/
theorem values [Cert.Pre_finite.Facts] : Cert.algebraic_KernelIdeal_ReferenceIdeal_pre_finite := by
  intro m g m' g' hpre hagree
  let A := fun c : Dev Cert.KernelIdeal.nD => Cert.Gate.argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
  have H : ∀ c, Cert.KernelIdeal.Gen.Reads m (A c) c := fun c => Cert.Gate.lifts_of _ _ _ _ _ _ (hpre c)
  have H' : ∀ c : Dev Cert.KernelIdeal.nD, Cert.Gate.Lifts (A c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := fun c => by
    rw [(hagree c).1, (hagree c).2.1, (hagree c).2.2.1, (hagree c).2.2.2.1, (hagree c).2.2.2.2.1, (hagree c).2.2.2.2.2]; exact H c
  refine ⟨fun c i => ((A c).dpu (i 0) (i 1) : EReal), fun c i => ((A c).dpv (i 0) (i 1) : EReal), fun c i => ((A c).dws (i 0) (i 1) (i 2) : EReal),
    fun c i => ((A c).dbs (i 0) (i 1) : EReal), fun c i => ((A c).dvg (i 1) : EReal), fun c i => ((A c).dvb (i 1) : EReal),
    (θ_run _ _ _).mono (fun r h c => ?_) (Cert.KernelIdeal.Value.run_blocks (F := Ideal) m g),
    (θ_run _ _ _).mono (fun r h c => ?_) (Cert.ReferenceIdeal.Value.run (F := Ideal) m' g')⟩
  · obtain ⟨h0, h1, h2, h3, h4, h5, ha⟩ := h c
    exact ⟨h0.trans (Cert.KernelIdeal.Gen.out7 (H c)), h1.trans (Cert.KernelIdeal.Gen.out8 (H c)), h2.trans (Cert.KernelIdeal.Gen.out9 (H c)),
      h3.trans (Cert.KernelIdeal.Gen.out10 (H c)), h4.trans (Cert.KernelIdeal.Gen.out11 (H c)), h5.trans (Cert.KernelIdeal.Gen.out12 (H c)), ha⟩
  · obtain ⟨h0, h1, h2, h3, h4, h5, ha⟩ := h c
    exact ⟨(h0.trans (Cert.ReferenceIdeal.Read.val_main_v128_eq m' c)).trans (funext fun i => Cert.Gate.Ref.s128 (H' c) i),
      (h1.trans (Cert.ReferenceIdeal.Read.val_main_v130_eq m' c)).trans (funext fun i => Cert.Gate.Ref.s130 (H' c) i),
      (h2.trans (Cert.ReferenceIdeal.Read.val_main_v79_eq m' c)).trans (funext fun i => Cert.Gate.Ref.s79 (H' c) i),
      (h3.trans (Cert.ReferenceIdeal.Read.val_main_v131_eq _ _)).trans (funext fun i => Cert.Gate.Ref.s131 (H' c) i),
      (h4.trans (Cert.ReferenceIdeal.Read.val_main_v132_eq m' c)).trans (funext fun i => Cert.Gate.Ref.s132 (H' c) i),
      (h5.trans (Cert.ReferenceIdeal.Read.val_main_v133_eq _ _ _)).trans (funext fun i => Cert.Gate.Ref.s133 (H' c) i), ha⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Gate.finite_facts, Cert.Norm.finite_facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, reference2_frame,
  fun m g _ => Cert.Kernel3.Gen.frame m g, fun m g _ => Cert.Kernel3Ideal.Gen.frame m g, reference3_frame,
  frame4, fun m g _ => Cert.Kernel4Ideal.Gen.frame m g, reference4_frame,
  frame5, fun m g _ => Cert.Kernel5Ideal.Gen.frame m g, reference5_frame,
  frame6, fun m g _ => Cert.Kernel6Ideal.Gen.frame m g, reference6_frame,
  frame7, fun m g _ => Cert.Kernel7Ideal.Gen.frame m g, reference7_frame,
  frame8, fun m g _ => Cert.Kernel8Ideal.Gen.frame m g, reference8_frame,
  frame9, fun m g _ => Cert.Kernel9Ideal.Gen.frame m g, reference9_frame,
  frame10, fun m g _ => Cert.Kernel10Ideal.Gen.frame m g, reference10_frame,
  frame11, fun m g _ => Cert.Kernel11Ideal.Gen.frame m g, reference11_frame,
  frame12, fun m g _ => Cert.Kernel12Ideal.Gen.frame m g, reference12_frame,
  frame13, fun m g _ => Cert.Kernel13Ideal.Gen.frame m g, reference13_frame,
  frame14, fun m g _ => Cert.Kernel14Ideal.Gen.frame m g, reference14_frame,
  frame15, fun m g _ => Cert.Kernel15Ideal.Gen.frame m g, reference15_frame,
  frame16, fun m g _ => Cert.Kernel16Ideal.Gen.frame m g, reference16_frame,
  frame17, fun m g _ => Cert.Kernel17Ideal.Gen.frame m g, fun m g _ => Cert.Kernel17Ideal.Gen.frame m g,
  reference17_frame, fun m g _ => reference17_frame m g trivial,
  ⟨IdealRules.named_const.statement Cert.KernelIdeal.κ "sqrt_half" .f32 0x3F3504F3#32 _ rfl, IdealRules.named_const.statement Cert.KernelIdeal.κ "inv_sqrt_2pi" .f32 0x3ECC422A#32 _ rfl⟩,
  @values Cert.Gate.finite_facts,
  trivial, values2,
  trivial, values3,
  trivial, values4,
  trivial, values5,
  trivial, values6,
  trivial, values7,
  trivial, values8,
  trivial, values9,
  trivial, values10,
  trivial, values11,
  trivial, values12,
  trivial, values13,
  trivial, values14,
  trivial, values15,
  trivial, values16,
  trivial, @values17 Cert.Norm.finite_facts⟩

end Cert.Proof

end
